-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_finite : Cert.Pre_sorted_finite.Facts),
    quiescent_Kernel (hKernel := hKernel)
    ∧ quiescent_KernelIdeal (hKernelIdeal := hKernelIdeal)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_sorted_finite.lean ====
abbrev S4000000x2 : Shape := ⟨2, ![4000000, 2]⟩
abbrev S1024x2 : Shape := ⟨2, ![1024, 2]⟩
abbrev S1023x2 : Shape := ⟨2, ![1023, 2]⟩
abbrev S_ : Shape := ⟨0, ![]⟩

class Facts : Prop where
  slices_S1024x2_S1023x2_0_0 : S1024x2.Slices ![0, 0] S1023x2
  slices_S1024x2_S1023x2_1_0 : S1024x2.Slices ![1, 0] S1023x2
  reducesTo_S1023x2_S_d0_1 : S1023x2.ReducesTo [0, 1] S_
  h_S_ : 0 < S_.numel
  bcast_S_S4000000x2 : S_.BroadcastsInDim S4000000x2 (![] : Fin 0 → Fin S4000000x2.rank)
  reducesTo_S4000000x2_S_d0_1 : S4000000x2.ReducesTo [0, 1] S_
  bcast_S_S1023x2 : S_.BroadcastsInDim S1023x2 (![] : Fin 0 → Fin S1023x2.rank)

variable [Facts]

def fn_part1 {F : FTy → Type} [FloatOps F] (main_v13 : IVec S_ 1) (main_v16 : IVec S1023x2 1) (main_c_4 : IVec S_ 1) : IVec S_ 1 :=
  let main_v17 : IVec S_ 1 := (fun x v => Host.reduce IntOp.andi x v reducesTo_S1023x2_S_d0_1 h_S_) main_v16 main_c_4
  let main_v18 : IVec S_ 1 := andi main_v13 main_v17
  main_v18

def fn {F : FTy → Type} [FloatOps F] (main_arg0 : FVec F S4000000x2 .f32) (main_arg1 : FVec F S1024x2 .f32) (main_arg2 : FVec F S1023x2 .f32) (main_arg3 : FVec F S1023x2 .f32) (main_arg4 : FVec F S1023x2 .f32) (main_arg5 : FVec F S1023x2 .f32) : IVec S_ 1 :=
  let main_v0 : FVec F S1023x2 .f32 := (extractStridedSlice S1023x2 ![0, 0] · slices_S1024x2_S1023x2_0_0) main_arg1
  let main_v1 : FVec F S1023x2 .f32 := (extractStridedSlice S1023x2 ![1, 0] · slices_S1024x2_S1023x2_1_0) main_arg1
  let main_v2 : IVec S1023x2 1 := cmpf .ole main_v0 main_v1
  let main_c : IVec S_ 1 := constantI S_ 1 1#1
  let main_v3 : IVec S_ 1 := (fun x v => Host.reduce IntOp.andi x v reducesTo_S1023x2_S_d0_1 h_S_) main_v2 main_c
  let main_v4 : FVec F S4000000x2 .f32 := Host.absf main_arg0
  let main_cst : FVec F S_ .f32 := constant S_ .f32 0x7F800000#32
  let main_v5 : FVec F S4000000x2 .f32 := broadcastInDim S4000000x2 ![] bcast_S_S4000000x2 main_cst
  let main_v6 : IVec S4000000x2 1 := cmpf .olt main_v4 main_v5
  let main_c_0 : IVec S_ 1 := constantI S_ 1 1#1
  let main_v7 : IVec S_ 1 := (fun x v => Host.reduce IntOp.andi x v reducesTo_S4000000x2_S_d0_1 h_S_) main_v6 main_c_0
  let main_v8 : IVec S_ 1 := andi main_v3 main_v7
  let main_v9 : FVec F S1023x2 .f32 := Host.absf main_arg4
  let main_cst_1 : FVec F S_ .f32 := constant S_ .f32 0x7F800000#32
  let main_v10 : FVec F S1023x2 .f32 := broadcastInDim S1023x2 ![] bcast_S_S1023x2 main_cst_1
  let main_v11 : IVec S1023x2 1 := cmpf .olt main_v9 main_v10
  let main_c_2 : IVec S_ 1 := constantI S_ 1 1#1
  let main_v12 : IVec S_ 1 := (fun x v => Host.reduce IntOp.andi x v reducesTo_S1023x2_S_d0_1 h_S_) main_v11 main_c_2
  let main_v13 : IVec S_ 1 := andi main_v8 main_v12
  let main_v14 : FVec F S1023x2 .f32 := Host.absf main_arg5
  let main_cst_3 : FVec F S_ .f32 := constant S_ .f32 0x7F800000#32
  let main_v15 : FVec F S1023x2 .f32 := broadcastInDim S1023x2 ![] bcast_S_S1023x2 main_cst_3
  let main_v16 : IVec S1023x2 1 := cmpf .olt main_v14 main_v15
  let main_c_4 : IVec S_ 1 := constantI S_ 1 1#1
  fn_part1 (F := F) main_v13 main_v16 main_c_4
-- ==== Kernel.lean ====
abbrev S4000000x2 : Shape := ⟨2, ![4000000, 2]⟩
abbrev S1024x2 : Shape := ⟨2, ![1024, 2]⟩
abbrev S1023x2 : Shape := ⟨2, ![1023, 2]⟩
abbrev S2x4000000 : Shape := ⟨2, ![2, 4000000]⟩
abbrev S2x1024 : Shape := ⟨2, ![2, 1024]⟩
abbrev S2x1024x1 : Shape := ⟨3, ![2, 1024, 1]⟩
abbrev S2x1024x16 : Shape := ⟨3, ![2, 1024, 16]⟩
abbrev S32768 : Shape := ⟨1, ![32768]⟩
abbrev S2x1023 : Shape := ⟨2, ![2, 1023]⟩
abbrev S2046 : Shape := ⟨1, ![2046]⟩
abbrev S1x2046 : Shape := ⟨2, ![1, 2046]⟩
abbrev S4x2046 : Shape := ⟨2, ![4, 2046]⟩
abbrev S_ : Shape := ⟨0, ![]⟩
abbrev S4x2048 : Shape := ⟨2, ![4, 2048]⟩
abbrev S1 : Shape := ⟨1, ![1]⟩
abbrev S4x2048x1 : Shape := ⟨3, ![4, 2048, 1]⟩
abbrev S4x2048x8 : Shape := ⟨3, ![4, 2048, 8]⟩
abbrev S65536 : Shape := ⟨1, ![65536]⟩
abbrev S4000000 : Shape := ⟨1, ![4000000]⟩
abbrev S2x2048 : Shape := ⟨2, ![2, 2048]⟩
abbrev S2048 : Shape := ⟨1, ![2048]⟩
abbrev S16 : Shape := ⟨1, ![16]⟩
abbrev S1x16 : Shape := ⟨2, ![1, 16]⟩

abbrev nBuf : Table → Nat
  | .hbm => 33
  | .local .scVector .vmem => 6
  | _ => 0

abbrev bufTy : (tb : Table) → Fin (nBuf tb) → BufTy
  | .hbm, ⟨0, _⟩ => ⟨S4000000x2, .f32⟩
  | .hbm, ⟨1, _⟩ => ⟨S1024x2, .f32⟩
  | .hbm, ⟨2, _⟩ => ⟨S1023x2, .f32⟩
  | .hbm, ⟨3, _⟩ => ⟨S1023x2, .f32⟩
  | .hbm, ⟨4, _⟩ => ⟨S1023x2, .f32⟩
  | .hbm, ⟨5, _⟩ => ⟨S1023x2, .f32⟩
  | .hbm, ⟨6, _⟩ => ⟨S2x4000000, .f32⟩
  | .hbm, ⟨7, _⟩ => ⟨S2x1024, .f32⟩
  | .hbm, ⟨8, _⟩ => ⟨S2x1024x1, .f32⟩
  | .hbm, ⟨9, _⟩ => ⟨S2x1024x16, .f32⟩
  | .hbm, ⟨10, _⟩ => ⟨S32768, .f32⟩
  | .hbm, ⟨11, _⟩ => ⟨S2x1023, .f32⟩
  | .hbm, ⟨12, _⟩ => ⟨S2046, .f32⟩
  | .hbm, ⟨13, _⟩ => ⟨S2x1023, .f32⟩
  | .hbm, ⟨14, _⟩ => ⟨S2046, .f32⟩
  | .hbm, ⟨15, _⟩ => ⟨S2x1023, .f32⟩
  | .hbm, ⟨16, _⟩ => ⟨S2046, .f32⟩
  | .hbm, ⟨17, _⟩ => ⟨S2x1023, .f32⟩
  | .hbm, ⟨18, _⟩ => ⟨S2046, .f32⟩
  | .hbm, ⟨19, _⟩ => ⟨S1x2046, .f32⟩
  | .hbm, ⟨20, _⟩ => ⟨S1x2046, .f32⟩
  | .hbm, ⟨21, _⟩ => ⟨S1x2046, .f32⟩
  | .hbm, ⟨22, _⟩ => ⟨S1x2046, .f32⟩
  | .hbm, ⟨23, _⟩ => ⟨S4x2046, .f32⟩
  | .hbm, ⟨24, _⟩ => ⟨S_, .f32⟩
  | .hbm, ⟨25, _⟩ => ⟨S4x2048, .f32⟩
  | .hbm, ⟨26, _⟩ => ⟨S_, .i32⟩
  | .hbm, ⟨27, _⟩ => ⟨S1, .i32⟩
  | .hbm, ⟨28, _⟩ => ⟨S4x2048, .f32⟩
  | .hbm, ⟨29, _⟩ => ⟨S4x2048x1, .f32⟩
  | .hbm, ⟨30, _⟩ => ⟨S4x2048x8, .f32⟩
  | .hbm, ⟨31, _⟩ => ⟨S65536, .f32⟩
  | .hbm, ⟨32, _⟩ => ⟨S4000000, .f32⟩
  | .local .scVector .vmem, ⟨0, _⟩ => ⟨S32768, .f32⟩
  | .local .scVector .vmem, ⟨1, _⟩ => ⟨S65536, .f32⟩
  | .local .scVector .vmem, ⟨2, _⟩ => ⟨S2x2048, .f32⟩
  | .local .scVector .vmem, ⟨3, _⟩ => ⟨S2x2048, .f32⟩
  | .local .scVector .vmem, ⟨4, _⟩ => ⟨S2048, .f32⟩
  | .local .scVector .vmem, ⟨5, _⟩ => ⟨S2048, .f32⟩
  | _, _ => ⟨S4000000x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v0_scv : Ref sig .scVector := ⟨.hbm, 6, rfl⟩
abbrev main_v4_scv : Ref sig .scVector := ⟨.hbm, 10, rfl⟩
abbrev main_v23_scv : Ref sig .scVector := ⟨.hbm, 31, rfl⟩
abbrev main_v24_scv : Ref sig .scVector := ⟨.hbm, 32, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v11 : IVec S16 32) : Prop :=
  (∀ a x, ((![v11] : Fin 1 → IVec S16 32) a x).toNat < S32768.size a)
theorem k0_idx1_inb : ∀ (v11 : IVec S16 32) (k0_hw1 : k0_chk1 v11), ∀ a x, ((![v11] : Fin 1 → IVec S16 32) a x).toNat < S32768.size a := fun v11 k0_hw1 => k0_hw1

def k0_chk2 (v13 : IVec S16 32) : Prop :=
  (∀ a x, ((![v13] : Fin 1 → IVec S16 32) a x).toNat < S32768.size a)
theorem k0_idx2_inb : ∀ (v13 : IVec S16 32) (k0_hw2 : k0_chk2 v13), ∀ a x, ((![v13] : Fin 1 → IVec S16 32) a x).toNat < S32768.size a := fun v13 k0_hw2 => k0_hw2

def k0_chk3 (v15 : IVec S16 32) : Prop :=
  (∀ a x, ((![v15] : Fin 1 → IVec S16 32) a x).toNat < S32768.size a)
theorem k0_idx3_inb : ∀ (v15 : IVec S16 32) (k0_hw3 : k0_chk3 v15), ∀ a x, ((![v15] : Fin 1 → IVec S16 32) a x).toNat < S32768.size a := fun v15 k0_hw3 => k0_hw3

def k0_chk4 (v17 : IVec S16 32) : Prop :=
  (∀ a x, ((![v17] : Fin 1 → IVec S16 32) a x).toNat < S32768.size a)
theorem k0_idx4_inb : ∀ (v17 : IVec S16 32) (k0_hw4 : k0_chk4 v17), ∀ a x, ((![v17] : Fin 1 → IVec S16 32) a x).toNat < S32768.size a := fun v17 k0_hw4 => k0_hw4

def k0_chk5 (v19 : IVec S16 32) : Prop :=
  (∀ a x, ((![v19] : Fin 1 → IVec S16 32) a x).toNat < S32768.size a)
theorem k0_idx5_inb : ∀ (v19 : IVec S16 32) (k0_hw5 : k0_chk5 v19), ∀ a x, ((![v19] : Fin 1 → IVec S16 32) a x).toNat < S32768.size a := fun v19 k0_hw5 => k0_hw5

def k0_chk6 (v21 : IVec S16 32) : Prop :=
  (∀ a x, ((![v21] : Fin 1 → IVec S16 32) a x).toNat < S32768.size a)
theorem k0_idx6_inb : ∀ (v21 : IVec S16 32) (k0_hw6 : k0_chk6 v21), ∀ a x, ((![v21] : Fin 1 → IVec S16 32) a x).toNat < S32768.size a := fun v21 k0_hw6 => k0_hw6

def k0_chk7 (v23 : IVec S16 32) : Prop :=
  (∀ a x, ((![v23] : Fin 1 → IVec S16 32) a x).toNat < S32768.size a)
theorem k0_idx7_inb : ∀ (v23 : IVec S16 32) (k0_hw7 : k0_chk7 v23), ∀ a x, ((![v23] : Fin 1 → IVec S16 32) a x).toNat < S32768.size a := fun v23 k0_hw7 => k0_hw7

def k0_chk8 (v25 : IVec S16 32) : Prop :=
  (∀ a x, ((![v25] : Fin 1 → IVec S16 32) a x).toNat < S32768.size a)
theorem k0_idx8_inb : ∀ (v25 : IVec S16 32) (k0_hw8 : k0_chk8 v25), ∀ a x, ((![v25] : Fin 1 → IVec S16 32) a x).toNat < S32768.size a := fun v25 k0_hw8 => k0_hw8

def k0_chk9 (v27 : IVec S16 32) : Prop :=
  (∀ a x, ((![v27] : Fin 1 → IVec S16 32) a x).toNat < S32768.size a)
theorem k0_idx9_inb : ∀ (v27 : IVec S16 32) (k0_hw9 : k0_chk9 v27), ∀ a x, ((![v27] : Fin 1 → IVec S16 32) a x).toNat < S32768.size a := fun v27 k0_hw9 => k0_hw9

def k0_chk10 (v29 : IVec S16 32) : Prop :=
  (∀ a x, ((![v29] : Fin 1 → IVec S16 32) a x).toNat < S32768.size a)
theorem k0_idx10_inb : ∀ (v29 : IVec S16 32) (k0_hw10 : k0_chk10 v29), ∀ a x, ((![v29] : Fin 1 → IVec S16 32) a x).toNat < S32768.size a := fun v29 k0_hw10 => k0_hw10

def k0_chk11 (v31 : IVec S16 32) : Prop :=
  (∀ a x, ((![v31] : Fin 1 → IVec S16 32) a x).toNat < S32768.size a)
theorem k0_idx11_inb : ∀ (v31 : IVec S16 32) (k0_hw11 : k0_chk11 v31), ∀ a x, ((![v31] : Fin 1 → IVec S16 32) a x).toNat < S32768.size a := fun v31 k0_hw11 => k0_hw11

def k0_chk12 (v33 : IVec S16 32) : Prop :=
  (∀ a x, ((![v33] : Fin 1 → IVec S16 32) a x).toNat < S32768.size a)
theorem k0_idx12_inb : ∀ (v33 : IVec S16 32) (k0_hw12 : k0_chk12 v33), ∀ a x, ((![v33] : Fin 1 → IVec S16 32) a x).toNat < S32768.size a := fun v33 k0_hw12 => k0_hw12

def k0_chk13 (v35 : IVec S16 32) : Prop :=
  (∀ a x, ((![v35] : Fin 1 → IVec S16 32) a x).toNat < S32768.size a)
theorem k0_idx13_inb : ∀ (v35 : IVec S16 32) (k0_hw13 : k0_chk13 v35), ∀ a x, ((![v35] : Fin 1 → IVec S16 32) a x).toNat < S32768.size a := fun v35 k0_hw13 => k0_hw13

def k0_chk14 (v37 : IVec S16 32) : Prop :=
  (∀ a x, ((![v37] : Fin 1 → IVec S16 32) a x).toNat < S32768.size a)
theorem k0_idx14_inb : ∀ (v37 : IVec S16 32) (k0_hw14 : k0_chk14 v37), ∀ a x, ((![v37] : Fin 1 → IVec S16 32) a x).toNat < S32768.size a := fun v37 k0_hw14 => k0_hw14

def k0_chk15 (v39 : IVec S16 32) : Prop :=
  (∀ a x, ((![v39] : Fin 1 → IVec S16 32) a x).toNat < S32768.size a)
theorem k0_idx15_inb : ∀ (v39 : IVec S16 32) (k0_hw15 : k0_chk15 v39), ∀ a x, ((![v39] : Fin 1 → IVec S16 32) a x).toNat < S32768.size a := fun v39 k0_hw15 => k0_hw15

def k0_chk16 (v41 : IVec S16 32) : Prop :=
  (∀ a x, ((![v41] : Fin 1 → IVec S16 32) a x).toNat < S32768.size a)
theorem k0_idx16_inb : ∀ (v41 : IVec S16 32) (k0_hw16 : k0_chk16 v41), ∀ a x, ((![v41] : Fin 1 → IVec S16 32) a x).toNat < S32768.size a := fun v41 k0_hw16 => k0_hw16

def k0_chk17 (v43 : IVec S16 32) : Prop :=
  (∀ a x, ((![v43] : Fin 1 → IVec S16 32) a x).toNat < S32768.size a)
theorem k0_idx17_inb : ∀ (v43 : IVec S16 32) (k0_hw17 : k0_chk17 v43), ∀ a x, ((![v43] : Fin 1 → IVec S16 32) a x).toNat < S32768.size a := fun v43 k0_hw17 => k0_hw17

def k0_chk18 (v45 : IVec S16 32) : Prop :=
  (∀ a x, ((![v45] : Fin 1 → IVec S16 32) a x).toNat < S32768.size a)
theorem k0_idx18_inb : ∀ (v45 : IVec S16 32) (k0_hw18 : k0_chk18 v45), ∀ a x, ((![v45] : Fin 1 → IVec S16 32) a x).toNat < S32768.size a := fun v45 k0_hw18 => k0_hw18

def k0_chk19 (v47 : IVec S16 32) : Prop :=
  (∀ a x, ((![v47] : Fin 1 → IVec S16 32) a x).toNat < S32768.size a)
theorem k0_idx19_inb : ∀ (v47 : IVec S16 32) (k0_hw19 : k0_chk19 v47), ∀ a x, ((![v47] : Fin 1 → IVec S16 32) a x).toNat < S32768.size a := fun v47 k0_hw19 => k0_hw19

def k0_chk20 (v49 : IVec S16 32) : Prop :=
  (∀ a x, ((![v49] : Fin 1 → IVec S16 32) a x).toNat < S32768.size a)
theorem k0_idx20_inb : ∀ (v49 : IVec S16 32) (k0_hw20 : k0_chk20 v49), ∀ a x, ((![v49] : Fin 1 → IVec S16 32) a x).toNat < S32768.size a := fun v49 k0_hw20 => k0_hw20

def k0_chk21 (v51 : IVec S16 32) : Prop :=
  (∀ a x, ((![v51] : Fin 1 → IVec S16 32) a x).toNat < S32768.size a)
theorem k0_idx21_inb : ∀ (v51 : IVec S16 32) (k0_hw21 : k0_chk21 v51), ∀ a x, ((![v51] : Fin 1 → IVec S16 32) a x).toNat < S32768.size a := fun v51 k0_hw21 => k0_hw21

def k0_chk22 (v53 : IVec S16 32) : Prop :=
  (∀ a x, ((![v53] : Fin 1 → IVec S16 32) a x).toNat < S32768.size a)
theorem k0_idx22_inb : ∀ (v53 : IVec S16 32) (k0_hw22 : k0_chk22 v53), ∀ a x, ((![v53] : Fin 1 → IVec S16 32) a x).toNat < S32768.size a := fun v53 k0_hw22 => k0_hw22

def k0_chk23 (v55 : IVec S16 32) : Prop :=
  (∀ a x, ((![v55] : Fin 1 → IVec S16 32) a x).toNat < S32768.size a)
theorem k0_idx23_inb : ∀ (v55 : IVec S16 32) (k0_hw23 : k0_chk23 v55), ∀ a x, ((![v55] : Fin 1 → IVec S16 32) a x).toNat < S32768.size a := fun v55 k0_hw23 => k0_hw23

def k0_chk24 (v57 : IVec S16 32) : Prop :=
  (∀ a x, ((![v57] : Fin 1 → IVec S16 32) a x).toNat < S32768.size a)
theorem k0_idx24_inb : ∀ (v57 : IVec S16 32) (k0_hw24 : k0_chk24 v57), ∀ a x, ((![v57] : Fin 1 → IVec S16 32) a x).toNat < S32768.size a := fun v57 k0_hw24 => k0_hw24

def k0_chk25 (v59 : IVec S16 32) : Prop :=
  (∀ a x, ((![v59] : Fin 1 → IVec S16 32) a x).toNat < S32768.size a)
theorem k0_idx25_inb : ∀ (v59 : IVec S16 32) (k0_hw25 : k0_chk25 v59), ∀ a x, ((![v59] : Fin 1 → IVec S16 32) a x).toNat < S32768.size a := fun v59 k0_hw25 => k0_hw25

def k0_chk26 (v61 : IVec S16 32) : Prop :=
  (∀ a x, ((![v61] : Fin 1 → IVec S16 32) a x).toNat < S32768.size a)
theorem k0_idx26_inb : ∀ (v61 : IVec S16 32) (k0_hw26 : k0_chk26 v61), ∀ a x, ((![v61] : Fin 1 → IVec S16 32) a x).toNat < S32768.size a := fun v61 k0_hw26 => k0_hw26

def k0_chk27 (v63 : IVec S16 32) : Prop :=
  (∀ a x, ((![v63] : Fin 1 → IVec S16 32) a x).toNat < S32768.size a)
theorem k0_idx27_inb : ∀ (v63 : IVec S16 32) (k0_hw27 : k0_chk27 v63), ∀ a x, ((![v63] : Fin 1 → IVec S16 32) a x).toNat < S32768.size a := fun v63 k0_hw27 => k0_hw27

def k0_chk28 (v65 : IVec S16 32) : Prop :=
  (∀ a x, ((![v65] : Fin 1 → IVec S16 32) a x).toNat < S32768.size a)
theorem k0_idx28_inb : ∀ (v65 : IVec S16 32) (k0_hw28 : k0_chk28 v65), ∀ a x, ((![v65] : Fin 1 → IVec S16 32) a x).toNat < S32768.size a := fun v65 k0_hw28 => k0_hw28

def k0_chk29 (v67 : IVec S16 32) : Prop :=
  (∀ a x, ((![v67] : Fin 1 → IVec S16 32) a x).toNat < S32768.size a)
theorem k0_idx29_inb : ∀ (v67 : IVec S16 32) (k0_hw29 : k0_chk29 v67), ∀ a x, ((![v67] : Fin 1 → IVec S16 32) a x).toNat < S32768.size a := fun v67 k0_hw29 => k0_hw29

def k0_chk30 (v69 : IVec S16 32) : Prop :=
  (∀ a x, ((![v69] : Fin 1 → IVec S16 32) a x).toNat < S32768.size a)
theorem k0_idx30_inb : ∀ (v69 : IVec S16 32) (k0_hw30 : k0_chk30 v69), ∀ a x, ((![v69] : Fin 1 → IVec S16 32) a x).toNat < S32768.size a := fun v69 k0_hw30 => k0_hw30
def k0_off1 (i : grid0.Coords) : Fin 2 → Nat :=
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c976_i32_0 : BitVec 32 := 976#32
  let v5 : BitVec 32 := Scalar.muli v1 c976_i32_0
  let c18_i32_1 : BitVec 32 := 18#32
  let v6 : BitVec 32 := Scalar.minsi v1 c18_i32_1
  let v7 : BitVec 32 := Scalar.addi v5 v6
  let c0_i32_4 : BitVec 32 := 0#32
  let c976_i32 : BitVec 32 := 976#32
  let c18_i32 : BitVec 32 := 18#32
  let v2 : BitVec 1 := Scalar.cmpi .slt v1 c18_i32
  let c1_i32 : BitVec 32 := 1#32
  let c0_i32 : BitVec 32 := 0#32
  let v3 : BitVec 32 := Scalar.select v2 c1_i32 c0_i32
  let v4 : BitVec 32 := Scalar.addi c976_i32 v3
  let c16_i32_3 : BitVec 32 := 16#32
  let v97 : BitVec 32 := Scalar.subi v4 c16_i32_3
  let v98 : BitVec 32 := Scalar.minsi c0_i32_4 v97
  let v99 : BitVec 32 := Scalar.addi v7 v98
  let c128_i32 : BitVec 32 := 128#32
  let v100 : BitVec 32 := Scalar.muli v99 c128_i32
  ![0, v100.toNat]
@[reducible] def k0_t1_loop : Scf.Loop 32 :=
  let c0_i32_8 : BitVec 32 := 0#32
  let c31_i32 : BitVec 32 := 31#32
  let v103 : BitVec 32 := Scalar.addi c0_i32_8 c31_i32
  let c1_i32_9 : BitVec 32 := 1#32
  ⟨c0_i32_8, v103, c1_i32_9⟩
def k0_cond1 (k0_t1 : Fin k0_t1_loop.trips) : BitVec 1 :=
  let c0_i32_8 : BitVec 32 := 0#32
  let c1_i32_9 : BitVec 32 := 1#32
  let arg16 : BitVec 32 := Scf.iv c0_i32_8 c1_i32_9 k0_t1
  let c2_i32_15 : BitVec 32 := 2#32
  let v109 : BitVec 32 := Scalar.muli arg16 c2_i32_15
  let c0_i32_16 : BitVec 32 := 0#32
  let v110 : BitVec 32 := Scalar.addi v109 c0_i32_16
  let c1_i32_17 : BitVec 32 := 1#32
  let v111 : BitVec 32 := Scalar.addi v110 c1_i32_17
  let c62_i32 : BitVec 32 := 62#32
  let v112 : BitVec 1 := Scalar.cmpi .slt v111 c62_i32
  let v113 : BitVec 32 := Scalar.extui v112
  let c0_i32_18 : BitVec 32 := 0#32
  let v114 : BitVec 1 := Scalar.cmpi .ne v113 c0_i32_18
  v114

def k0_off2 (i : grid0.Coords) (k0_t1 : Fin k0_t1_loop.trips) : Fin 2 → Nat :=
  let c0_i32_57 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c976_i32_0 : BitVec 32 := 976#32
  let v5 : BitVec 32 := Scalar.muli v1 c976_i32_0
  let c18_i32_1 : BitVec 32 := 18#32
  let v6 : BitVec 32 := Scalar.minsi v1 c18_i32_1
  let v7 : BitVec 32 := Scalar.addi v5 v6
  let c0_i32_8 : BitVec 32 := 0#32
  let c1_i32_9 : BitVec 32 := 1#32
  let arg16 : BitVec 32 := Scf.iv c0_i32_8 c1_i32_9 k0_t1
  let c2_i32_15 : BitVec 32 := 2#32
  let v109 : BitVec 32 := Scalar.muli arg16 c2_i32_15
  let c0_i32_16 : BitVec 32 := 0#32
  let v110 : BitVec 32 := Scalar.addi v109 c0_i32_16
  let c1_i32_53 : BitVec 32 := 1#32
  let v149 : BitVec 32 := Scalar.addi v110 c1_i32_53
  let c16_i32_54 : BitVec 32 := 16#32
  let v150 : BitVec 32 := Scalar.muli v149 c16_i32_54
  let c976_i32 : BitVec 32 := 976#32
  let c18_i32 : BitVec 32 := 18#32
  let v2 : BitVec 1 := Scalar.cmpi .slt v1 c18_i32
  let c1_i32 : BitVec 32 := 1#32
  let c0_i32 : BitVec 32 := 0#32
  let v3 : BitVec 32 := Scalar.select v2 c1_i32 c0_i32
  let v4 : BitVec 32 := Scalar.addi c976_i32 v3
  let c16_i32_55 : BitVec 32 := 16#32
  let v151 : BitVec 32 := Scalar.subi v4 c16_i32_55
  let v152 : BitVec 32 := Scalar.minsi v150 v151
  let v153 : BitVec 32 := Scalar.addi v7 v152
  let c128_i32_56 : BitVec 32 := 128#32
  let v154 : BitVec 32 := Scalar.muli v153 c128_i32_56
  ![0, v154.toNat]
@[reducible] def k0_t2_loop : Scf.Loop 32 :=
  let c0_i32_26 : BitVec 32 := 0#32
  let c16_i32_27 : BitVec 32 := 16#32
  let v120 : BitVec 32 := Scalar.addi c0_i32_26 c16_i32_27
  let c1_i32_28 : BitVec 32 := 1#32
  ⟨c0_i32_26, v120, c1_i32_28⟩
def k0_off3 (k0_t2 : Fin k0_t2_loop.trips) : Fin 2 → Nat :=
  let c0_i32_56 : BitVec 32 := 0#32
  let v152 : Index := Scalar.indexCast c0_i32_56
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c0_i32_55 : BitVec 32 := 0#32
  let v151 : BitVec 32 := Scalar.addi v149 c0_i32_55
  let v153 : Index := Scalar.indexCast v151
  ![0, v153.toNat]
def k0_off4 (k0_t2 : Fin k0_t2_loop.trips) : Fin 2 → Nat :=
  let c1_i32_58 : BitVec 32 := 1#32
  let v156 : Index := Scalar.indexCast c1_i32_58
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c0_i32_57 : BitVec 32 := 0#32
  let v155 : BitVec 32 := Scalar.addi v149 c0_i32_57
  let v157 : Index := Scalar.indexCast v155
  ![1, v157.toNat]

def k0_chk31 (v191 : IVec S16 32) : Prop :=
  (∀ a x, ((![v191] : Fin 1 → IVec S16 32) a x).toNat < S32768.size a)
theorem k0_idx31_inb : ∀ (v191 : IVec S16 32) (k0_hw31 : k0_chk31 v191), ∀ a x, ((![v191] : Fin 1 → IVec S16 32) a x).toNat < S32768.size a := fun v191 k0_hw31 => k0_hw31

def k0_chk32 (v198 : IVec S16 32) : Prop :=
  (∀ a x, ((![v198] : Fin 1 → IVec S16 32) a x).toNat < S32768.size a)
theorem k0_idx32_inb : ∀ (v198 : IVec S16 32) (k0_hw32 : k0_chk32 v198), ∀ a x, ((![v198] : Fin 1 → IVec S16 32) a x).toNat < S32768.size a := fun v198 k0_hw32 => k0_hw32

def k0_chk33 (v205 : IVec S16 32) : Prop :=
  (∀ a x, ((![v205] : Fin 1 → IVec S16 32) a x).toNat < S32768.size a)
theorem k0_idx33_inb : ∀ (v205 : IVec S16 32) (k0_hw33 : k0_chk33 v205), ∀ a x, ((![v205] : Fin 1 → IVec S16 32) a x).toNat < S32768.size a := fun v205 k0_hw33 => k0_hw33

def k0_chk34 (v212 : IVec S16 32) : Prop :=
  (∀ a x, ((![v212] : Fin 1 → IVec S16 32) a x).toNat < S32768.size a)
theorem k0_idx34_inb : ∀ (v212 : IVec S16 32) (k0_hw34 : k0_chk34 v212), ∀ a x, ((![v212] : Fin 1 → IVec S16 32) a x).toNat < S32768.size a := fun v212 k0_hw34 => k0_hw34

def k0_chk35 (v219 : IVec S16 32) : Prop :=
  (∀ a x, ((![v219] : Fin 1 → IVec S16 32) a x).toNat < S32768.size a)
theorem k0_idx35_inb : ∀ (v219 : IVec S16 32) (k0_hw35 : k0_chk35 v219), ∀ a x, ((![v219] : Fin 1 → IVec S16 32) a x).toNat < S32768.size a := fun v219 k0_hw35 => k0_hw35

def k0_chk36 (v226 : IVec S16 32) : Prop :=
  (∀ a x, ((![v226] : Fin 1 → IVec S16 32) a x).toNat < S32768.size a)
theorem k0_idx36_inb : ∀ (v226 : IVec S16 32) (k0_hw36 : k0_chk36 v226), ∀ a x, ((![v226] : Fin 1 → IVec S16 32) a x).toNat < S32768.size a := fun v226 k0_hw36 => k0_hw36

def k0_chk37 (v239 : IVec S16 32) : Prop :=
  (∀ a x, ((![v239] : Fin 1 → IVec S16 32) a x).toNat < S65536.size a)
theorem k0_idx37_inb : ∀ (v239 : IVec S16 32) (k0_hw37 : k0_chk37 v239), ∀ a x, ((![v239] : Fin 1 → IVec S16 32) a x).toNat < S65536.size a := fun v239 k0_hw37 => k0_hw37

def k0_chk38 (v242 : IVec S16 32) : Prop :=
  (∀ a x, ((![v242] : Fin 1 → IVec S16 32) a x).toNat < S65536.size a)
theorem k0_idx38_inb : ∀ (v242 : IVec S16 32) (k0_hw38 : k0_chk38 v242), ∀ a x, ((![v242] : Fin 1 → IVec S16 32) a x).toNat < S65536.size a := fun v242 k0_hw38 => k0_hw38

def k0_chk39 (v245 : IVec S16 32) : Prop :=
  (∀ a x, ((![v245] : Fin 1 → IVec S16 32) a x).toNat < S65536.size a)
theorem k0_idx39_inb : ∀ (v245 : IVec S16 32) (k0_hw39 : k0_chk39 v245), ∀ a x, ((![v245] : Fin 1 → IVec S16 32) a x).toNat < S65536.size a := fun v245 k0_hw39 => k0_hw39

def k0_chk40 (v248 : IVec S16 32) : Prop :=
  (∀ a x, ((![v248] : Fin 1 → IVec S16 32) a x).toNat < S65536.size a)
theorem k0_idx40_inb : ∀ (v248 : IVec S16 32) (k0_hw40 : k0_chk40 v248), ∀ a x, ((![v248] : Fin 1 → IVec S16 32) a x).toNat < S65536.size a := fun v248 k0_hw40 => k0_hw40

def k0_chk41 (v288 : IVec S16 32) : Prop :=
  (∀ a x, ((![v288] : Fin 1 → IVec S16 32) a x).toNat < S32768.size a)
theorem k0_idx41_inb : ∀ (v288 : IVec S16 32) (k0_hw41 : k0_chk41 v288), ∀ a x, ((![v288] : Fin 1 → IVec S16 32) a x).toNat < S32768.size a := fun v288 k0_hw41 => k0_hw41

def k0_chk42 (v295 : IVec S16 32) : Prop :=
  (∀ a x, ((![v295] : Fin 1 → IVec S16 32) a x).toNat < S32768.size a)
theorem k0_idx42_inb : ∀ (v295 : IVec S16 32) (k0_hw42 : k0_chk42 v295), ∀ a x, ((![v295] : Fin 1 → IVec S16 32) a x).toNat < S32768.size a := fun v295 k0_hw42 => k0_hw42

def k0_chk43 (v302 : IVec S16 32) : Prop :=
  (∀ a x, ((![v302] : Fin 1 → IVec S16 32) a x).toNat < S32768.size a)
theorem k0_idx43_inb : ∀ (v302 : IVec S16 32) (k0_hw43 : k0_chk43 v302), ∀ a x, ((![v302] : Fin 1 → IVec S16 32) a x).toNat < S32768.size a := fun v302 k0_hw43 => k0_hw43

def k0_chk44 (v309 : IVec S16 32) : Prop :=
  (∀ a x, ((![v309] : Fin 1 → IVec S16 32) a x).toNat < S32768.size a)
theorem k0_idx44_inb : ∀ (v309 : IVec S16 32) (k0_hw44 : k0_chk44 v309), ∀ a x, ((![v309] : Fin 1 → IVec S16 32) a x).toNat < S32768.size a := fun v309 k0_hw44 => k0_hw44

def k0_chk45 (v316 : IVec S16 32) : Prop :=
  (∀ a x, ((![v316] : Fin 1 → IVec S16 32) a x).toNat < S32768.size a)
theorem k0_idx45_inb : ∀ (v316 : IVec S16 32) (k0_hw45 : k0_chk45 v316), ∀ a x, ((![v316] : Fin 1 → IVec S16 32) a x).toNat < S32768.size a := fun v316 k0_hw45 => k0_hw45

def k0_chk46 (v323 : IVec S16 32) : Prop :=
  (∀ a x, ((![v323] : Fin 1 → IVec S16 32) a x).toNat < S32768.size a)
theorem k0_idx46_inb : ∀ (v323 : IVec S16 32) (k0_hw46 : k0_chk46 v323), ∀ a x, ((![v323] : Fin 1 → IVec S16 32) a x).toNat < S32768.size a := fun v323 k0_hw46 => k0_hw46

def k0_chk47 (v336 : IVec S16 32) : Prop :=
  (∀ a x, ((![v336] : Fin 1 → IVec S16 32) a x).toNat < S65536.size a)
theorem k0_idx47_inb : ∀ (v336 : IVec S16 32) (k0_hw47 : k0_chk47 v336), ∀ a x, ((![v336] : Fin 1 → IVec S16 32) a x).toNat < S65536.size a := fun v336 k0_hw47 => k0_hw47

def k0_chk48 (v339 : IVec S16 32) : Prop :=
  (∀ a x, ((![v339] : Fin 1 → IVec S16 32) a x).toNat < S65536.size a)
theorem k0_idx48_inb : ∀ (v339 : IVec S16 32) (k0_hw48 : k0_chk48 v339), ∀ a x, ((![v339] : Fin 1 → IVec S16 32) a x).toNat < S65536.size a := fun v339 k0_hw48 => k0_hw48

def k0_chk49 (v342 : IVec S16 32) : Prop :=
  (∀ a x, ((![v342] : Fin 1 → IVec S16 32) a x).toNat < S65536.size a)
theorem k0_idx49_inb : ∀ (v342 : IVec S16 32) (k0_hw49 : k0_chk49 v342), ∀ a x, ((![v342] : Fin 1 → IVec S16 32) a x).toNat < S65536.size a := fun v342 k0_hw49 => k0_hw49

def k0_chk50 (v345 : IVec S16 32) : Prop :=
  (∀ a x, ((![v345] : Fin 1 → IVec S16 32) a x).toNat < S65536.size a)
theorem k0_idx50_inb : ∀ (v345 : IVec S16 32) (k0_hw50 : k0_chk50 v345), ∀ a x, ((![v345] : Fin 1 → IVec S16 32) a x).toNat < S65536.size a := fun v345 k0_hw50 => k0_hw50
def k0_off5 (k0_t2 : Fin k0_t2_loop.trips) : Fin 1 → Nat :=
  let c0_i32_26 : BitVec 32 := 0#32
  let c1_i32_28 : BitVec 32 := 1#32
  let arg18 : BitVec 32 := Scf.iv c0_i32_26 c1_i32_28 k0_t2
  let c128_i32_54 : BitVec 32 := 128#32
  let v150 : BitVec 32 := Scalar.muli arg18 c128_i32_54
  let c0_i32_103 : BitVec 32 := 0#32
  let v354 : BitVec 32 := Scalar.addi v150 c0_i32_103
  let v355 : Index := Scalar.indexCast v354
  ![v355.toNat]
def k0_off6 (k0_t2 : Fin k0_t2_loop.trips) : Fin 2 → Nat :=
  let c0_i32_105 : BitVec 32 := 0#32
  let v358 : Index := Scalar.indexCast c0_i32_105
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c16_i32_104 : BitVec 32 := 16#32
  let v357 : BitVec 32 := Scalar.addi v149 c16_i32_104
  let v359 : Index := Scalar.indexCast v357
  ![0, v359.toNat]
def k0_off7 (k0_t2 : Fin k0_t2_loop.trips) : Fin 2 → Nat :=
  let c1_i32_107 : BitVec 32 := 1#32
  let v362 : Index := Scalar.indexCast c1_i32_107
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c16_i32_106 : BitVec 32 := 16#32
  let v361 : BitVec 32 := Scalar.addi v149 c16_i32_106
  let v363 : Index := Scalar.indexCast v361
  ![1, v363.toNat]

def k0_chk51 (v397 : IVec S16 32) : Prop :=
  (∀ a x, ((![v397] : Fin 1 → IVec S16 32) a x).toNat < S32768.size a)
theorem k0_idx51_inb : ∀ (v397 : IVec S16 32) (k0_hw51 : k0_chk51 v397), ∀ a x, ((![v397] : Fin 1 → IVec S16 32) a x).toNat < S32768.size a := fun v397 k0_hw51 => k0_hw51

def k0_chk52 (v404 : IVec S16 32) : Prop :=
  (∀ a x, ((![v404] : Fin 1 → IVec S16 32) a x).toNat < S32768.size a)
theorem k0_idx52_inb : ∀ (v404 : IVec S16 32) (k0_hw52 : k0_chk52 v404), ∀ a x, ((![v404] : Fin 1 → IVec S16 32) a x).toNat < S32768.size a := fun v404 k0_hw52 => k0_hw52

def k0_chk53 (v411 : IVec S16 32) : Prop :=
  (∀ a x, ((![v411] : Fin 1 → IVec S16 32) a x).toNat < S32768.size a)
theorem k0_idx53_inb : ∀ (v411 : IVec S16 32) (k0_hw53 : k0_chk53 v411), ∀ a x, ((![v411] : Fin 1 → IVec S16 32) a x).toNat < S32768.size a := fun v411 k0_hw53 => k0_hw53

def k0_chk54 (v418 : IVec S16 32) : Prop :=
  (∀ a x, ((![v418] : Fin 1 → IVec S16 32) a x).toNat < S32768.size a)
theorem k0_idx54_inb : ∀ (v418 : IVec S16 32) (k0_hw54 : k0_chk54 v418), ∀ a x, ((![v418] : Fin 1 → IVec S16 32) a x).toNat < S32768.size a := fun v418 k0_hw54 => k0_hw54

def k0_chk55 (v425 : IVec S16 32) : Prop :=
  (∀ a x, ((![v425] : Fin 1 → IVec S16 32) a x).toNat < S32768.size a)
theorem k0_idx55_inb : ∀ (v425 : IVec S16 32) (k0_hw55 : k0_chk55 v425), ∀ a x, ((![v425] : Fin 1 → IVec S16 32) a x).toNat < S32768.size a := fun v425 k0_hw55 => k0_hw55

def k0_chk56 (v432 : IVec S16 32) : Prop :=
  (∀ a x, ((![v432] : Fin 1 → IVec S16 32) a x).toNat < S32768.size a)
theorem k0_idx56_inb : ∀ (v432 : IVec S16 32) (k0_hw56 : k0_chk56 v432), ∀ a x, ((![v432] : Fin 1 → IVec S16 32) a x).toNat < S32768.size a := fun v432 k0_hw56 => k0_hw56

def k0_chk57 (v445 : IVec S16 32) : Prop :=
  (∀ a x, ((![v445] : Fin 1 → IVec S16 32) a x).toNat < S65536.size a)
theorem k0_idx57_inb : ∀ (v445 : IVec S16 32) (k0_hw57 : k0_chk57 v445), ∀ a x, ((![v445] : Fin 1 → IVec S16 32) a x).toNat < S65536.size a := fun v445 k0_hw57 => k0_hw57

def k0_chk58 (v448 : IVec S16 32) : Prop :=
  (∀ a x, ((![v448] : Fin 1 → IVec S16 32) a x).toNat < S65536.size a)
theorem k0_idx58_inb : ∀ (v448 : IVec S16 32) (k0_hw58 : k0_chk58 v448), ∀ a x, ((![v448] : Fin 1 → IVec S16 32) a x).toNat < S65536.size a := fun v448 k0_hw58 => k0_hw58

def k0_chk59 (v451 : IVec S16 32) : Prop :=
  (∀ a x, ((![v451] : Fin 1 → IVec S16 32) a x).toNat < S65536.size a)
theorem k0_idx59_inb : ∀ (v451 : IVec S16 32) (k0_hw59 : k0_chk59 v451), ∀ a x, ((![v451] : Fin 1 → IVec S16 32) a x).toNat < S65536.size a := fun v451 k0_hw59 => k0_hw59

def k0_chk60 (v454 : IVec S16 32) : Prop :=
  (∀ a x, ((![v454] : Fin 1 → IVec S16 32) a x).toNat < S65536.size a)
theorem k0_idx60_inb : ∀ (v454 : IVec S16 32) (k0_hw60 : k0_chk60 v454), ∀ a x, ((![v454] : Fin 1 → IVec S16 32) a x).toNat < S65536.size a := fun v454 k0_hw60 => k0_hw60

def k0_chk61 (v494 : IVec S16 32) : Prop :=
  (∀ a x, ((![v494] : Fin 1 → IVec S16 32) a x).toNat < S32768.size a)
theorem k0_idx61_inb : ∀ (v494 : IVec S16 32) (k0_hw61 : k0_chk61 v494), ∀ a x, ((![v494] : Fin 1 → IVec S16 32) a x).toNat < S32768.size a := fun v494 k0_hw61 => k0_hw61

def k0_chk62 (v501 : IVec S16 32) : Prop :=
  (∀ a x, ((![v501] : Fin 1 → IVec S16 32) a x).toNat < S32768.size a)
theorem k0_idx62_inb : ∀ (v501 : IVec S16 32) (k0_hw62 : k0_chk62 v501), ∀ a x, ((![v501] : Fin 1 → IVec S16 32) a x).toNat < S32768.size a := fun v501 k0_hw62 => k0_hw62

def k0_chk63 (v508 : IVec S16 32) : Prop :=
  (∀ a x, ((![v508] : Fin 1 → IVec S16 32) a x).toNat < S32768.size a)
theorem k0_idx63_inb : ∀ (v508 : IVec S16 32) (k0_hw63 : k0_chk63 v508), ∀ a x, ((![v508] : Fin 1 → IVec S16 32) a x).toNat < S32768.size a := fun v508 k0_hw63 => k0_hw63

def k0_chk64 (v515 : IVec S16 32) : Prop :=
  (∀ a x, ((![v515] : Fin 1 → IVec S16 32) a x).toNat < S32768.size a)
theorem k0_idx64_inb : ∀ (v515 : IVec S16 32) (k0_hw64 : k0_chk64 v515), ∀ a x, ((![v515] : Fin 1 → IVec S16 32) a x).toNat < S32768.size a := fun v515 k0_hw64 => k0_hw64

def k0_chk65 (v522 : IVec S16 32) : Prop :=
  (∀ a x, ((![v522] : Fin 1 → IVec S16 32) a x).toNat < S32768.size a)
theorem k0_idx65_inb : ∀ (v522 : IVec S16 32) (k0_hw65 : k0_chk65 v522), ∀ a x, ((![v522] : Fin 1 → IVec S16 32) a x).toNat < S32768.size a := fun v522 k0_hw65 => k0_hw65

def k0_chk66 (v529 : IVec S16 32) : Prop :=
  (∀ a x, ((![v529] : Fin 1 → IVec S16 32) a x).toNat < S32768.size a)
theorem k0_idx66_inb : ∀ (v529 : IVec S16 32) (k0_hw66 : k0_chk66 v529), ∀ a x, ((![v529] : Fin 1 → IVec S16 32) a x).toNat < S32768.size a := fun v529 k0_hw66 => k0_hw66

def k0_chk67 (v542 : IVec S16 32) : Prop :=
  (∀ a x, ((![v542] : Fin 1 → IVec S16 32) a x).toNat < S65536.size a)
theorem k0_idx67_inb : ∀ (v542 : IVec S16 32) (k0_hw67 : k0_chk67 v542), ∀ a x, ((![v542] : Fin 1 → IVec S16 32) a x).toNat < S65536.size a := fun v542 k0_hw67 => k0_hw67

def k0_chk68 (v545 : IVec S16 32) : Prop :=
  (∀ a x, ((![v545] : Fin 1 → IVec S16 32) a x).toNat < S65536.size a)
theorem k0_idx68_inb : ∀ (v545 : IVec S16 32) (k0_hw68 : k0_chk68 v545), ∀ a x, ((![v545] : Fin 1 → IVec S16 32) a x).toNat < S65536.size a := fun v545 k0_hw68 => k0_hw68

def k0_chk69 (v548 : IVec S16 32) : Prop :=
  (∀ a x, ((![v548] : Fin 1 → IVec S16 32) a x).toNat < S65536.size a)
theorem k0_idx69_inb : ∀ (v548 : IVec S16 32) (k0_hw69 : k0_chk69 v548), ∀ a x, ((![v548] : Fin 1 → IVec S16 32) a x).toNat < S65536.size a := fun v548 k0_hw69 => k0_hw69

def k0_chk70 (v551 : IVec S16 32) : Prop :=
  (∀ a x, ((![v551] : Fin 1 → IVec S16 32) a x).toNat < S65536.size a)
theorem k0_idx70_inb : ∀ (v551 : IVec S16 32) (k0_hw70 : k0_chk70 v551), ∀ a x, ((![v551] : Fin 1 → IVec S16 32) a x).toNat < S65536.size a := fun v551 k0_hw70 => k0_hw70
def k0_off8 (k0_t2 : Fin k0_t2_loop.trips) : Fin 1 → Nat :=
  let c0_i32_26 : BitVec 32 := 0#32
  let c1_i32_28 : BitVec 32 := 1#32
  let arg18 : BitVec 32 := Scf.iv c0_i32_26 c1_i32_28 k0_t2
  let c128_i32_54 : BitVec 32 := 128#32
  let v150 : BitVec 32 := Scalar.muli arg18 c128_i32_54
  let c16_i32_162 : BitVec 32 := 16#32
  let v560 : BitVec 32 := Scalar.addi v150 c16_i32_162
  let v561 : Index := Scalar.indexCast v560
  ![v561.toNat]
def k0_off9 (k0_t2 : Fin k0_t2_loop.trips) : Fin 2 → Nat :=
  let c0_i32_164 : BitVec 32 := 0#32
  let v564 : Index := Scalar.indexCast c0_i32_164
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c32_i32_163 : BitVec 32 := 32#32
  let v563 : BitVec 32 := Scalar.addi v149 c32_i32_163
  let v565 : Index := Scalar.indexCast v563
  ![0, v565.toNat]
def k0_off10 (k0_t2 : Fin k0_t2_loop.trips) : Fin 2 → Nat :=
  let c1_i32_166 : BitVec 32 := 1#32
  let v568 : Index := Scalar.indexCast c1_i32_166
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c32_i32_165 : BitVec 32 := 32#32
  let v567 : BitVec 32 := Scalar.addi v149 c32_i32_165
  let v569 : Index := Scalar.indexCast v567
  ![1, v569.toNat]

def k0_chk71 (v603 : IVec S16 32) : Prop :=
  (∀ a x, ((![v603] : Fin 1 → IVec S16 32) a x).toNat < S32768.size a)
theorem k0_idx71_inb : ∀ (v603 : IVec S16 32) (k0_hw71 : k0_chk71 v603), ∀ a x, ((![v603] : Fin 1 → IVec S16 32) a x).toNat < S32768.size a := fun v603 k0_hw71 => k0_hw71

def k0_chk72 (v610 : IVec S16 32) : Prop :=
  (∀ a x, ((![v610] : Fin 1 → IVec S16 32) a x).toNat < S32768.size a)
theorem k0_idx72_inb : ∀ (v610 : IVec S16 32) (k0_hw72 : k0_chk72 v610), ∀ a x, ((![v610] : Fin 1 → IVec S16 32) a x).toNat < S32768.size a := fun v610 k0_hw72 => k0_hw72

def k0_chk73 (v617 : IVec S16 32) : Prop :=
  (∀ a x, ((![v617] : Fin 1 → IVec S16 32) a x).toNat < S32768.size a)
theorem k0_idx73_inb : ∀ (v617 : IVec S16 32) (k0_hw73 : k0_chk73 v617), ∀ a x, ((![v617] : Fin 1 → IVec S16 32) a x).toNat < S32768.size a := fun v617 k0_hw73 => k0_hw73

def k0_chk74 (v624 : IVec S16 32) : Prop :=
  (∀ a x, ((![v624] : Fin 1 → IVec S16 32) a x).toNat < S32768.size a)
theorem k0_idx74_inb : ∀ (v624 : IVec S16 32) (k0_hw74 : k0_chk74 v624), ∀ a x, ((![v624] : Fin 1 → IVec S16 32) a x).toNat < S32768.size a := fun v624 k0_hw74 => k0_hw74

def k0_chk75 (v631 : IVec S16 32) : Prop :=
  (∀ a x, ((![v631] : Fin 1 → IVec S16 32) a x).toNat < S32768.size a)
theorem k0_idx75_inb : ∀ (v631 : IVec S16 32) (k0_hw75 : k0_chk75 v631), ∀ a x, ((![v631] : Fin 1 → IVec S16 32) a x).toNat < S32768.size a := fun v631 k0_hw75 => k0_hw75

def k0_chk76 (v638 : IVec S16 32) : Prop :=
  (∀ a x, ((![v638] : Fin 1 → IVec S16 32) a x).toNat < S32768.size a)
theorem k0_idx76_inb : ∀ (v638 : IVec S16 32) (k0_hw76 : k0_chk76 v638), ∀ a x, ((![v638] : Fin 1 → IVec S16 32) a x).toNat < S32768.size a := fun v638 k0_hw76 => k0_hw76

def k0_chk77 (v651 : IVec S16 32) : Prop :=
  (∀ a x, ((![v651] : Fin 1 → IVec S16 32) a x).toNat < S65536.size a)
theorem k0_idx77_inb : ∀ (v651 : IVec S16 32) (k0_hw77 : k0_chk77 v651), ∀ a x, ((![v651] : Fin 1 → IVec S16 32) a x).toNat < S65536.size a := fun v651 k0_hw77 => k0_hw77

def k0_chk78 (v654 : IVec S16 32) : Prop :=
  (∀ a x, ((![v654] : Fin 1 → IVec S16 32) a x).toNat < S65536.size a)
theorem k0_idx78_inb : ∀ (v654 : IVec S16 32) (k0_hw78 : k0_chk78 v654), ∀ a x, ((![v654] : Fin 1 → IVec S16 32) a x).toNat < S65536.size a := fun v654 k0_hw78 => k0_hw78

def k0_chk79 (v657 : IVec S16 32) : Prop :=
  (∀ a x, ((![v657] : Fin 1 → IVec S16 32) a x).toNat < S65536.size a)
theorem k0_idx79_inb : ∀ (v657 : IVec S16 32) (k0_hw79 : k0_chk79 v657), ∀ a x, ((![v657] : Fin 1 → IVec S16 32) a x).toNat < S65536.size a := fun v657 k0_hw79 => k0_hw79

def k0_chk80 (v660 : IVec S16 32) : Prop :=
  (∀ a x, ((![v660] : Fin 1 → IVec S16 32) a x).toNat < S65536.size a)
theorem k0_idx80_inb : ∀ (v660 : IVec S16 32) (k0_hw80 : k0_chk80 v660), ∀ a x, ((![v660] : Fin 1 → IVec S16 32) a x).toNat < S65536.size a := fun v660 k0_hw80 => k0_hw80

def k0_chk81 (v700 : IVec S16 32) : Prop :=
  (∀ a x, ((![v700] : Fin 1 → IVec S16 32) a x).toNat < S32768.size a)
theorem k0_idx81_inb : ∀ (v700 : IVec S16 32) (k0_hw81 : k0_chk81 v700), ∀ a x, ((![v700] : Fin 1 → IVec S16 32) a x).toNat < S32768.size a := fun v700 k0_hw81 => k0_hw81

def k0_chk82 (v707 : IVec S16 32) : Prop :=
  (∀ a x, ((![v707] : Fin 1 → IVec S16 32) a x).toNat < S32768.size a)
theorem k0_idx82_inb : ∀ (v707 : IVec S16 32) (k0_hw82 : k0_chk82 v707), ∀ a x, ((![v707] : Fin 1 → IVec S16 32) a x).toNat < S32768.size a := fun v707 k0_hw82 => k0_hw82

def k0_chk83 (v714 : IVec S16 32) : Prop :=
  (∀ a x, ((![v714] : Fin 1 → IVec S16 32) a x).toNat < S32768.size a)
theorem k0_idx83_inb : ∀ (v714 : IVec S16 32) (k0_hw83 : k0_chk83 v714), ∀ a x, ((![v714] : Fin 1 → IVec S16 32) a x).toNat < S32768.size a := fun v714 k0_hw83 => k0_hw83

def k0_chk84 (v721 : IVec S16 32) : Prop :=
  (∀ a x, ((![v721] : Fin 1 → IVec S16 32) a x).toNat < S32768.size a)
theorem k0_idx84_inb : ∀ (v721 : IVec S16 32) (k0_hw84 : k0_chk84 v721), ∀ a x, ((![v721] : Fin 1 → IVec S16 32) a x).toNat < S32768.size a := fun v721 k0_hw84 => k0_hw84

def k0_chk85 (v728 : IVec S16 32) : Prop :=
  (∀ a x, ((![v728] : Fin 1 → IVec S16 32) a x).toNat < S32768.size a)
theorem k0_idx85_inb : ∀ (v728 : IVec S16 32) (k0_hw85 : k0_chk85 v728), ∀ a x, ((![v728] : Fin 1 → IVec S16 32) a x).toNat < S32768.size a := fun v728 k0_hw85 => k0_hw85

def k0_chk86 (v735 : IVec S16 32) : Prop :=
  (∀ a x, ((![v735] : Fin 1 → IVec S16 32) a x).toNat < S32768.size a)
theorem k0_idx86_inb : ∀ (v735 : IVec S16 32) (k0_hw86 : k0_chk86 v735), ∀ a x, ((![v735] : Fin 1 → IVec S16 32) a x).toNat < S32768.size a := fun v735 k0_hw86 => k0_hw86

def k0_chk87 (v748 : IVec S16 32) : Prop :=
  (∀ a x, ((![v748] : Fin 1 → IVec S16 32) a x).toNat < S65536.size a)
theorem k0_idx87_inb : ∀ (v748 : IVec S16 32) (k0_hw87 : k0_chk87 v748), ∀ a x, ((![v748] : Fin 1 → IVec S16 32) a x).toNat < S65536.size a := fun v748 k0_hw87 => k0_hw87

def k0_chk88 (v751 : IVec S16 32) : Prop :=
  (∀ a x, ((![v751] : Fin 1 → IVec S16 32) a x).toNat < S65536.size a)
theorem k0_idx88_inb : ∀ (v751 : IVec S16 32) (k0_hw88 : k0_chk88 v751), ∀ a x, ((![v751] : Fin 1 → IVec S16 32) a x).toNat < S65536.size a := fun v751 k0_hw88 => k0_hw88

def k0_chk89 (v754 : IVec S16 32) : Prop :=
  (∀ a x, ((![v754] : Fin 1 → IVec S16 32) a x).toNat < S65536.size a)
theorem k0_idx89_inb : ∀ (v754 : IVec S16 32) (k0_hw89 : k0_chk89 v754), ∀ a x, ((![v754] : Fin 1 → IVec S16 32) a x).toNat < S65536.size a := fun v754 k0_hw89 => k0_hw89

def k0_chk90 (v757 : IVec S16 32) : Prop :=
  (∀ a x, ((![v757] : Fin 1 → IVec S16 32) a x).toNat < S65536.size a)
theorem k0_idx90_inb : ∀ (v757 : IVec S16 32) (k0_hw90 : k0_chk90 v757), ∀ a x, ((![v757] : Fin 1 → IVec S16 32) a x).toNat < S65536.size a := fun v757 k0_hw90 => k0_hw90
def k0_off11 (k0_t2 : Fin k0_t2_loop.trips) : Fin 1 → Nat :=
  let c0_i32_26 : BitVec 32 := 0#32
  let c1_i32_28 : BitVec 32 := 1#32
  let arg18 : BitVec 32 := Scf.iv c0_i32_26 c1_i32_28 k0_t2
  let c128_i32_54 : BitVec 32 := 128#32
  let v150 : BitVec 32 := Scalar.muli arg18 c128_i32_54
  let c32_i32_221 : BitVec 32 := 32#32
  let v766 : BitVec 32 := Scalar.addi v150 c32_i32_221
  let v767 : Index := Scalar.indexCast v766
  ![v767.toNat]
def k0_off12 (k0_t2 : Fin k0_t2_loop.trips) : Fin 2 → Nat :=
  let c0_i32_223 : BitVec 32 := 0#32
  let v770 : Index := Scalar.indexCast c0_i32_223
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c48_i32_222 : BitVec 32 := 48#32
  let v769 : BitVec 32 := Scalar.addi v149 c48_i32_222
  let v771 : Index := Scalar.indexCast v769
  ![0, v771.toNat]
def k0_off13 (k0_t2 : Fin k0_t2_loop.trips) : Fin 2 → Nat :=
  let c1_i32_225 : BitVec 32 := 1#32
  let v774 : Index := Scalar.indexCast c1_i32_225
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c48_i32_224 : BitVec 32 := 48#32
  let v773 : BitVec 32 := Scalar.addi v149 c48_i32_224
  let v775 : Index := Scalar.indexCast v773
  ![1, v775.toNat]

def k0_chk91 (v809 : IVec S16 32) : Prop :=
  (∀ a x, ((![v809] : Fin 1 → IVec S16 32) a x).toNat < S32768.size a)
theorem k0_idx91_inb : ∀ (v809 : IVec S16 32) (k0_hw91 : k0_chk91 v809), ∀ a x, ((![v809] : Fin 1 → IVec S16 32) a x).toNat < S32768.size a := fun v809 k0_hw91 => k0_hw91

def k0_chk92 (v816 : IVec S16 32) : Prop :=
  (∀ a x, ((![v816] : Fin 1 → IVec S16 32) a x).toNat < S32768.size a)
theorem k0_idx92_inb : ∀ (v816 : IVec S16 32) (k0_hw92 : k0_chk92 v816), ∀ a x, ((![v816] : Fin 1 → IVec S16 32) a x).toNat < S32768.size a := fun v816 k0_hw92 => k0_hw92

def k0_chk93 (v823 : IVec S16 32) : Prop :=
  (∀ a x, ((![v823] : Fin 1 → IVec S16 32) a x).toNat < S32768.size a)
theorem k0_idx93_inb : ∀ (v823 : IVec S16 32) (k0_hw93 : k0_chk93 v823), ∀ a x, ((![v823] : Fin 1 → IVec S16 32) a x).toNat < S32768.size a := fun v823 k0_hw93 => k0_hw93

def k0_chk94 (v830 : IVec S16 32) : Prop :=
  (∀ a x, ((![v830] : Fin 1 → IVec S16 32) a x).toNat < S32768.size a)
theorem k0_idx94_inb : ∀ (v830 : IVec S16 32) (k0_hw94 : k0_chk94 v830), ∀ a x, ((![v830] : Fin 1 → IVec S16 32) a x).toNat < S32768.size a := fun v830 k0_hw94 => k0_hw94

def k0_chk95 (v837 : IVec S16 32) : Prop :=
  (∀ a x, ((![v837] : Fin 1 → IVec S16 32) a x).toNat < S32768.size a)
theorem k0_idx95_inb : ∀ (v837 : IVec S16 32) (k0_hw95 : k0_chk95 v837), ∀ a x, ((![v837] : Fin 1 → IVec S16 32) a x).toNat < S32768.size a := fun v837 k0_hw95 => k0_hw95

def k0_chk96 (v844 : IVec S16 32) : Prop :=
  (∀ a x, ((![v844] : Fin 1 → IVec S16 32) a x).toNat < S32768.size a)
theorem k0_idx96_inb : ∀ (v844 : IVec S16 32) (k0_hw96 : k0_chk96 v844), ∀ a x, ((![v844] : Fin 1 → IVec S16 32) a x).toNat < S32768.size a := fun v844 k0_hw96 => k0_hw96

def k0_chk97 (v857 : IVec S16 32) : Prop :=
  (∀ a x, ((![v857] : Fin 1 → IVec S16 32) a x).toNat < S65536.size a)
theorem k0_idx97_inb : ∀ (v857 : IVec S16 32) (k0_hw97 : k0_chk97 v857), ∀ a x, ((![v857] : Fin 1 → IVec S16 32) a x).toNat < S65536.size a := fun v857 k0_hw97 => k0_hw97

def k0_chk98 (v860 : IVec S16 32) : Prop :=
  (∀ a x, ((![v860] : Fin 1 → IVec S16 32) a x).toNat < S65536.size a)
theorem k0_idx98_inb : ∀ (v860 : IVec S16 32) (k0_hw98 : k0_chk98 v860), ∀ a x, ((![v860] : Fin 1 → IVec S16 32) a x).toNat < S65536.size a := fun v860 k0_hw98 => k0_hw98

def k0_chk99 (v863 : IVec S16 32) : Prop :=
  (∀ a x, ((![v863] : Fin 1 → IVec S16 32) a x).toNat < S65536.size a)
theorem k0_idx99_inb : ∀ (v863 : IVec S16 32) (k0_hw99 : k0_chk99 v863), ∀ a x, ((![v863] : Fin 1 → IVec S16 32) a x).toNat < S65536.size a := fun v863 k0_hw99 => k0_hw99

def k0_chk100 (v866 : IVec S16 32) : Prop :=
  (∀ a x, ((![v866] : Fin 1 → IVec S16 32) a x).toNat < S65536.size a)
theorem k0_idx100_inb : ∀ (v866 : IVec S16 32) (k0_hw100 : k0_chk100 v866), ∀ a x, ((![v866] : Fin 1 → IVec S16 32) a x).toNat < S65536.size a := fun v866 k0_hw100 => k0_hw100

def k0_chk101 (v906 : IVec S16 32) : Prop :=
  (∀ a x, ((![v906] : Fin 1 → IVec S16 32) a x).toNat < S32768.size a)
theorem k0_idx101_inb : ∀ (v906 : IVec S16 32) (k0_hw101 : k0_chk101 v906), ∀ a x, ((![v906] : Fin 1 → IVec S16 32) a x).toNat < S32768.size a := fun v906 k0_hw101 => k0_hw101

def k0_chk102 (v913 : IVec S16 32) : Prop :=
  (∀ a x, ((![v913] : Fin 1 → IVec S16 32) a x).toNat < S32768.size a)
theorem k0_idx102_inb : ∀ (v913 : IVec S16 32) (k0_hw102 : k0_chk102 v913), ∀ a x, ((![v913] : Fin 1 → IVec S16 32) a x).toNat < S32768.size a := fun v913 k0_hw102 => k0_hw102

def k0_chk103 (v920 : IVec S16 32) : Prop :=
  (∀ a x, ((![v920] : Fin 1 → IVec S16 32) a x).toNat < S32768.size a)
theorem k0_idx103_inb : ∀ (v920 : IVec S16 32) (k0_hw103 : k0_chk103 v920), ∀ a x, ((![v920] : Fin 1 → IVec S16 32) a x).toNat < S32768.size a := fun v920 k0_hw103 => k0_hw103

def k0_chk104 (v927 : IVec S16 32) : Prop :=
  (∀ a x, ((![v927] : Fin 1 → IVec S16 32) a x).toNat < S32768.size a)
theorem k0_idx104_inb : ∀ (v927 : IVec S16 32) (k0_hw104 : k0_chk104 v927), ∀ a x, ((![v927] : Fin 1 → IVec S16 32) a x).toNat < S32768.size a := fun v927 k0_hw104 => k0_hw104

def k0_chk105 (v934 : IVec S16 32) : Prop :=
  (∀ a x, ((![v934] : Fin 1 → IVec S16 32) a x).toNat < S32768.size a)
theorem k0_idx105_inb : ∀ (v934 : IVec S16 32) (k0_hw105 : k0_chk105 v934), ∀ a x, ((![v934] : Fin 1 → IVec S16 32) a x).toNat < S32768.size a := fun v934 k0_hw105 => k0_hw105

def k0_chk106 (v941 : IVec S16 32) : Prop :=
  (∀ a x, ((![v941] : Fin 1 → IVec S16 32) a x).toNat < S32768.size a)
theorem k0_idx106_inb : ∀ (v941 : IVec S16 32) (k0_hw106 : k0_chk106 v941), ∀ a x, ((![v941] : Fin 1 → IVec S16 32) a x).toNat < S32768.size a := fun v941 k0_hw106 => k0_hw106

def k0_chk107 (v954 : IVec S16 32) : Prop :=
  (∀ a x, ((![v954] : Fin 1 → IVec S16 32) a x).toNat < S65536.size a)
theorem k0_idx107_inb : ∀ (v954 : IVec S16 32) (k0_hw107 : k0_chk107 v954), ∀ a x, ((![v954] : Fin 1 → IVec S16 32) a x).toNat < S65536.size a := fun v954 k0_hw107 => k0_hw107

def k0_chk108 (v957 : IVec S16 32) : Prop :=
  (∀ a x, ((![v957] : Fin 1 → IVec S16 32) a x).toNat < S65536.size a)
theorem k0_idx108_inb : ∀ (v957 : IVec S16 32) (k0_hw108 : k0_chk108 v957), ∀ a x, ((![v957] : Fin 1 → IVec S16 32) a x).toNat < S65536.size a := fun v957 k0_hw108 => k0_hw108

def k0_chk109 (v960 : IVec S16 32) : Prop :=
  (∀ a x, ((![v960] : Fin 1 → IVec S16 32) a x).toNat < S65536.size a)
theorem k0_idx109_inb : ∀ (v960 : IVec S16 32) (k0_hw109 : k0_chk109 v960), ∀ a x, ((![v960] : Fin 1 → IVec S16 32) a x).toNat < S65536.size a := fun v960 k0_hw109 => k0_hw109

def k0_chk110 (v963 : IVec S16 32) : Prop :=
  (∀ a x, ((![v963] : Fin 1 → IVec S16 32) a x).toNat < S65536.size a)
theorem k0_idx110_inb : ∀ (v963 : IVec S16 32) (k0_hw110 : k0_chk110 v963), ∀ a x, ((![v963] : Fin 1 → IVec S16 32) a x).toNat < S65536.size a := fun v963 k0_hw110 => k0_hw110
def k0_off14 (k0_t2 : Fin k0_t2_loop.trips) : Fin 1 → Nat :=
  let c0_i32_26 : BitVec 32 := 0#32
  let c1_i32_28 : BitVec 32 := 1#32
  let arg18 : BitVec 32 := Scf.iv c0_i32_26 c1_i32_28 k0_t2
  let c128_i32_54 : BitVec 32 := 128#32
  let v150 : BitVec 32 := Scalar.muli arg18 c128_i32_54
  let c48_i32_280 : BitVec 32 := 48#32
  let v972 : BitVec 32 := Scalar.addi v150 c48_i32_280
  let v973 : Index := Scalar.indexCast v972
  ![v973.toNat]
def k0_off15 (k0_t2 : Fin k0_t2_loop.trips) : Fin 2 → Nat :=
  let c0_i32_282 : BitVec 32 := 0#32
  let v976 : Index := Scalar.indexCast c0_i32_282
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c64_i32_281 : BitVec 32 := 64#32
  let v975 : BitVec 32 := Scalar.addi v149 c64_i32_281
  let v977 : Index := Scalar.indexCast v975
  ![0, v977.toNat]
def k0_off16 (k0_t2 : Fin k0_t2_loop.trips) : Fin 2 → Nat :=
  let c1_i32_284 : BitVec 32 := 1#32
  let v980 : Index := Scalar.indexCast c1_i32_284
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c64_i32_283 : BitVec 32 := 64#32
  let v979 : BitVec 32 := Scalar.addi v149 c64_i32_283
  let v981 : Index := Scalar.indexCast v979
  ![1, v981.toNat]

def k0_chk111 (v1015 : IVec S16 32) : Prop :=
  (∀ a x, ((![v1015] : Fin 1 → IVec S16 32) a x).toNat < S32768.size a)
theorem k0_idx111_inb : ∀ (v1015 : IVec S16 32) (k0_hw111 : k0_chk111 v1015), ∀ a x, ((![v1015] : Fin 1 → IVec S16 32) a x).toNat < S32768.size a := fun v1015 k0_hw111 => k0_hw111

def k0_chk112 (v1022 : IVec S16 32) : Prop :=
  (∀ a x, ((![v1022] : Fin 1 → IVec S16 32) a x).toNat < S32768.size a)
theorem k0_idx112_inb : ∀ (v1022 : IVec S16 32) (k0_hw112 : k0_chk112 v1022), ∀ a x, ((![v1022] : Fin 1 → IVec S16 32) a x).toNat < S32768.size a := fun v1022 k0_hw112 => k0_hw112

def k0_chk113 (v1029 : IVec S16 32) : Prop :=
  (∀ a x, ((![v1029] : Fin 1 → IVec S16 32) a x).toNat < S32768.size a)
theorem k0_idx113_inb : ∀ (v1029 : IVec S16 32) (k0_hw113 : k0_chk113 v1029), ∀ a x, ((![v1029] : Fin 1 → IVec S16 32) a x).toNat < S32768.size a := fun v1029 k0_hw113 => k0_hw113

def k0_chk114 (v1036 : IVec S16 32) : Prop :=
  (∀ a x, ((![v1036] : Fin 1 → IVec S16 32) a x).toNat < S32768.size a)
theorem k0_idx114_inb : ∀ (v1036 : IVec S16 32) (k0_hw114 : k0_chk114 v1036), ∀ a x, ((![v1036] : Fin 1 → IVec S16 32) a x).toNat < S32768.size a := fun v1036 k0_hw114 => k0_hw114

def k0_chk115 (v1043 : IVec S16 32) : Prop :=
  (∀ a x, ((![v1043] : Fin 1 → IVec S16 32) a x).toNat < S32768.size a)
theorem k0_idx115_inb : ∀ (v1043 : IVec S16 32) (k0_hw115 : k0_chk115 v1043), ∀ a x, ((![v1043] : Fin 1 → IVec S16 32) a x).toNat < S32768.size a := fun v1043 k0_hw115 => k0_hw115

def k0_chk116 (v1050 : IVec S16 32) : Prop :=
  (∀ a x, ((![v1050] : Fin 1 → IVec S16 32) a x).toNat < S32768.size a)
theorem k0_idx116_inb : ∀ (v1050 : IVec S16 32) (k0_hw116 : k0_chk116 v1050), ∀ a x, ((![v1050] : Fin 1 → IVec S16 32) a x).toNat < S32768.size a := fun v1050 k0_hw116 => k0_hw116

def k0_chk117 (v1063 : IVec S16 32) : Prop :=
  (∀ a x, ((![v1063] : Fin 1 → IVec S16 32) a x).toNat < S65536.size a)
theorem k0_idx117_inb : ∀ (v1063 : IVec S16 32) (k0_hw117 : k0_chk117 v1063), ∀ a x, ((![v1063] : Fin 1 → IVec S16 32) a x).toNat < S65536.size a := fun v1063 k0_hw117 => k0_hw117

def k0_chk118 (v1066 : IVec S16 32) : Prop :=
  (∀ a x, ((![v1066] : Fin 1 → IVec S16 32) a x).toNat < S65536.size a)
theorem k0_idx118_inb : ∀ (v1066 : IVec S16 32) (k0_hw118 : k0_chk118 v1066), ∀ a x, ((![v1066] : Fin 1 → IVec S16 32) a x).toNat < S65536.size a := fun v1066 k0_hw118 => k0_hw118

def k0_chk119 (v1069 : IVec S16 32) : Prop :=
  (∀ a x, ((![v1069] : Fin 1 → IVec S16 32) a x).toNat < S65536.size a)
theorem k0_idx119_inb : ∀ (v1069 : IVec S16 32) (k0_hw119 : k0_chk119 v1069), ∀ a x, ((![v1069] : Fin 1 → IVec S16 32) a x).toNat < S65536.size a := fun v1069 k0_hw119 => k0_hw119

def k0_chk120 (v1072 : IVec S16 32) : Prop :=
  (∀ a x, ((![v1072] : Fin 1 → IVec S16 32) a x).toNat < S65536.size a)
theorem k0_idx120_inb : ∀ (v1072 : IVec S16 32) (k0_hw120 : k0_chk120 v1072), ∀ a x, ((![v1072] : Fin 1 → IVec S16 32) a x).toNat < S65536.size a := fun v1072 k0_hw120 => k0_hw120

def k0_chk121 (v1112 : IVec S16 32) : Prop :=
  (∀ a x, ((![v1112] : Fin 1 → IVec S16 32) a x).toNat < S32768.size a)
theorem k0_idx121_inb : ∀ (v1112 : IVec S16 32) (k0_hw121 : k0_chk121 v1112), ∀ a x, ((![v1112] : Fin 1 → IVec S16 32) a x).toNat < S32768.size a := fun v1112 k0_hw121 => k0_hw121

def k0_chk122 (v1119 : IVec S16 32) : Prop :=
  (∀ a x, ((![v1119] : Fin 1 → IVec S16 32) a x).toNat < S32768.size a)
theorem k0_idx122_inb : ∀ (v1119 : IVec S16 32) (k0_hw122 : k0_chk122 v1119), ∀ a x, ((![v1119] : Fin 1 → IVec S16 32) a x).toNat < S32768.size a := fun v1119 k0_hw122 => k0_hw122

def k0_chk123 (v1126 : IVec S16 32) : Prop :=
  (∀ a x, ((![v1126] : Fin 1 → IVec S16 32) a x).toNat < S32768.size a)
theorem k0_idx123_inb : ∀ (v1126 : IVec S16 32) (k0_hw123 : k0_chk123 v1126), ∀ a x, ((![v1126] : Fin 1 → IVec S16 32) a x).toNat < S32768.size a := fun v1126 k0_hw123 => k0_hw123

def k0_chk124 (v1133 : IVec S16 32) : Prop :=
  (∀ a x, ((![v1133] : Fin 1 → IVec S16 32) a x).toNat < S32768.size a)
theorem k0_idx124_inb : ∀ (v1133 : IVec S16 32) (k0_hw124 : k0_chk124 v1133), ∀ a x, ((![v1133] : Fin 1 → IVec S16 32) a x).toNat < S32768.size a := fun v1133 k0_hw124 => k0_hw124

def k0_chk125 (v1140 : IVec S16 32) : Prop :=
  (∀ a x, ((![v1140] : Fin 1 → IVec S16 32) a x).toNat < S32768.size a)
theorem k0_idx125_inb : ∀ (v1140 : IVec S16 32) (k0_hw125 : k0_chk125 v1140), ∀ a x, ((![v1140] : Fin 1 → IVec S16 32) a x).toNat < S32768.size a := fun v1140 k0_hw125 => k0_hw125

def k0_chk126 (v1147 : IVec S16 32) : Prop :=
  (∀ a x, ((![v1147] : Fin 1 → IVec S16 32) a x).toNat < S32768.size a)
theorem k0_idx126_inb : ∀ (v1147 : IVec S16 32) (k0_hw126 : k0_chk126 v1147), ∀ a x, ((![v1147] : Fin 1 → IVec S16 32) a x).toNat < S32768.size a := fun v1147 k0_hw126 => k0_hw126

def k0_chk127 (v1160 : IVec S16 32) : Prop :=
  (∀ a x, ((![v1160] : Fin 1 → IVec S16 32) a x).toNat < S65536.size a)
theorem k0_idx127_inb : ∀ (v1160 : IVec S16 32) (k0_hw127 : k0_chk127 v1160), ∀ a x, ((![v1160] : Fin 1 → IVec S16 32) a x).toNat < S65536.size a := fun v1160 k0_hw127 => k0_hw127

def k0_chk128 (v1163 : IVec S16 32) : Prop :=
  (∀ a x, ((![v1163] : Fin 1 → IVec S16 32) a x).toNat < S65536.size a)
theorem k0_idx128_inb : ∀ (v1163 : IVec S16 32) (k0_hw128 : k0_chk128 v1163), ∀ a x, ((![v1163] : Fin 1 → IVec S16 32) a x).toNat < S65536.size a := fun v1163 k0_hw128 => k0_hw128

def k0_chk129 (v1166 : IVec S16 32) : Prop :=
  (∀ a x, ((![v1166] : Fin 1 → IVec S16 32) a x).toNat < S65536.size a)
theorem k0_idx129_inb : ∀ (v1166 : IVec S16 32) (k0_hw129 : k0_chk129 v1166), ∀ a x, ((![v1166] : Fin 1 → IVec S16 32) a x).toNat < S65536.size a := fun v1166 k0_hw129 => k0_hw129

def k0_chk130 (v1169 : IVec S16 32) : Prop :=
  (∀ a x, ((![v1169] : Fin 1 → IVec S16 32) a x).toNat < S65536.size a)
theorem k0_idx130_inb : ∀ (v1169 : IVec S16 32) (k0_hw130 : k0_chk130 v1169), ∀ a x, ((![v1169] : Fin 1 → IVec S16 32) a x).toNat < S65536.size a := fun v1169 k0_hw130 => k0_hw130
def k0_off17 (k0_t2 : Fin k0_t2_loop.trips) : Fin 1 → Nat :=
  let c0_i32_26 : BitVec 32 := 0#32
  let c1_i32_28 : BitVec 32 := 1#32
  let arg18 : BitVec 32 := Scf.iv c0_i32_26 c1_i32_28 k0_t2
  let c128_i32_54 : BitVec 32 := 128#32
  let v150 : BitVec 32 := Scalar.muli arg18 c128_i32_54
  let c64_i32_339 : BitVec 32 := 64#32
  let v1178 : BitVec 32 := Scalar.addi v150 c64_i32_339
  let v1179 : Index := Scalar.indexCast v1178
  ![v1179.toNat]
def k0_off18 (k0_t2 : Fin k0_t2_loop.trips) : Fin 2 → Nat :=
  let c0_i32_340 : BitVec 32 := 0#32
  let v1182 : Index := Scalar.indexCast c0_i32_340
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c80_i32 : BitVec 32 := 80#32
  let v1181 : BitVec 32 := Scalar.addi v149 c80_i32
  let v1183 : Index := Scalar.indexCast v1181
  ![0, v1183.toNat]
def k0_off19 (k0_t2 : Fin k0_t2_loop.trips) : Fin 2 → Nat :=
  let c1_i32_342 : BitVec 32 := 1#32
  let v1186 : Index := Scalar.indexCast c1_i32_342
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c80_i32_341 : BitVec 32 := 80#32
  let v1185 : BitVec 32 := Scalar.addi v149 c80_i32_341
  let v1187 : Index := Scalar.indexCast v1185
  ![1, v1187.toNat]

def k0_chk131 (v1221 : IVec S16 32) : Prop :=
  (∀ a x, ((![v1221] : Fin 1 → IVec S16 32) a x).toNat < S32768.size a)
theorem k0_idx131_inb : ∀ (v1221 : IVec S16 32) (k0_hw131 : k0_chk131 v1221), ∀ a x, ((![v1221] : Fin 1 → IVec S16 32) a x).toNat < S32768.size a := fun v1221 k0_hw131 => k0_hw131

def k0_chk132 (v1228 : IVec S16 32) : Prop :=
  (∀ a x, ((![v1228] : Fin 1 → IVec S16 32) a x).toNat < S32768.size a)
theorem k0_idx132_inb : ∀ (v1228 : IVec S16 32) (k0_hw132 : k0_chk132 v1228), ∀ a x, ((![v1228] : Fin 1 → IVec S16 32) a x).toNat < S32768.size a := fun v1228 k0_hw132 => k0_hw132

def k0_chk133 (v1235 : IVec S16 32) : Prop :=
  (∀ a x, ((![v1235] : Fin 1 → IVec S16 32) a x).toNat < S32768.size a)
theorem k0_idx133_inb : ∀ (v1235 : IVec S16 32) (k0_hw133 : k0_chk133 v1235), ∀ a x, ((![v1235] : Fin 1 → IVec S16 32) a x).toNat < S32768.size a := fun v1235 k0_hw133 => k0_hw133

def k0_chk134 (v1242 : IVec S16 32) : Prop :=
  (∀ a x, ((![v1242] : Fin 1 → IVec S16 32) a x).toNat < S32768.size a)
theorem k0_idx134_inb : ∀ (v1242 : IVec S16 32) (k0_hw134 : k0_chk134 v1242), ∀ a x, ((![v1242] : Fin 1 → IVec S16 32) a x).toNat < S32768.size a := fun v1242 k0_hw134 => k0_hw134

def k0_chk135 (v1249 : IVec S16 32) : Prop :=
  (∀ a x, ((![v1249] : Fin 1 → IVec S16 32) a x).toNat < S32768.size a)
theorem k0_idx135_inb : ∀ (v1249 : IVec S16 32) (k0_hw135 : k0_chk135 v1249), ∀ a x, ((![v1249] : Fin 1 → IVec S16 32) a x).toNat < S32768.size a := fun v1249 k0_hw135 => k0_hw135

def k0_chk136 (v1256 : IVec S16 32) : Prop :=
  (∀ a x, ((![v1256] : Fin 1 → IVec S16 32) a x).toNat < S32768.size a)
theorem k0_idx136_inb : ∀ (v1256 : IVec S16 32) (k0_hw136 : k0_chk136 v1256), ∀ a x, ((![v1256] : Fin 1 → IVec S16 32) a x).toNat < S32768.size a := fun v1256 k0_hw136 => k0_hw136

def k0_chk137 (v1269 : IVec S16 32) : Prop :=
  (∀ a x, ((![v1269] : Fin 1 → IVec S16 32) a x).toNat < S65536.size a)
theorem k0_idx137_inb : ∀ (v1269 : IVec S16 32) (k0_hw137 : k0_chk137 v1269), ∀ a x, ((![v1269] : Fin 1 → IVec S16 32) a x).toNat < S65536.size a := fun v1269 k0_hw137 => k0_hw137

def k0_chk138 (v1272 : IVec S16 32) : Prop :=
  (∀ a x, ((![v1272] : Fin 1 → IVec S16 32) a x).toNat < S65536.size a)
theorem k0_idx138_inb : ∀ (v1272 : IVec S16 32) (k0_hw138 : k0_chk138 v1272), ∀ a x, ((![v1272] : Fin 1 → IVec S16 32) a x).toNat < S65536.size a := fun v1272 k0_hw138 => k0_hw138

def k0_chk139 (v1275 : IVec S16 32) : Prop :=
  (∀ a x, ((![v1275] : Fin 1 → IVec S16 32) a x).toNat < S65536.size a)
theorem k0_idx139_inb : ∀ (v1275 : IVec S16 32) (k0_hw139 : k0_chk139 v1275), ∀ a x, ((![v1275] : Fin 1 → IVec S16 32) a x).toNat < S65536.size a := fun v1275 k0_hw139 => k0_hw139

def k0_chk140 (v1278 : IVec S16 32) : Prop :=
  (∀ a x, ((![v1278] : Fin 1 → IVec S16 32) a x).toNat < S65536.size a)
theorem k0_idx140_inb : ∀ (v1278 : IVec S16 32) (k0_hw140 : k0_chk140 v1278), ∀ a x, ((![v1278] : Fin 1 → IVec S16 32) a x).toNat < S65536.size a := fun v1278 k0_hw140 => k0_hw140

def k0_chk141 (v1318 : IVec S16 32) : Prop :=
  (∀ a x, ((![v1318] : Fin 1 → IVec S16 32) a x).toNat < S32768.size a)
theorem k0_idx141_inb : ∀ (v1318 : IVec S16 32) (k0_hw141 : k0_chk141 v1318), ∀ a x, ((![v1318] : Fin 1 → IVec S16 32) a x).toNat < S32768.size a := fun v1318 k0_hw141 => k0_hw141

def k0_chk142 (v1325 : IVec S16 32) : Prop :=
  (∀ a x, ((![v1325] : Fin 1 → IVec S16 32) a x).toNat < S32768.size a)
theorem k0_idx142_inb : ∀ (v1325 : IVec S16 32) (k0_hw142 : k0_chk142 v1325), ∀ a x, ((![v1325] : Fin 1 → IVec S16 32) a x).toNat < S32768.size a := fun v1325 k0_hw142 => k0_hw142

def k0_chk143 (v1332 : IVec S16 32) : Prop :=
  (∀ a x, ((![v1332] : Fin 1 → IVec S16 32) a x).toNat < S32768.size a)
theorem k0_idx143_inb : ∀ (v1332 : IVec S16 32) (k0_hw143 : k0_chk143 v1332), ∀ a x, ((![v1332] : Fin 1 → IVec S16 32) a x).toNat < S32768.size a := fun v1332 k0_hw143 => k0_hw143

def k0_chk144 (v1339 : IVec S16 32) : Prop :=
  (∀ a x, ((![v1339] : Fin 1 → IVec S16 32) a x).toNat < S32768.size a)
theorem k0_idx144_inb : ∀ (v1339 : IVec S16 32) (k0_hw144 : k0_chk144 v1339), ∀ a x, ((![v1339] : Fin 1 → IVec S16 32) a x).toNat < S32768.size a := fun v1339 k0_hw144 => k0_hw144

def k0_chk145 (v1346 : IVec S16 32) : Prop :=
  (∀ a x, ((![v1346] : Fin 1 → IVec S16 32) a x).toNat < S32768.size a)
theorem k0_idx145_inb : ∀ (v1346 : IVec S16 32) (k0_hw145 : k0_chk145 v1346), ∀ a x, ((![v1346] : Fin 1 → IVec S16 32) a x).toNat < S32768.size a := fun v1346 k0_hw145 => k0_hw145

def k0_chk146 (v1353 : IVec S16 32) : Prop :=
  (∀ a x, ((![v1353] : Fin 1 → IVec S16 32) a x).toNat < S32768.size a)
theorem k0_idx146_inb : ∀ (v1353 : IVec S16 32) (k0_hw146 : k0_chk146 v1353), ∀ a x, ((![v1353] : Fin 1 → IVec S16 32) a x).toNat < S32768.size a := fun v1353 k0_hw146 => k0_hw146

def k0_chk147 (v1366 : IVec S16 32) : Prop :=
  (∀ a x, ((![v1366] : Fin 1 → IVec S16 32) a x).toNat < S65536.size a)
theorem k0_idx147_inb : ∀ (v1366 : IVec S16 32) (k0_hw147 : k0_chk147 v1366), ∀ a x, ((![v1366] : Fin 1 → IVec S16 32) a x).toNat < S65536.size a := fun v1366 k0_hw147 => k0_hw147

def k0_chk148 (v1369 : IVec S16 32) : Prop :=
  (∀ a x, ((![v1369] : Fin 1 → IVec S16 32) a x).toNat < S65536.size a)
theorem k0_idx148_inb : ∀ (v1369 : IVec S16 32) (k0_hw148 : k0_chk148 v1369), ∀ a x, ((![v1369] : Fin 1 → IVec S16 32) a x).toNat < S65536.size a := fun v1369 k0_hw148 => k0_hw148

def k0_chk149 (v1372 : IVec S16 32) : Prop :=
  (∀ a x, ((![v1372] : Fin 1 → IVec S16 32) a x).toNat < S65536.size a)
theorem k0_idx149_inb : ∀ (v1372 : IVec S16 32) (k0_hw149 : k0_chk149 v1372), ∀ a x, ((![v1372] : Fin 1 → IVec S16 32) a x).toNat < S65536.size a := fun v1372 k0_hw149 => k0_hw149

def k0_chk150 (v1375 : IVec S16 32) : Prop :=
  (∀ a x, ((![v1375] : Fin 1 → IVec S16 32) a x).toNat < S65536.size a)
theorem k0_idx150_inb : ∀ (v1375 : IVec S16 32) (k0_hw150 : k0_chk150 v1375), ∀ a x, ((![v1375] : Fin 1 → IVec S16 32) a x).toNat < S65536.size a := fun v1375 k0_hw150 => k0_hw150
def k0_off20 (k0_t2 : Fin k0_t2_loop.trips) : Fin 1 → Nat :=
  let c0_i32_26 : BitVec 32 := 0#32
  let c1_i32_28 : BitVec 32 := 1#32
  let arg18 : BitVec 32 := Scf.iv c0_i32_26 c1_i32_28 k0_t2
  let c128_i32_54 : BitVec 32 := 128#32
  let v150 : BitVec 32 := Scalar.muli arg18 c128_i32_54
  let c80_i32_397 : BitVec 32 := 80#32
  let v1384 : BitVec 32 := Scalar.addi v150 c80_i32_397
  let v1385 : Index := Scalar.indexCast v1384
  ![v1385.toNat]
def k0_off21 (k0_t2 : Fin k0_t2_loop.trips) : Fin 2 → Nat :=
  let c0_i32_398 : BitVec 32 := 0#32
  let v1388 : Index := Scalar.indexCast c0_i32_398
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c96_i32 : BitVec 32 := 96#32
  let v1387 : BitVec 32 := Scalar.addi v149 c96_i32
  let v1389 : Index := Scalar.indexCast v1387
  ![0, v1389.toNat]
def k0_off22 (k0_t2 : Fin k0_t2_loop.trips) : Fin 2 → Nat :=
  let c1_i32_400 : BitVec 32 := 1#32
  let v1392 : Index := Scalar.indexCast c1_i32_400
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c96_i32_399 : BitVec 32 := 96#32
  let v1391 : BitVec 32 := Scalar.addi v149 c96_i32_399
  let v1393 : Index := Scalar.indexCast v1391
  ![1, v1393.toNat]

def k0_chk151 (v1427 : IVec S16 32) : Prop :=
  (∀ a x, ((![v1427] : Fin 1 → IVec S16 32) a x).toNat < S32768.size a)
theorem k0_idx151_inb : ∀ (v1427 : IVec S16 32) (k0_hw151 : k0_chk151 v1427), ∀ a x, ((![v1427] : Fin 1 → IVec S16 32) a x).toNat < S32768.size a := fun v1427 k0_hw151 => k0_hw151

def k0_chk152 (v1434 : IVec S16 32) : Prop :=
  (∀ a x, ((![v1434] : Fin 1 → IVec S16 32) a x).toNat < S32768.size a)
theorem k0_idx152_inb : ∀ (v1434 : IVec S16 32) (k0_hw152 : k0_chk152 v1434), ∀ a x, ((![v1434] : Fin 1 → IVec S16 32) a x).toNat < S32768.size a := fun v1434 k0_hw152 => k0_hw152

def k0_chk153 (v1441 : IVec S16 32) : Prop :=
  (∀ a x, ((![v1441] : Fin 1 → IVec S16 32) a x).toNat < S32768.size a)
theorem k0_idx153_inb : ∀ (v1441 : IVec S16 32) (k0_hw153 : k0_chk153 v1441), ∀ a x, ((![v1441] : Fin 1 → IVec S16 32) a x).toNat < S32768.size a := fun v1441 k0_hw153 => k0_hw153

def k0_chk154 (v1448 : IVec S16 32) : Prop :=
  (∀ a x, ((![v1448] : Fin 1 → IVec S16 32) a x).toNat < S32768.size a)
theorem k0_idx154_inb : ∀ (v1448 : IVec S16 32) (k0_hw154 : k0_chk154 v1448), ∀ a x, ((![v1448] : Fin 1 → IVec S16 32) a x).toNat < S32768.size a := fun v1448 k0_hw154 => k0_hw154

def k0_chk155 (v1455 : IVec S16 32) : Prop :=
  (∀ a x, ((![v1455] : Fin 1 → IVec S16 32) a x).toNat < S32768.size a)
theorem k0_idx155_inb : ∀ (v1455 : IVec S16 32) (k0_hw155 : k0_chk155 v1455), ∀ a x, ((![v1455] : Fin 1 → IVec S16 32) a x).toNat < S32768.size a := fun v1455 k0_hw155 => k0_hw155

def k0_chk156 (v1462 : IVec S16 32) : Prop :=
  (∀ a x, ((![v1462] : Fin 1 → IVec S16 32) a x).toNat < S32768.size a)
theorem k0_idx156_inb : ∀ (v1462 : IVec S16 32) (k0_hw156 : k0_chk156 v1462), ∀ a x, ((![v1462] : Fin 1 → IVec S16 32) a x).toNat < S32768.size a := fun v1462 k0_hw156 => k0_hw156

def k0_chk157 (v1475 : IVec S16 32) : Prop :=
  (∀ a x, ((![v1475] : Fin 1 → IVec S16 32) a x).toNat < S65536.size a)
theorem k0_idx157_inb : ∀ (v1475 : IVec S16 32) (k0_hw157 : k0_chk157 v1475), ∀ a x, ((![v1475] : Fin 1 → IVec S16 32) a x).toNat < S65536.size a := fun v1475 k0_hw157 => k0_hw157

def k0_chk158 (v1478 : IVec S16 32) : Prop :=
  (∀ a x, ((![v1478] : Fin 1 → IVec S16 32) a x).toNat < S65536.size a)
theorem k0_idx158_inb : ∀ (v1478 : IVec S16 32) (k0_hw158 : k0_chk158 v1478), ∀ a x, ((![v1478] : Fin 1 → IVec S16 32) a x).toNat < S65536.size a := fun v1478 k0_hw158 => k0_hw158

def k0_chk159 (v1481 : IVec S16 32) : Prop :=
  (∀ a x, ((![v1481] : Fin 1 → IVec S16 32) a x).toNat < S65536.size a)
theorem k0_idx159_inb : ∀ (v1481 : IVec S16 32) (k0_hw159 : k0_chk159 v1481), ∀ a x, ((![v1481] : Fin 1 → IVec S16 32) a x).toNat < S65536.size a := fun v1481 k0_hw159 => k0_hw159

def k0_chk160 (v1484 : IVec S16 32) : Prop :=
  (∀ a x, ((![v1484] : Fin 1 → IVec S16 32) a x).toNat < S65536.size a)
theorem k0_idx160_inb : ∀ (v1484 : IVec S16 32) (k0_hw160 : k0_chk160 v1484), ∀ a x, ((![v1484] : Fin 1 → IVec S16 32) a x).toNat < S65536.size a := fun v1484 k0_hw160 => k0_hw160

def k0_chk161 (v1524 : IVec S16 32) : Prop :=
  (∀ a x, ((![v1524] : Fin 1 → IVec S16 32) a x).toNat < S32768.size a)
theorem k0_idx161_inb : ∀ (v1524 : IVec S16 32) (k0_hw161 : k0_chk161 v1524), ∀ a x, ((![v1524] : Fin 1 → IVec S16 32) a x).toNat < S32768.size a := fun v1524 k0_hw161 => k0_hw161

def k0_chk162 (v1531 : IVec S16 32) : Prop :=
  (∀ a x, ((![v1531] : Fin 1 → IVec S16 32) a x).toNat < S32768.size a)
theorem k0_idx162_inb : ∀ (v1531 : IVec S16 32) (k0_hw162 : k0_chk162 v1531), ∀ a x, ((![v1531] : Fin 1 → IVec S16 32) a x).toNat < S32768.size a := fun v1531 k0_hw162 => k0_hw162

def k0_chk163 (v1538 : IVec S16 32) : Prop :=
  (∀ a x, ((![v1538] : Fin 1 → IVec S16 32) a x).toNat < S32768.size a)
theorem k0_idx163_inb : ∀ (v1538 : IVec S16 32) (k0_hw163 : k0_chk163 v1538), ∀ a x, ((![v1538] : Fin 1 → IVec S16 32) a x).toNat < S32768.size a := fun v1538 k0_hw163 => k0_hw163

def k0_chk164 (v1545 : IVec S16 32) : Prop :=
  (∀ a x, ((![v1545] : Fin 1 → IVec S16 32) a x).toNat < S32768.size a)
theorem k0_idx164_inb : ∀ (v1545 : IVec S16 32) (k0_hw164 : k0_chk164 v1545), ∀ a x, ((![v1545] : Fin 1 → IVec S16 32) a x).toNat < S32768.size a := fun v1545 k0_hw164 => k0_hw164

def k0_chk165 (v1552 : IVec S16 32) : Prop :=
  (∀ a x, ((![v1552] : Fin 1 → IVec S16 32) a x).toNat < S32768.size a)
theorem k0_idx165_inb : ∀ (v1552 : IVec S16 32) (k0_hw165 : k0_chk165 v1552), ∀ a x, ((![v1552] : Fin 1 → IVec S16 32) a x).toNat < S32768.size a := fun v1552 k0_hw165 => k0_hw165

def k0_chk166 (v1559 : IVec S16 32) : Prop :=
  (∀ a x, ((![v1559] : Fin 1 → IVec S16 32) a x).toNat < S32768.size a)
theorem k0_idx166_inb : ∀ (v1559 : IVec S16 32) (k0_hw166 : k0_chk166 v1559), ∀ a x, ((![v1559] : Fin 1 → IVec S16 32) a x).toNat < S32768.size a := fun v1559 k0_hw166 => k0_hw166

def k0_chk167 (v1572 : IVec S16 32) : Prop :=
  (∀ a x, ((![v1572] : Fin 1 → IVec S16 32) a x).toNat < S65536.size a)
theorem k0_idx167_inb : ∀ (v1572 : IVec S16 32) (k0_hw167 : k0_chk167 v1572), ∀ a x, ((![v1572] : Fin 1 → IVec S16 32) a x).toNat < S65536.size a := fun v1572 k0_hw167 => k0_hw167

def k0_chk168 (v1575 : IVec S16 32) : Prop :=
  (∀ a x, ((![v1575] : Fin 1 → IVec S16 32) a x).toNat < S65536.size a)
theorem k0_idx168_inb : ∀ (v1575 : IVec S16 32) (k0_hw168 : k0_chk168 v1575), ∀ a x, ((![v1575] : Fin 1 → IVec S16 32) a x).toNat < S65536.size a := fun v1575 k0_hw168 => k0_hw168

def k0_chk169 (v1578 : IVec S16 32) : Prop :=
  (∀ a x, ((![v1578] : Fin 1 → IVec S16 32) a x).toNat < S65536.size a)
theorem k0_idx169_inb : ∀ (v1578 : IVec S16 32) (k0_hw169 : k0_chk169 v1578), ∀ a x, ((![v1578] : Fin 1 → IVec S16 32) a x).toNat < S65536.size a := fun v1578 k0_hw169 => k0_hw169

def k0_chk170 (v1581 : IVec S16 32) : Prop :=
  (∀ a x, ((![v1581] : Fin 1 → IVec S16 32) a x).toNat < S65536.size a)
theorem k0_idx170_inb : ∀ (v1581 : IVec S16 32) (k0_hw170 : k0_chk170 v1581), ∀ a x, ((![v1581] : Fin 1 → IVec S16 32) a x).toNat < S65536.size a := fun v1581 k0_hw170 => k0_hw170
def k0_off23 (k0_t2 : Fin k0_t2_loop.trips) : Fin 1 → Nat :=
  let c0_i32_26 : BitVec 32 := 0#32
  let c1_i32_28 : BitVec 32 := 1#32
  let arg18 : BitVec 32 := Scf.iv c0_i32_26 c1_i32_28 k0_t2
  let c128_i32_54 : BitVec 32 := 128#32
  let v150 : BitVec 32 := Scalar.muli arg18 c128_i32_54
  let c96_i32_455 : BitVec 32 := 96#32
  let v1590 : BitVec 32 := Scalar.addi v150 c96_i32_455
  let v1591 : Index := Scalar.indexCast v1590
  ![v1591.toNat]
def k0_off24 (k0_t2 : Fin k0_t2_loop.trips) : Fin 2 → Nat :=
  let c0_i32_457 : BitVec 32 := 0#32
  let v1594 : Index := Scalar.indexCast c0_i32_457
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c112_i32_456 : BitVec 32 := 112#32
  let v1593 : BitVec 32 := Scalar.addi v149 c112_i32_456
  let v1595 : Index := Scalar.indexCast v1593
  ![0, v1595.toNat]
def k0_off25 (k0_t2 : Fin k0_t2_loop.trips) : Fin 2 → Nat :=
  let c1_i32_459 : BitVec 32 := 1#32
  let v1598 : Index := Scalar.indexCast c1_i32_459
  let c0_i32_26 : BitVec 32 := 0#32
  let c1_i32_28 : BitVec 32 := 1#32
  let arg18 : BitVec 32 := Scf.iv c0_i32_26 c1_i32_28 k0_t2
  let c128_i32_53 : BitVec 32 := 128#32
  let v149 : BitVec 32 := Scalar.muli arg18 c128_i32_53
  let c112_i32_458 : BitVec 32 := 112#32
  let v1597 : BitVec 32 := Scalar.addi v149 c112_i32_458
  let v1599 : Index := Scalar.indexCast v1597
  ![1, v1599.toNat]

def k0_chk171 (v1633 : IVec S16 32) : Prop :=
  (∀ a x, ((![v1633] : Fin 1 → IVec S16 32) a x).toNat < S32768.size a)
theorem k0_idx171_inb : ∀ (v1633 : IVec S16 32) (k0_hw171 : k0_chk171 v1633), ∀ a x, ((![v1633] : Fin 1 → IVec S16 32) a x).toNat < S32768.size a := fun v1633 k0_hw171 => k0_hw171

def k0_chk172 (v1640 : IVec S16 32) : Prop :=
  (∀ a x, ((![v1640] : Fin 1 → IVec S16 32) a x).toNat < S32768.size a)
theorem k0_idx172_inb : ∀ (v1640 : IVec S16 32) (k0_hw172 : k0_chk172 v1640), ∀ a x, ((![v1640] : Fin 1 → IVec S16 32) a x).toNat < S32768.size a := fun v1640 k0_hw172 => k0_hw172

def k0_chk173 (v1647 : IVec S16 32) : Prop :=
  (∀ a x, ((![v1647] : Fin 1 → IVec S16 32) a x).toNat < S32768.size a)
theorem k0_idx173_inb : ∀ (v1647 : IVec S16 32) (k0_hw173 : k0_chk173 v1647), ∀ a x, ((![v1647] : Fin 1 → IVec S16 32) a x).toNat < S32768.size a := fun v1647 k0_hw173 => k0_hw173

def k0_chk174 (v1654 : IVec S16 32) : Prop :=
  (∀ a x, ((![v1654] : Fin 1 → IVec S16 32) a x).toNat < S32768.size a)
theorem k0_idx174_inb : ∀ (v1654 : IVec S16 32) (k0_hw174 : k0_chk174 v1654), ∀ a x, ((![v1654] : Fin 1 → IVec S16 32) a x).toNat < S32768.size a := fun v1654 k0_hw174 => k0_hw174

def k0_chk175 (v1661 : IVec S16 32) : Prop :=
  (∀ a x, ((![v1661] : Fin 1 → IVec S16 32) a x).toNat < S32768.size a)
theorem k0_idx175_inb : ∀ (v1661 : IVec S16 32) (k0_hw175 : k0_chk175 v1661), ∀ a x, ((![v1661] : Fin 1 → IVec S16 32) a x).toNat < S32768.size a := fun v1661 k0_hw175 => k0_hw175

def k0_chk176 (v1668 : IVec S16 32) : Prop :=
  (∀ a x, ((![v1668] : Fin 1 → IVec S16 32) a x).toNat < S32768.size a)
theorem k0_idx176_inb : ∀ (v1668 : IVec S16 32) (k0_hw176 : k0_chk176 v1668), ∀ a x, ((![v1668] : Fin 1 → IVec S16 32) a x).toNat < S32768.size a := fun v1668 k0_hw176 => k0_hw176

def k0_chk177 (v1681 : IVec S16 32) : Prop :=
  (∀ a x, ((![v1681] : Fin 1 → IVec S16 32) a x).toNat < S65536.size a)
theorem k0_idx177_inb : ∀ (v1681 : IVec S16 32) (k0_hw177 : k0_chk177 v1681), ∀ a x, ((![v1681] : Fin 1 → IVec S16 32) a x).toNat < S65536.size a := fun v1681 k0_hw177 => k0_hw177

def k0_chk178 (v1684 : IVec S16 32) : Prop :=
  (∀ a x, ((![v1684] : Fin 1 → IVec S16 32) a x).toNat < S65536.size a)
theorem k0_idx178_inb : ∀ (v1684 : IVec S16 32) (k0_hw178 : k0_chk178 v1684), ∀ a x, ((![v1684] : Fin 1 → IVec S16 32) a x).toNat < S65536.size a := fun v1684 k0_hw178 => k0_hw178

def k0_chk179 (v1687 : IVec S16 32) : Prop :=
  (∀ a x, ((![v1687] : Fin 1 → IVec S16 32) a x).toNat < S65536.size a)
theorem k0_idx179_inb : ∀ (v1687 : IVec S16 32) (k0_hw179 : k0_chk179 v1687), ∀ a x, ((![v1687] : Fin 1 → IVec S16 32) a x).toNat < S65536.size a := fun v1687 k0_hw179 => k0_hw179

def k0_chk180 (v1690 : IVec S16 32) : Prop :=
  (∀ a x, ((![v1690] : Fin 1 → IVec S16 32) a x).toNat < S65536.size a)
theorem k0_idx180_inb : ∀ (v1690 : IVec S16 32) (k0_hw180 : k0_chk180 v1690), ∀ a x, ((![v1690] : Fin 1 → IVec S16 32) a x).toNat < S65536.size a := fun v1690 k0_hw180 => k0_hw180

def k0_chk181 (v1730 : IVec S16 32) : Prop :=
  (∀ a x, ((![v1730] : Fin 1 → IVec S16 32) a x).toNat < S32768.size a)
theorem k0_idx181_inb : ∀ (v1730 : IVec S16 32) (k0_hw181 : k0_chk181 v1730), ∀ a x, ((![v1730] : Fin 1 → IVec S16 32) a x).toNat < S32768.size a := fun v1730 k0_hw181 => k0_hw181

def k0_chk182 (v1737 : IVec S16 32) : Prop :=
  (∀ a x, ((![v1737] : Fin 1 → IVec S16 32) a x).toNat < S32768.size a)
theorem k0_idx182_inb : ∀ (v1737 : IVec S16 32) (k0_hw182 : k0_chk182 v1737), ∀ a x, ((![v1737] : Fin 1 → IVec S16 32) a x).toNat < S32768.size a := fun v1737 k0_hw182 => k0_hw182

def k0_chk183 (v1744 : IVec S16 32) : Prop :=
  (∀ a x, ((![v1744] : Fin 1 → IVec S16 32) a x).toNat < S32768.size a)
theorem k0_idx183_inb : ∀ (v1744 : IVec S16 32) (k0_hw183 : k0_chk183 v1744), ∀ a x, ((![v1744] : Fin 1 → IVec S16 32) a x).toNat < S32768.size a := fun v1744 k0_hw183 => k0_hw183

def k0_chk184 (v1751 : IVec S16 32) : Prop :=
  (∀ a x, ((![v1751] : Fin 1 → IVec S16 32) a x).toNat < S32768.size a)
theorem k0_idx184_inb : ∀ (v1751 : IVec S16 32) (k0_hw184 : k0_chk184 v1751), ∀ a x, ((![v1751] : Fin 1 → IVec S16 32) a x).toNat < S32768.size a := fun v1751 k0_hw184 => k0_hw184

def k0_chk185 (v1758 : IVec S16 32) : Prop :=
  (∀ a x, ((![v1758] : Fin 1 → IVec S16 32) a x).toNat < S32768.size a)
theorem k0_idx185_inb : ∀ (v1758 : IVec S16 32) (k0_hw185 : k0_chk185 v1758), ∀ a x, ((![v1758] : Fin 1 → IVec S16 32) a x).toNat < S32768.size a := fun v1758 k0_hw185 => k0_hw185

def k0_chk186 (v1765 : IVec S16 32) : Prop :=
  (∀ a x, ((![v1765] : Fin 1 → IVec S16 32) a x).toNat < S32768.size a)
theorem k0_idx186_inb : ∀ (v1765 : IVec S16 32) (k0_hw186 : k0_chk186 v1765), ∀ a x, ((![v1765] : Fin 1 → IVec S16 32) a x).toNat < S32768.size a := fun v1765 k0_hw186 => k0_hw186

def k0_chk187 (v1778 : IVec S16 32) : Prop :=
  (∀ a x, ((![v1778] : Fin 1 → IVec S16 32) a x).toNat < S65536.size a)
theorem k0_idx187_inb : ∀ (v1778 : IVec S16 32) (k0_hw187 : k0_chk187 v1778), ∀ a x, ((![v1778] : Fin 1 → IVec S16 32) a x).toNat < S65536.size a := fun v1778 k0_hw187 => k0_hw187

def k0_chk188 (v1781 : IVec S16 32) : Prop :=
  (∀ a x, ((![v1781] : Fin 1 → IVec S16 32) a x).toNat < S65536.size a)
theorem k0_idx188_inb : ∀ (v1781 : IVec S16 32) (k0_hw188 : k0_chk188 v1781), ∀ a x, ((![v1781] : Fin 1 → IVec S16 32) a x).toNat < S65536.size a := fun v1781 k0_hw188 => k0_hw188

def k0_chk189 (v1784 : IVec S16 32) : Prop :=
  (∀ a x, ((![v1784] : Fin 1 → IVec S16 32) a x).toNat < S65536.size a)
theorem k0_idx189_inb : ∀ (v1784 : IVec S16 32) (k0_hw189 : k0_chk189 v1784), ∀ a x, ((![v1784] : Fin 1 → IVec S16 32) a x).toNat < S65536.size a := fun v1784 k0_hw189 => k0_hw189

def k0_chk190 (v1787 : IVec S16 32) : Prop :=
  (∀ a x, ((![v1787] : Fin 1 → IVec S16 32) a x).toNat < S65536.size a)
theorem k0_idx190_inb : ∀ (v1787 : IVec S16 32) (k0_hw190 : k0_chk190 v1787), ∀ a x, ((![v1787] : Fin 1 → IVec S16 32) a x).toNat < S65536.size a := fun v1787 k0_hw190 => k0_hw190
def k0_off26 (k0_t2 : Fin k0_t2_loop.trips) : Fin 1 → Nat :=
  let c0_i32_26 : BitVec 32 := 0#32
  let c1_i32_28 : BitVec 32 := 1#32
  let arg18 : BitVec 32 := Scf.iv c0_i32_26 c1_i32_28 k0_t2
  let c128_i32_54 : BitVec 32 := 128#32
  let v150 : BitVec 32 := Scalar.muli arg18 c128_i32_54
  let c112_i32_514 : BitVec 32 := 112#32
  let v1796 : BitVec 32 := Scalar.addi v150 c112_i32_514
  let v1797 : Index := Scalar.indexCast v1796
  ![v1797.toNat]
def k0_off27 (i : grid0.Coords) (k0_t1 : Fin k0_t1_loop.trips) (c0_i32_16 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c976_i32_0 : BitVec 32 := 976#32
  let v5 : BitVec 32 := Scalar.muli v1 c976_i32_0
  let c18_i32_1 : BitVec 32 := 18#32
  let v6 : BitVec 32 := Scalar.minsi v1 c18_i32_1
  let v7 : BitVec 32 := Scalar.addi v5 v6
  let c0_i32_8 : BitVec 32 := 0#32
  let c1_i32_9 : BitVec 32 := 1#32
  let arg16 : BitVec 32 := Scf.iv c0_i32_8 c1_i32_9 k0_t1
  let c2_i32_15 : BitVec 32 := 2#32
  let v109 : BitVec 32 := Scalar.muli arg16 c2_i32_15
  let v110 : BitVec 32 := Scalar.addi v109 c0_i32_16
  let c16_i32_30 : BitVec 32 := 16#32
  let v122 : BitVec 32 := Scalar.muli v110 c16_i32_30
  let c976_i32 : BitVec 32 := 976#32
  let c18_i32 : BitVec 32 := 18#32
  let v2 : BitVec 1 := Scalar.cmpi .slt v1 c18_i32
  let c1_i32 : BitVec 32 := 1#32
  let c0_i32 : BitVec 32 := 0#32
  let v3 : BitVec 32 := Scalar.select v2 c1_i32 c0_i32
  let v4 : BitVec 32 := Scalar.addi c976_i32 v3
  let c16_i32_31 : BitVec 32 := 16#32
  let v123 : BitVec 32 := Scalar.subi v4 c16_i32_31
  let v124 : BitVec 32 := Scalar.minsi v122 v123
  let v125 : BitVec 32 := Scalar.addi v7 v124
  let c128_i32_32 : BitVec 32 := 128#32
  let v126 : BitVec 32 := Scalar.muli v125 c128_i32_32
  ![v126.toNat]
def k0_cond3 (k0_t1 : Fin k0_t1_loop.trips) : BitVec 1 :=
  let c0_i32_8 : BitVec 32 := 0#32
  let c1_i32_9 : BitVec 32 := 1#32
  let arg16 : BitVec 32 := Scf.iv c0_i32_8 c1_i32_9 k0_t1
  let c2_i32_33 : BitVec 32 := 2#32
  let v129 : BitVec 32 := Scalar.muli arg16 c2_i32_33
  let c1_i32_34 : BitVec 32 := 1#32
  let v130 : BitVec 32 := Scalar.addi v129 c1_i32_34
  let c1_i32_35 : BitVec 32 := 1#32
  let v131 : BitVec 32 := Scalar.addi v130 c1_i32_35
  let c62_i32_36 : BitVec 32 := 62#32
  let v132 : BitVec 1 := Scalar.cmpi .slt v131 c62_i32_36
  let v133 : BitVec 32 := Scalar.extui v132
  let c0_i32_37 : BitVec 32 := 0#32
  let v134 : BitVec 1 := Scalar.cmpi .ne v133 c0_i32_37
  v134

def k0_off28 (i : grid0.Coords) (k0_t1 : Fin k0_t1_loop.trips) : Fin 2 → Nat :=
  let c0_i32_57 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c976_i32_0 : BitVec 32 := 976#32
  let v5 : BitVec 32 := Scalar.muli v1 c976_i32_0
  let c18_i32_1 : BitVec 32 := 18#32
  let v6 : BitVec 32 := Scalar.minsi v1 c18_i32_1
  let v7 : BitVec 32 := Scalar.addi v5 v6
  let c0_i32_8 : BitVec 32 := 0#32
  let c1_i32_9 : BitVec 32 := 1#32
  let arg16 : BitVec 32 := Scf.iv c0_i32_8 c1_i32_9 k0_t1
  let c2_i32_33 : BitVec 32 := 2#32
  let v129 : BitVec 32 := Scalar.muli arg16 c2_i32_33
  let c1_i32_34 : BitVec 32 := 1#32
  let v130 : BitVec 32 := Scalar.addi v129 c1_i32_34
  let c1_i32_53 : BitVec 32 := 1#32
  let v149 : BitVec 32 := Scalar.addi v130 c1_i32_53
  let c16_i32_54 : BitVec 32 := 16#32
  let v150 : BitVec 32 := Scalar.muli v149 c16_i32_54
  let c976_i32 : BitVec 32 := 976#32
  let c18_i32 : BitVec 32 := 18#32
  let v2 : BitVec 1 := Scalar.cmpi .slt v1 c18_i32
  let c1_i32 : BitVec 32 := 1#32
  let c0_i32 : BitVec 32 := 0#32
  let v3 : BitVec 32 := Scalar.select v2 c1_i32 c0_i32
  let v4 : BitVec 32 := Scalar.addi c976_i32 v3
  let c16_i32_55 : BitVec 32 := 16#32
  let v151 : BitVec 32 := Scalar.subi v4 c16_i32_55
  let v152 : BitVec 32 := Scalar.minsi v150 v151
  let v153 : BitVec 32 := Scalar.addi v7 v152
  let c128_i32_56 : BitVec 32 := 128#32
  let v154 : BitVec 32 := Scalar.muli v153 c128_i32_56
  ![0, v154.toNat]
@[reducible] def k0_t3_loop : Scf.Loop 32 :=
  let c0_i32_45 : BitVec 32 := 0#32
  let c16_i32_46 : BitVec 32 := 16#32
  let v140 : BitVec 32 := Scalar.addi c0_i32_45 c16_i32_46
  let c1_i32_47 : BitVec 32 := 1#32
  ⟨c0_i32_45, v140, c1_i32_47⟩
def k0_off29 (k0_t3 : Fin k0_t3_loop.trips) : Fin 2 → Nat :=
  let c0_i32_56 : BitVec 32 := 0#32
  let v152 : Index := Scalar.indexCast c0_i32_56
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c0_i32_55 : BitVec 32 := 0#32
  let v151 : BitVec 32 := Scalar.addi v149 c0_i32_55
  let v153 : Index := Scalar.indexCast v151
  ![0, v153.toNat]
def k0_off30 (k0_t3 : Fin k0_t3_loop.trips) : Fin 2 → Nat :=
  let c1_i32_58 : BitVec 32 := 1#32
  let v156 : Index := Scalar.indexCast c1_i32_58
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c0_i32_57 : BitVec 32 := 0#32
  let v155 : BitVec 32 := Scalar.addi v149 c0_i32_57
  let v157 : Index := Scalar.indexCast v155
  ![1, v157.toNat]

def k0_chk191 (v191 : IVec S16 32) : Prop :=
  (∀ a x, ((![v191] : Fin 1 → IVec S16 32) a x).toNat < S32768.size a)
theorem k0_idx191_inb : ∀ (v191 : IVec S16 32) (k0_hw191 : k0_chk191 v191), ∀ a x, ((![v191] : Fin 1 → IVec S16 32) a x).toNat < S32768.size a := fun v191 k0_hw191 => k0_hw191

def k0_chk192 (v198 : IVec S16 32) : Prop :=
  (∀ a x, ((![v198] : Fin 1 → IVec S16 32) a x).toNat < S32768.size a)
theorem k0_idx192_inb : ∀ (v198 : IVec S16 32) (k0_hw192 : k0_chk192 v198), ∀ a x, ((![v198] : Fin 1 → IVec S16 32) a x).toNat < S32768.size a := fun v198 k0_hw192 => k0_hw192

def k0_chk193 (v205 : IVec S16 32) : Prop :=
  (∀ a x, ((![v205] : Fin 1 → IVec S16 32) a x).toNat < S32768.size a)
theorem k0_idx193_inb : ∀ (v205 : IVec S16 32) (k0_hw193 : k0_chk193 v205), ∀ a x, ((![v205] : Fin 1 → IVec S16 32) a x).toNat < S32768.size a := fun v205 k0_hw193 => k0_hw193

def k0_chk194 (v212 : IVec S16 32) : Prop :=
  (∀ a x, ((![v212] : Fin 1 → IVec S16 32) a x).toNat < S32768.size a)
theorem k0_idx194_inb : ∀ (v212 : IVec S16 32) (k0_hw194 : k0_chk194 v212), ∀ a x, ((![v212] : Fin 1 → IVec S16 32) a x).toNat < S32768.size a := fun v212 k0_hw194 => k0_hw194

def k0_chk195 (v219 : IVec S16 32) : Prop :=
  (∀ a x, ((![v219] : Fin 1 → IVec S16 32) a x).toNat < S32768.size a)
theorem k0_idx195_inb : ∀ (v219 : IVec S16 32) (k0_hw195 : k0_chk195 v219), ∀ a x, ((![v219] : Fin 1 → IVec S16 32) a x).toNat < S32768.size a := fun v219 k0_hw195 => k0_hw195

def k0_chk196 (v226 : IVec S16 32) : Prop :=
  (∀ a x, ((![v226] : Fin 1 → IVec S16 32) a x).toNat < S32768.size a)
theorem k0_idx196_inb : ∀ (v226 : IVec S16 32) (k0_hw196 : k0_chk196 v226), ∀ a x, ((![v226] : Fin 1 → IVec S16 32) a x).toNat < S32768.size a := fun v226 k0_hw196 => k0_hw196

def k0_chk197 (v239 : IVec S16 32) : Prop :=
  (∀ a x, ((![v239] : Fin 1 → IVec S16 32) a x).toNat < S65536.size a)
theorem k0_idx197_inb : ∀ (v239 : IVec S16 32) (k0_hw197 : k0_chk197 v239), ∀ a x, ((![v239] : Fin 1 → IVec S16 32) a x).toNat < S65536.size a := fun v239 k0_hw197 => k0_hw197

def k0_chk198 (v242 : IVec S16 32) : Prop :=
  (∀ a x, ((![v242] : Fin 1 → IVec S16 32) a x).toNat < S65536.size a)
theorem k0_idx198_inb : ∀ (v242 : IVec S16 32) (k0_hw198 : k0_chk198 v242), ∀ a x, ((![v242] : Fin 1 → IVec S16 32) a x).toNat < S65536.size a := fun v242 k0_hw198 => k0_hw198

def k0_chk199 (v245 : IVec S16 32) : Prop :=
  (∀ a x, ((![v245] : Fin 1 → IVec S16 32) a x).toNat < S65536.size a)
theorem k0_idx199_inb : ∀ (v245 : IVec S16 32) (k0_hw199 : k0_chk199 v245), ∀ a x, ((![v245] : Fin 1 → IVec S16 32) a x).toNat < S65536.size a := fun v245 k0_hw199 => k0_hw199

def k0_chk200 (v248 : IVec S16 32) : Prop :=
  (∀ a x, ((![v248] : Fin 1 → IVec S16 32) a x).toNat < S65536.size a)
theorem k0_idx200_inb : ∀ (v248 : IVec S16 32) (k0_hw200 : k0_chk200 v248), ∀ a x, ((![v248] : Fin 1 → IVec S16 32) a x).toNat < S65536.size a := fun v248 k0_hw200 => k0_hw200

def k0_chk201 (v288 : IVec S16 32) : Prop :=
  (∀ a x, ((![v288] : Fin 1 → IVec S16 32) a x).toNat < S32768.size a)
theorem k0_idx201_inb : ∀ (v288 : IVec S16 32) (k0_hw201 : k0_chk201 v288), ∀ a x, ((![v288] : Fin 1 → IVec S16 32) a x).toNat < S32768.size a := fun v288 k0_hw201 => k0_hw201

def k0_chk202 (v295 : IVec S16 32) : Prop :=
  (∀ a x, ((![v295] : Fin 1 → IVec S16 32) a x).toNat < S32768.size a)
theorem k0_idx202_inb : ∀ (v295 : IVec S16 32) (k0_hw202 : k0_chk202 v295), ∀ a x, ((![v295] : Fin 1 → IVec S16 32) a x).toNat < S32768.size a := fun v295 k0_hw202 => k0_hw202

def k0_chk203 (v302 : IVec S16 32) : Prop :=
  (∀ a x, ((![v302] : Fin 1 → IVec S16 32) a x).toNat < S32768.size a)
theorem k0_idx203_inb : ∀ (v302 : IVec S16 32) (k0_hw203 : k0_chk203 v302), ∀ a x, ((![v302] : Fin 1 → IVec S16 32) a x).toNat < S32768.size a := fun v302 k0_hw203 => k0_hw203

def k0_chk204 (v309 : IVec S16 32) : Prop :=
  (∀ a x, ((![v309] : Fin 1 → IVec S16 32) a x).toNat < S32768.size a)
theorem k0_idx204_inb : ∀ (v309 : IVec S16 32) (k0_hw204 : k0_chk204 v309), ∀ a x, ((![v309] : Fin 1 → IVec S16 32) a x).toNat < S32768.size a := fun v309 k0_hw204 => k0_hw204

def k0_chk205 (v316 : IVec S16 32) : Prop :=
  (∀ a x, ((![v316] : Fin 1 → IVec S16 32) a x).toNat < S32768.size a)
theorem k0_idx205_inb : ∀ (v316 : IVec S16 32) (k0_hw205 : k0_chk205 v316), ∀ a x, ((![v316] : Fin 1 → IVec S16 32) a x).toNat < S32768.size a := fun v316 k0_hw205 => k0_hw205

def k0_chk206 (v323 : IVec S16 32) : Prop :=
  (∀ a x, ((![v323] : Fin 1 → IVec S16 32) a x).toNat < S32768.size a)
theorem k0_idx206_inb : ∀ (v323 : IVec S16 32) (k0_hw206 : k0_chk206 v323), ∀ a x, ((![v323] : Fin 1 → IVec S16 32) a x).toNat < S32768.size a := fun v323 k0_hw206 => k0_hw206

def k0_chk207 (v336 : IVec S16 32) : Prop :=
  (∀ a x, ((![v336] : Fin 1 → IVec S16 32) a x).toNat < S65536.size a)
theorem k0_idx207_inb : ∀ (v336 : IVec S16 32) (k0_hw207 : k0_chk207 v336), ∀ a x, ((![v336] : Fin 1 → IVec S16 32) a x).toNat < S65536.size a := fun v336 k0_hw207 => k0_hw207

def k0_chk208 (v339 : IVec S16 32) : Prop :=
  (∀ a x, ((![v339] : Fin 1 → IVec S16 32) a x).toNat < S65536.size a)
theorem k0_idx208_inb : ∀ (v339 : IVec S16 32) (k0_hw208 : k0_chk208 v339), ∀ a x, ((![v339] : Fin 1 → IVec S16 32) a x).toNat < S65536.size a := fun v339 k0_hw208 => k0_hw208

def k0_chk209 (v342 : IVec S16 32) : Prop :=
  (∀ a x, ((![v342] : Fin 1 → IVec S16 32) a x).toNat < S65536.size a)
theorem k0_idx209_inb : ∀ (v342 : IVec S16 32) (k0_hw209 : k0_chk209 v342), ∀ a x, ((![v342] : Fin 1 → IVec S16 32) a x).toNat < S65536.size a := fun v342 k0_hw209 => k0_hw209

def k0_chk210 (v345 : IVec S16 32) : Prop :=
  (∀ a x, ((![v345] : Fin 1 → IVec S16 32) a x).toNat < S65536.size a)
theorem k0_idx210_inb : ∀ (v345 : IVec S16 32) (k0_hw210 : k0_chk210 v345), ∀ a x, ((![v345] : Fin 1 → IVec S16 32) a x).toNat < S65536.size a := fun v345 k0_hw210 => k0_hw210
def k0_off31 (k0_t3 : Fin k0_t3_loop.trips) : Fin 1 → Nat :=
  let c0_i32_45 : BitVec 32 := 0#32
  let c1_i32_47 : BitVec 32 := 1#32
  let arg18 : BitVec 32 := Scf.iv c0_i32_45 c1_i32_47 k0_t3
  let c128_i32_54 : BitVec 32 := 128#32
  let v150 : BitVec 32 := Scalar.muli arg18 c128_i32_54
  let c0_i32_103 : BitVec 32 := 0#32
  let v354 : BitVec 32 := Scalar.addi v150 c0_i32_103
  let v355 : Index := Scalar.indexCast v354
  ![v355.toNat]
def k0_off32 (k0_t3 : Fin k0_t3_loop.trips) : Fin 2 → Nat :=
  let c0_i32_105 : BitVec 32 := 0#32
  let v358 : Index := Scalar.indexCast c0_i32_105
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c16_i32_104 : BitVec 32 := 16#32
  let v357 : BitVec 32 := Scalar.addi v149 c16_i32_104
  let v359 : Index := Scalar.indexCast v357
  ![0, v359.toNat]
def k0_off33 (k0_t3 : Fin k0_t3_loop.trips) : Fin 2 → Nat :=
  let c1_i32_107 : BitVec 32 := 1#32
  let v362 : Index := Scalar.indexCast c1_i32_107
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c16_i32_106 : BitVec 32 := 16#32
  let v361 : BitVec 32 := Scalar.addi v149 c16_i32_106
  let v363 : Index := Scalar.indexCast v361
  ![1, v363.toNat]

def k0_chk211 (v397 : IVec S16 32) : Prop :=
  (∀ a x, ((![v397] : Fin 1 → IVec S16 32) a x).toNat < S32768.size a)
theorem k0_idx211_inb : ∀ (v397 : IVec S16 32) (k0_hw211 : k0_chk211 v397), ∀ a x, ((![v397] : Fin 1 → IVec S16 32) a x).toNat < S32768.size a := fun v397 k0_hw211 => k0_hw211

def k0_chk212 (v404 : IVec S16 32) : Prop :=
  (∀ a x, ((![v404] : Fin 1 → IVec S16 32) a x).toNat < S32768.size a)
theorem k0_idx212_inb : ∀ (v404 : IVec S16 32) (k0_hw212 : k0_chk212 v404), ∀ a x, ((![v404] : Fin 1 → IVec S16 32) a x).toNat < S32768.size a := fun v404 k0_hw212 => k0_hw212

def k0_chk213 (v411 : IVec S16 32) : Prop :=
  (∀ a x, ((![v411] : Fin 1 → IVec S16 32) a x).toNat < S32768.size a)
theorem k0_idx213_inb : ∀ (v411 : IVec S16 32) (k0_hw213 : k0_chk213 v411), ∀ a x, ((![v411] : Fin 1 → IVec S16 32) a x).toNat < S32768.size a := fun v411 k0_hw213 => k0_hw213

def k0_chk214 (v418 : IVec S16 32) : Prop :=
  (∀ a x, ((![v418] : Fin 1 → IVec S16 32) a x).toNat < S32768.size a)
theorem k0_idx214_inb : ∀ (v418 : IVec S16 32) (k0_hw214 : k0_chk214 v418), ∀ a x, ((![v418] : Fin 1 → IVec S16 32) a x).toNat < S32768.size a := fun v418 k0_hw214 => k0_hw214

def k0_chk215 (v425 : IVec S16 32) : Prop :=
  (∀ a x, ((![v425] : Fin 1 → IVec S16 32) a x).toNat < S32768.size a)
theorem k0_idx215_inb : ∀ (v425 : IVec S16 32) (k0_hw215 : k0_chk215 v425), ∀ a x, ((![v425] : Fin 1 → IVec S16 32) a x).toNat < S32768.size a := fun v425 k0_hw215 => k0_hw215

def k0_chk216 (v432 : IVec S16 32) : Prop :=
  (∀ a x, ((![v432] : Fin 1 → IVec S16 32) a x).toNat < S32768.size a)
theorem k0_idx216_inb : ∀ (v432 : IVec S16 32) (k0_hw216 : k0_chk216 v432), ∀ a x, ((![v432] : Fin 1 → IVec S16 32) a x).toNat < S32768.size a := fun v432 k0_hw216 => k0_hw216

def k0_chk217 (v445 : IVec S16 32) : Prop :=
  (∀ a x, ((![v445] : Fin 1 → IVec S16 32) a x).toNat < S65536.size a)
theorem k0_idx217_inb : ∀ (v445 : IVec S16 32) (k0_hw217 : k0_chk217 v445), ∀ a x, ((![v445] : Fin 1 → IVec S16 32) a x).toNat < S65536.size a := fun v445 k0_hw217 => k0_hw217

def k0_chk218 (v448 : IVec S16 32) : Prop :=
  (∀ a x, ((![v448] : Fin 1 → IVec S16 32) a x).toNat < S65536.size a)
theorem k0_idx218_inb : ∀ (v448 : IVec S16 32) (k0_hw218 : k0_chk218 v448), ∀ a x, ((![v448] : Fin 1 → IVec S16 32) a x).toNat < S65536.size a := fun v448 k0_hw218 => k0_hw218

def k0_chk219 (v451 : IVec S16 32) : Prop :=
  (∀ a x, ((![v451] : Fin 1 → IVec S16 32) a x).toNat < S65536.size a)
theorem k0_idx219_inb : ∀ (v451 : IVec S16 32) (k0_hw219 : k0_chk219 v451), ∀ a x, ((![v451] : Fin 1 → IVec S16 32) a x).toNat < S65536.size a := fun v451 k0_hw219 => k0_hw219

def k0_chk220 (v454 : IVec S16 32) : Prop :=
  (∀ a x, ((![v454] : Fin 1 → IVec S16 32) a x).toNat < S65536.size a)
theorem k0_idx220_inb : ∀ (v454 : IVec S16 32) (k0_hw220 : k0_chk220 v454), ∀ a x, ((![v454] : Fin 1 → IVec S16 32) a x).toNat < S65536.size a := fun v454 k0_hw220 => k0_hw220

def k0_chk221 (v494 : IVec S16 32) : Prop :=
  (∀ a x, ((![v494] : Fin 1 → IVec S16 32) a x).toNat < S32768.size a)
theorem k0_idx221_inb : ∀ (v494 : IVec S16 32) (k0_hw221 : k0_chk221 v494), ∀ a x, ((![v494] : Fin 1 → IVec S16 32) a x).toNat < S32768.size a := fun v494 k0_hw221 => k0_hw221

def k0_chk222 (v501 : IVec S16 32) : Prop :=
  (∀ a x, ((![v501] : Fin 1 → IVec S16 32) a x).toNat < S32768.size a)
theorem k0_idx222_inb : ∀ (v501 : IVec S16 32) (k0_hw222 : k0_chk222 v501), ∀ a x, ((![v501] : Fin 1 → IVec S16 32) a x).toNat < S32768.size a := fun v501 k0_hw222 => k0_hw222

def k0_chk223 (v508 : IVec S16 32) : Prop :=
  (∀ a x, ((![v508] : Fin 1 → IVec S16 32) a x).toNat < S32768.size a)
theorem k0_idx223_inb : ∀ (v508 : IVec S16 32) (k0_hw223 : k0_chk223 v508), ∀ a x, ((![v508] : Fin 1 → IVec S16 32) a x).toNat < S32768.size a := fun v508 k0_hw223 => k0_hw223

def k0_chk224 (v515 : IVec S16 32) : Prop :=
  (∀ a x, ((![v515] : Fin 1 → IVec S16 32) a x).toNat < S32768.size a)
theorem k0_idx224_inb : ∀ (v515 : IVec S16 32) (k0_hw224 : k0_chk224 v515), ∀ a x, ((![v515] : Fin 1 → IVec S16 32) a x).toNat < S32768.size a := fun v515 k0_hw224 => k0_hw224

def k0_chk225 (v522 : IVec S16 32) : Prop :=
  (∀ a x, ((![v522] : Fin 1 → IVec S16 32) a x).toNat < S32768.size a)
theorem k0_idx225_inb : ∀ (v522 : IVec S16 32) (k0_hw225 : k0_chk225 v522), ∀ a x, ((![v522] : Fin 1 → IVec S16 32) a x).toNat < S32768.size a := fun v522 k0_hw225 => k0_hw225

def k0_chk226 (v529 : IVec S16 32) : Prop :=
  (∀ a x, ((![v529] : Fin 1 → IVec S16 32) a x).toNat < S32768.size a)
theorem k0_idx226_inb : ∀ (v529 : IVec S16 32) (k0_hw226 : k0_chk226 v529), ∀ a x, ((![v529] : Fin 1 → IVec S16 32) a x).toNat < S32768.size a := fun v529 k0_hw226 => k0_hw226

def k0_chk227 (v542 : IVec S16 32) : Prop :=
  (∀ a x, ((![v542] : Fin 1 → IVec S16 32) a x).toNat < S65536.size a)
theorem k0_idx227_inb : ∀ (v542 : IVec S16 32) (k0_hw227 : k0_chk227 v542), ∀ a x, ((![v542] : Fin 1 → IVec S16 32) a x).toNat < S65536.size a := fun v542 k0_hw227 => k0_hw227

def k0_chk228 (v545 : IVec S16 32) : Prop :=
  (∀ a x, ((![v545] : Fin 1 → IVec S16 32) a x).toNat < S65536.size a)
theorem k0_idx228_inb : ∀ (v545 : IVec S16 32) (k0_hw228 : k0_chk228 v545), ∀ a x, ((![v545] : Fin 1 → IVec S16 32) a x).toNat < S65536.size a := fun v545 k0_hw228 => k0_hw228

def k0_chk229 (v548 : IVec S16 32) : Prop :=
  (∀ a x, ((![v548] : Fin 1 → IVec S16 32) a x).toNat < S65536.size a)
theorem k0_idx229_inb : ∀ (v548 : IVec S16 32) (k0_hw229 : k0_chk229 v548), ∀ a x, ((![v548] : Fin 1 → IVec S16 32) a x).toNat < S65536.size a := fun v548 k0_hw229 => k0_hw229

def k0_chk230 (v551 : IVec S16 32) : Prop :=
  (∀ a x, ((![v551] : Fin 1 → IVec S16 32) a x).toNat < S65536.size a)
theorem k0_idx230_inb : ∀ (v551 : IVec S16 32) (k0_hw230 : k0_chk230 v551), ∀ a x, ((![v551] : Fin 1 → IVec S16 32) a x).toNat < S65536.size a := fun v551 k0_hw230 => k0_hw230
def k0_off34 (k0_t3 : Fin k0_t3_loop.trips) : Fin 1 → Nat :=
  let c0_i32_45 : BitVec 32 := 0#32
  let c1_i32_47 : BitVec 32 := 1#32
  let arg18 : BitVec 32 := Scf.iv c0_i32_45 c1_i32_47 k0_t3
  let c128_i32_54 : BitVec 32 := 128#32
  let v150 : BitVec 32 := Scalar.muli arg18 c128_i32_54
  let c16_i32_162 : BitVec 32 := 16#32
  let v560 : BitVec 32 := Scalar.addi v150 c16_i32_162
  let v561 : Index := Scalar.indexCast v560
  ![v561.toNat]
def k0_off35 (k0_t3 : Fin k0_t3_loop.trips) : Fin 2 → Nat :=
  let c0_i32_164 : BitVec 32 := 0#32
  let v564 : Index := Scalar.indexCast c0_i32_164
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c32_i32_163 : BitVec 32 := 32#32
  let v563 : BitVec 32 := Scalar.addi v149 c32_i32_163
  let v565 : Index := Scalar.indexCast v563
  ![0, v565.toNat]
def k0_off36 (k0_t3 : Fin k0_t3_loop.trips) : Fin 2 → Nat :=
  let c1_i32_166 : BitVec 32 := 1#32
  let v568 : Index := Scalar.indexCast c1_i32_166
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c32_i32_165 : BitVec 32 := 32#32
  let v567 : BitVec 32 := Scalar.addi v149 c32_i32_165
  let v569 : Index := Scalar.indexCast v567
  ![1, v569.toNat]

def k0_chk231 (v603 : IVec S16 32) : Prop :=
  (∀ a x, ((![v603] : Fin 1 → IVec S16 32) a x).toNat < S32768.size a)
theorem k0_idx231_inb : ∀ (v603 : IVec S16 32) (k0_hw231 : k0_chk231 v603), ∀ a x, ((![v603] : Fin 1 → IVec S16 32) a x).toNat < S32768.size a := fun v603 k0_hw231 => k0_hw231

def k0_chk232 (v610 : IVec S16 32) : Prop :=
  (∀ a x, ((![v610] : Fin 1 → IVec S16 32) a x).toNat < S32768.size a)
theorem k0_idx232_inb : ∀ (v610 : IVec S16 32) (k0_hw232 : k0_chk232 v610), ∀ a x, ((![v610] : Fin 1 → IVec S16 32) a x).toNat < S32768.size a := fun v610 k0_hw232 => k0_hw232

def k0_chk233 (v617 : IVec S16 32) : Prop :=
  (∀ a x, ((![v617] : Fin 1 → IVec S16 32) a x).toNat < S32768.size a)
theorem k0_idx233_inb : ∀ (v617 : IVec S16 32) (k0_hw233 : k0_chk233 v617), ∀ a x, ((![v617] : Fin 1 → IVec S16 32) a x).toNat < S32768.size a := fun v617 k0_hw233 => k0_hw233

def k0_chk234 (v624 : IVec S16 32) : Prop :=
  (∀ a x, ((![v624] : Fin 1 → IVec S16 32) a x).toNat < S32768.size a)
theorem k0_idx234_inb : ∀ (v624 : IVec S16 32) (k0_hw234 : k0_chk234 v624), ∀ a x, ((![v624] : Fin 1 → IVec S16 32) a x).toNat < S32768.size a := fun v624 k0_hw234 => k0_hw234

def k0_chk235 (v631 : IVec S16 32) : Prop :=
  (∀ a x, ((![v631] : Fin 1 → IVec S16 32) a x).toNat < S32768.size a)
theorem k0_idx235_inb : ∀ (v631 : IVec S16 32) (k0_hw235 : k0_chk235 v631), ∀ a x, ((![v631] : Fin 1 → IVec S16 32) a x).toNat < S32768.size a := fun v631 k0_hw235 => k0_hw235

def k0_chk236 (v638 : IVec S16 32) : Prop :=
  (∀ a x, ((![v638] : Fin 1 → IVec S16 32) a x).toNat < S32768.size a)
theorem k0_idx236_inb : ∀ (v638 : IVec S16 32) (k0_hw236 : k0_chk236 v638), ∀ a x, ((![v638] : Fin 1 → IVec S16 32) a x).toNat < S32768.size a := fun v638 k0_hw236 => k0_hw236

def k0_chk237 (v651 : IVec S16 32) : Prop :=
  (∀ a x, ((![v651] : Fin 1 → IVec S16 32) a x).toNat < S65536.size a)
theorem k0_idx237_inb : ∀ (v651 : IVec S16 32) (k0_hw237 : k0_chk237 v651), ∀ a x, ((![v651] : Fin 1 → IVec S16 32) a x).toNat < S65536.size a := fun v651 k0_hw237 => k0_hw237

def k0_chk238 (v654 : IVec S16 32) : Prop :=
  (∀ a x, ((![v654] : Fin 1 → IVec S16 32) a x).toNat < S65536.size a)
theorem k0_idx238_inb : ∀ (v654 : IVec S16 32) (k0_hw238 : k0_chk238 v654), ∀ a x, ((![v654] : Fin 1 → IVec S16 32) a x).toNat < S65536.size a := fun v654 k0_hw238 => k0_hw238

def k0_chk239 (v657 : IVec S16 32) : Prop :=
  (∀ a x, ((![v657] : Fin 1 → IVec S16 32) a x).toNat < S65536.size a)
theorem k0_idx239_inb : ∀ (v657 : IVec S16 32) (k0_hw239 : k0_chk239 v657), ∀ a x, ((![v657] : Fin 1 → IVec S16 32) a x).toNat < S65536.size a := fun v657 k0_hw239 => k0_hw239

def k0_chk240 (v660 : IVec S16 32) : Prop :=
  (∀ a x, ((![v660] : Fin 1 → IVec S16 32) a x).toNat < S65536.size a)
theorem k0_idx240_inb : ∀ (v660 : IVec S16 32) (k0_hw240 : k0_chk240 v660), ∀ a x, ((![v660] : Fin 1 → IVec S16 32) a x).toNat < S65536.size a := fun v660 k0_hw240 => k0_hw240

def k0_chk241 (v700 : IVec S16 32) : Prop :=
  (∀ a x, ((![v700] : Fin 1 → IVec S16 32) a x).toNat < S32768.size a)
theorem k0_idx241_inb : ∀ (v700 : IVec S16 32) (k0_hw241 : k0_chk241 v700), ∀ a x, ((![v700] : Fin 1 → IVec S16 32) a x).toNat < S32768.size a := fun v700 k0_hw241 => k0_hw241

def k0_chk242 (v707 : IVec S16 32) : Prop :=
  (∀ a x, ((![v707] : Fin 1 → IVec S16 32) a x).toNat < S32768.size a)
theorem k0_idx242_inb : ∀ (v707 : IVec S16 32) (k0_hw242 : k0_chk242 v707), ∀ a x, ((![v707] : Fin 1 → IVec S16 32) a x).toNat < S32768.size a := fun v707 k0_hw242 => k0_hw242

def k0_chk243 (v714 : IVec S16 32) : Prop :=
  (∀ a x, ((![v714] : Fin 1 → IVec S16 32) a x).toNat < S32768.size a)
theorem k0_idx243_inb : ∀ (v714 : IVec S16 32) (k0_hw243 : k0_chk243 v714), ∀ a x, ((![v714] : Fin 1 → IVec S16 32) a x).toNat < S32768.size a := fun v714 k0_hw243 => k0_hw243

def k0_chk244 (v721 : IVec S16 32) : Prop :=
  (∀ a x, ((![v721] : Fin 1 → IVec S16 32) a x).toNat < S32768.size a)
theorem k0_idx244_inb : ∀ (v721 : IVec S16 32) (k0_hw244 : k0_chk244 v721), ∀ a x, ((![v721] : Fin 1 → IVec S16 32) a x).toNat < S32768.size a := fun v721 k0_hw244 => k0_hw244

def k0_chk245 (v728 : IVec S16 32) : Prop :=
  (∀ a x, ((![v728] : Fin 1 → IVec S16 32) a x).toNat < S32768.size a)
theorem k0_idx245_inb : ∀ (v728 : IVec S16 32) (k0_hw245 : k0_chk245 v728), ∀ a x, ((![v728] : Fin 1 → IVec S16 32) a x).toNat < S32768.size a := fun v728 k0_hw245 => k0_hw245

def k0_chk246 (v735 : IVec S16 32) : Prop :=
  (∀ a x, ((![v735] : Fin 1 → IVec S16 32) a x).toNat < S32768.size a)
theorem k0_idx246_inb : ∀ (v735 : IVec S16 32) (k0_hw246 : k0_chk246 v735), ∀ a x, ((![v735] : Fin 1 → IVec S16 32) a x).toNat < S32768.size a := fun v735 k0_hw246 => k0_hw246

def k0_chk247 (v748 : IVec S16 32) : Prop :=
  (∀ a x, ((![v748] : Fin 1 → IVec S16 32) a x).toNat < S65536.size a)
theorem k0_idx247_inb : ∀ (v748 : IVec S16 32) (k0_hw247 : k0_chk247 v748), ∀ a x, ((![v748] : Fin 1 → IVec S16 32) a x).toNat < S65536.size a := fun v748 k0_hw247 => k0_hw247

def k0_chk248 (v751 : IVec S16 32) : Prop :=
  (∀ a x, ((![v751] : Fin 1 → IVec S16 32) a x).toNat < S65536.size a)
theorem k0_idx248_inb : ∀ (v751 : IVec S16 32) (k0_hw248 : k0_chk248 v751), ∀ a x, ((![v751] : Fin 1 → IVec S16 32) a x).toNat < S65536.size a := fun v751 k0_hw248 => k0_hw248

def k0_chk249 (v754 : IVec S16 32) : Prop :=
  (∀ a x, ((![v754] : Fin 1 → IVec S16 32) a x).toNat < S65536.size a)
theorem k0_idx249_inb : ∀ (v754 : IVec S16 32) (k0_hw249 : k0_chk249 v754), ∀ a x, ((![v754] : Fin 1 → IVec S16 32) a x).toNat < S65536.size a := fun v754 k0_hw249 => k0_hw249

def k0_chk250 (v757 : IVec S16 32) : Prop :=
  (∀ a x, ((![v757] : Fin 1 → IVec S16 32) a x).toNat < S65536.size a)
theorem k0_idx250_inb : ∀ (v757 : IVec S16 32) (k0_hw250 : k0_chk250 v757), ∀ a x, ((![v757] : Fin 1 → IVec S16 32) a x).toNat < S65536.size a := fun v757 k0_hw250 => k0_hw250
def k0_off37 (k0_t3 : Fin k0_t3_loop.trips) : Fin 1 → Nat :=
  let c0_i32_45 : BitVec 32 := 0#32
  let c1_i32_47 : BitVec 32 := 1#32
  let arg18 : BitVec 32 := Scf.iv c0_i32_45 c1_i32_47 k0_t3
  let c128_i32_54 : BitVec 32 := 128#32
  let v150 : BitVec 32 := Scalar.muli arg18 c128_i32_54
  let c32_i32_221 : BitVec 32 := 32#32
  let v766 : BitVec 32 := Scalar.addi v150 c32_i32_221
  let v767 : Index := Scalar.indexCast v766
  ![v767.toNat]
def k0_off38 (k0_t3 : Fin k0_t3_loop.trips) : Fin 2 → Nat :=
  let c0_i32_223 : BitVec 32 := 0#32
  let v770 : Index := Scalar.indexCast c0_i32_223
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c48_i32_222 : BitVec 32 := 48#32
  let v769 : BitVec 32 := Scalar.addi v149 c48_i32_222
  let v771 : Index := Scalar.indexCast v769
  ![0, v771.toNat]
def k0_off39 (k0_t3 : Fin k0_t3_loop.trips) : Fin 2 → Nat :=
  let c1_i32_225 : BitVec 32 := 1#32
  let v774 : Index := Scalar.indexCast c1_i32_225
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c48_i32_224 : BitVec 32 := 48#32
  let v773 : BitVec 32 := Scalar.addi v149 c48_i32_224
  let v775 : Index := Scalar.indexCast v773
  ![1, v775.toNat]

def k0_chk251 (v809 : IVec S16 32) : Prop :=
  (∀ a x, ((![v809] : Fin 1 → IVec S16 32) a x).toNat < S32768.size a)
theorem k0_idx251_inb : ∀ (v809 : IVec S16 32) (k0_hw251 : k0_chk251 v809), ∀ a x, ((![v809] : Fin 1 → IVec S16 32) a x).toNat < S32768.size a := fun v809 k0_hw251 => k0_hw251

def k0_chk252 (v816 : IVec S16 32) : Prop :=
  (∀ a x, ((![v816] : Fin 1 → IVec S16 32) a x).toNat < S32768.size a)
theorem k0_idx252_inb : ∀ (v816 : IVec S16 32) (k0_hw252 : k0_chk252 v816), ∀ a x, ((![v816] : Fin 1 → IVec S16 32) a x).toNat < S32768.size a := fun v816 k0_hw252 => k0_hw252

def k0_chk253 (v823 : IVec S16 32) : Prop :=
  (∀ a x, ((![v823] : Fin 1 → IVec S16 32) a x).toNat < S32768.size a)
theorem k0_idx253_inb : ∀ (v823 : IVec S16 32) (k0_hw253 : k0_chk253 v823), ∀ a x, ((![v823] : Fin 1 → IVec S16 32) a x).toNat < S32768.size a := fun v823 k0_hw253 => k0_hw253

def k0_chk254 (v830 : IVec S16 32) : Prop :=
  (∀ a x, ((![v830] : Fin 1 → IVec S16 32) a x).toNat < S32768.size a)
theorem k0_idx254_inb : ∀ (v830 : IVec S16 32) (k0_hw254 : k0_chk254 v830), ∀ a x, ((![v830] : Fin 1 → IVec S16 32) a x).toNat < S32768.size a := fun v830 k0_hw254 => k0_hw254

def k0_chk255 (v837 : IVec S16 32) : Prop :=
  (∀ a x, ((![v837] : Fin 1 → IVec S16 32) a x).toNat < S32768.size a)
theorem k0_idx255_inb : ∀ (v837 : IVec S16 32) (k0_hw255 : k0_chk255 v837), ∀ a x, ((![v837] : Fin 1 → IVec S16 32) a x).toNat < S32768.size a := fun v837 k0_hw255 => k0_hw255

def k0_chk256 (v844 : IVec S16 32) : Prop :=
  (∀ a x, ((![v844] : Fin 1 → IVec S16 32) a x).toNat < S32768.size a)
theorem k0_idx256_inb : ∀ (v844 : IVec S16 32) (k0_hw256 : k0_chk256 v844), ∀ a x, ((![v844] : Fin 1 → IVec S16 32) a x).toNat < S32768.size a := fun v844 k0_hw256 => k0_hw256

def k0_chk257 (v857 : IVec S16 32) : Prop :=
  (∀ a x, ((![v857] : Fin 1 → IVec S16 32) a x).toNat < S65536.size a)
theorem k0_idx257_inb : ∀ (v857 : IVec S16 32) (k0_hw257 : k0_chk257 v857), ∀ a x, ((![v857] : Fin 1 → IVec S16 32) a x).toNat < S65536.size a := fun v857 k0_hw257 => k0_hw257

def k0_chk258 (v860 : IVec S16 32) : Prop :=
  (∀ a x, ((![v860] : Fin 1 → IVec S16 32) a x).toNat < S65536.size a)
theorem k0_idx258_inb : ∀ (v860 : IVec S16 32) (k0_hw258 : k0_chk258 v860), ∀ a x, ((![v860] : Fin 1 → IVec S16 32) a x).toNat < S65536.size a := fun v860 k0_hw258 => k0_hw258

def k0_chk259 (v863 : IVec S16 32) : Prop :=
  (∀ a x, ((![v863] : Fin 1 → IVec S16 32) a x).toNat < S65536.size a)
theorem k0_idx259_inb : ∀ (v863 : IVec S16 32) (k0_hw259 : k0_chk259 v863), ∀ a x, ((![v863] : Fin 1 → IVec S16 32) a x).toNat < S65536.size a := fun v863 k0_hw259 => k0_hw259

def k0_chk260 (v866 : IVec S16 32) : Prop :=
  (∀ a x, ((![v866] : Fin 1 → IVec S16 32) a x).toNat < S65536.size a)
theorem k0_idx260_inb : ∀ (v866 : IVec S16 32) (k0_hw260 : k0_chk260 v866), ∀ a x, ((![v866] : Fin 1 → IVec S16 32) a x).toNat < S65536.size a := fun v866 k0_hw260 => k0_hw260

def k0_chk261 (v906 : IVec S16 32) : Prop :=
  (∀ a x, ((![v906] : Fin 1 → IVec S16 32) a x).toNat < S32768.size a)
theorem k0_idx261_inb : ∀ (v906 : IVec S16 32) (k0_hw261 : k0_chk261 v906), ∀ a x, ((![v906] : Fin 1 → IVec S16 32) a x).toNat < S32768.size a := fun v906 k0_hw261 => k0_hw261

def k0_chk262 (v913 : IVec S16 32) : Prop :=
  (∀ a x, ((![v913] : Fin 1 → IVec S16 32) a x).toNat < S32768.size a)
theorem k0_idx262_inb : ∀ (v913 : IVec S16 32) (k0_hw262 : k0_chk262 v913), ∀ a x, ((![v913] : Fin 1 → IVec S16 32) a x).toNat < S32768.size a := fun v913 k0_hw262 => k0_hw262

def k0_chk263 (v920 : IVec S16 32) : Prop :=
  (∀ a x, ((![v920] : Fin 1 → IVec S16 32) a x).toNat < S32768.size a)
theorem k0_idx263_inb : ∀ (v920 : IVec S16 32) (k0_hw263 : k0_chk263 v920), ∀ a x, ((![v920] : Fin 1 → IVec S16 32) a x).toNat < S32768.size a := fun v920 k0_hw263 => k0_hw263

def k0_chk264 (v927 : IVec S16 32) : Prop :=
  (∀ a x, ((![v927] : Fin 1 → IVec S16 32) a x).toNat < S32768.size a)
theorem k0_idx264_inb : ∀ (v927 : IVec S16 32) (k0_hw264 : k0_chk264 v927), ∀ a x, ((![v927] : Fin 1 → IVec S16 32) a x).toNat < S32768.size a := fun v927 k0_hw264 => k0_hw264

def k0_chk265 (v934 : IVec S16 32) : Prop :=
  (∀ a x, ((![v934] : Fin 1 → IVec S16 32) a x).toNat < S32768.size a)
theorem k0_idx265_inb : ∀ (v934 : IVec S16 32) (k0_hw265 : k0_chk265 v934), ∀ a x, ((![v934] : Fin 1 → IVec S16 32) a x).toNat < S32768.size a := fun v934 k0_hw265 => k0_hw265

def k0_chk266 (v941 : IVec S16 32) : Prop :=
  (∀ a x, ((![v941] : Fin 1 → IVec S16 32) a x).toNat < S32768.size a)
theorem k0_idx266_inb : ∀ (v941 : IVec S16 32) (k0_hw266 : k0_chk266 v941), ∀ a x, ((![v941] : Fin 1 → IVec S16 32) a x).toNat < S32768.size a := fun v941 k0_hw266 => k0_hw266

def k0_chk267 (v954 : IVec S16 32) : Prop :=
  (∀ a x, ((![v954] : Fin 1 → IVec S16 32) a x).toNat < S65536.size a)
theorem k0_idx267_inb : ∀ (v954 : IVec S16 32) (k0_hw267 : k0_chk267 v954), ∀ a x, ((![v954] : Fin 1 → IVec S16 32) a x).toNat < S65536.size a := fun v954 k0_hw267 => k0_hw267

def k0_chk268 (v957 : IVec S16 32) : Prop :=
  (∀ a x, ((![v957] : Fin 1 → IVec S16 32) a x).toNat < S65536.size a)
theorem k0_idx268_inb : ∀ (v957 : IVec S16 32) (k0_hw268 : k0_chk268 v957), ∀ a x, ((![v957] : Fin 1 → IVec S16 32) a x).toNat < S65536.size a := fun v957 k0_hw268 => k0_hw268

def k0_chk269 (v960 : IVec S16 32) : Prop :=
  (∀ a x, ((![v960] : Fin 1 → IVec S16 32) a x).toNat < S65536.size a)
theorem k0_idx269_inb : ∀ (v960 : IVec S16 32) (k0_hw269 : k0_chk269 v960), ∀ a x, ((![v960] : Fin 1 → IVec S16 32) a x).toNat < S65536.size a := fun v960 k0_hw269 => k0_hw269

def k0_chk270 (v963 : IVec S16 32) : Prop :=
  (∀ a x, ((![v963] : Fin 1 → IVec S16 32) a x).toNat < S65536.size a)
theorem k0_idx270_inb : ∀ (v963 : IVec S16 32) (k0_hw270 : k0_chk270 v963), ∀ a x, ((![v963] : Fin 1 → IVec S16 32) a x).toNat < S65536.size a := fun v963 k0_hw270 => k0_hw270
def k0_off40 (k0_t3 : Fin k0_t3_loop.trips) : Fin 1 → Nat :=
  let c0_i32_45 : BitVec 32 := 0#32
  let c1_i32_47 : BitVec 32 := 1#32
  let arg18 : BitVec 32 := Scf.iv c0_i32_45 c1_i32_47 k0_t3
  let c128_i32_54 : BitVec 32 := 128#32
  let v150 : BitVec 32 := Scalar.muli arg18 c128_i32_54
  let c48_i32_280 : BitVec 32 := 48#32
  let v972 : BitVec 32 := Scalar.addi v150 c48_i32_280
  let v973 : Index := Scalar.indexCast v972
  ![v973.toNat]
def k0_off41 (k0_t3 : Fin k0_t3_loop.trips) : Fin 2 → Nat :=
  let c0_i32_282 : BitVec 32 := 0#32
  let v976 : Index := Scalar.indexCast c0_i32_282
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c64_i32_281 : BitVec 32 := 64#32
  let v975 : BitVec 32 := Scalar.addi v149 c64_i32_281
  let v977 : Index := Scalar.indexCast v975
  ![0, v977.toNat]
def k0_off42 (k0_t3 : Fin k0_t3_loop.trips) : Fin 2 → Nat :=
  let c1_i32_284 : BitVec 32 := 1#32
  let v980 : Index := Scalar.indexCast c1_i32_284
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c64_i32_283 : BitVec 32 := 64#32
  let v979 : BitVec 32 := Scalar.addi v149 c64_i32_283
  let v981 : Index := Scalar.indexCast v979
  ![1, v981.toNat]

def k0_chk271 (v1015 : IVec S16 32) : Prop :=
  (∀ a x, ((![v1015] : Fin 1 → IVec S16 32) a x).toNat < S32768.size a)
theorem k0_idx271_inb : ∀ (v1015 : IVec S16 32) (k0_hw271 : k0_chk271 v1015), ∀ a x, ((![v1015] : Fin 1 → IVec S16 32) a x).toNat < S32768.size a := fun v1015 k0_hw271 => k0_hw271

def k0_chk272 (v1022 : IVec S16 32) : Prop :=
  (∀ a x, ((![v1022] : Fin 1 → IVec S16 32) a x).toNat < S32768.size a)
theorem k0_idx272_inb : ∀ (v1022 : IVec S16 32) (k0_hw272 : k0_chk272 v1022), ∀ a x, ((![v1022] : Fin 1 → IVec S16 32) a x).toNat < S32768.size a := fun v1022 k0_hw272 => k0_hw272

def k0_chk273 (v1029 : IVec S16 32) : Prop :=
  (∀ a x, ((![v1029] : Fin 1 → IVec S16 32) a x).toNat < S32768.size a)
theorem k0_idx273_inb : ∀ (v1029 : IVec S16 32) (k0_hw273 : k0_chk273 v1029), ∀ a x, ((![v1029] : Fin 1 → IVec S16 32) a x).toNat < S32768.size a := fun v1029 k0_hw273 => k0_hw273

def k0_chk274 (v1036 : IVec S16 32) : Prop :=
  (∀ a x, ((![v1036] : Fin 1 → IVec S16 32) a x).toNat < S32768.size a)
theorem k0_idx274_inb : ∀ (v1036 : IVec S16 32) (k0_hw274 : k0_chk274 v1036), ∀ a x, ((![v1036] : Fin 1 → IVec S16 32) a x).toNat < S32768.size a := fun v1036 k0_hw274 => k0_hw274

def k0_chk275 (v1043 : IVec S16 32) : Prop :=
  (∀ a x, ((![v1043] : Fin 1 → IVec S16 32) a x).toNat < S32768.size a)
theorem k0_idx275_inb : ∀ (v1043 : IVec S16 32) (k0_hw275 : k0_chk275 v1043), ∀ a x, ((![v1043] : Fin 1 → IVec S16 32) a x).toNat < S32768.size a := fun v1043 k0_hw275 => k0_hw275

def k0_chk276 (v1050 : IVec S16 32) : Prop :=
  (∀ a x, ((![v1050] : Fin 1 → IVec S16 32) a x).toNat < S32768.size a)
theorem k0_idx276_inb : ∀ (v1050 : IVec S16 32) (k0_hw276 : k0_chk276 v1050), ∀ a x, ((![v1050] : Fin 1 → IVec S16 32) a x).toNat < S32768.size a := fun v1050 k0_hw276 => k0_hw276

def k0_chk277 (v1063 : IVec S16 32) : Prop :=
  (∀ a x, ((![v1063] : Fin 1 → IVec S16 32) a x).toNat < S65536.size a)
theorem k0_idx277_inb : ∀ (v1063 : IVec S16 32) (k0_hw277 : k0_chk277 v1063), ∀ a x, ((![v1063] : Fin 1 → IVec S16 32) a x).toNat < S65536.size a := fun v1063 k0_hw277 => k0_hw277

def k0_chk278 (v1066 : IVec S16 32) : Prop :=
  (∀ a x, ((![v1066] : Fin 1 → IVec S16 32) a x).toNat < S65536.size a)
theorem k0_idx278_inb : ∀ (v1066 : IVec S16 32) (k0_hw278 : k0_chk278 v1066), ∀ a x, ((![v1066] : Fin 1 → IVec S16 32) a x).toNat < S65536.size a := fun v1066 k0_hw278 => k0_hw278

def k0_chk279 (v1069 : IVec S16 32) : Prop :=
  (∀ a x, ((![v1069] : Fin 1 → IVec S16 32) a x).toNat < S65536.size a)
theorem k0_idx279_inb : ∀ (v1069 : IVec S16 32) (k0_hw279 : k0_chk279 v1069), ∀ a x, ((![v1069] : Fin 1 → IVec S16 32) a x).toNat < S65536.size a := fun v1069 k0_hw279 => k0_hw279

def k0_chk280 (v1072 : IVec S16 32) : Prop :=
  (∀ a x, ((![v1072] : Fin 1 → IVec S16 32) a x).toNat < S65536.size a)
theorem k0_idx280_inb : ∀ (v1072 : IVec S16 32) (k0_hw280 : k0_chk280 v1072), ∀ a x, ((![v1072] : Fin 1 → IVec S16 32) a x).toNat < S65536.size a := fun v1072 k0_hw280 => k0_hw280

def k0_chk281 (v1112 : IVec S16 32) : Prop :=
  (∀ a x, ((![v1112] : Fin 1 → IVec S16 32) a x).toNat < S32768.size a)
theorem k0_idx281_inb : ∀ (v1112 : IVec S16 32) (k0_hw281 : k0_chk281 v1112), ∀ a x, ((![v1112] : Fin 1 → IVec S16 32) a x).toNat < S32768.size a := fun v1112 k0_hw281 => k0_hw281

def k0_chk282 (v1119 : IVec S16 32) : Prop :=
  (∀ a x, ((![v1119] : Fin 1 → IVec S16 32) a x).toNat < S32768.size a)
theorem k0_idx282_inb : ∀ (v1119 : IVec S16 32) (k0_hw282 : k0_chk282 v1119), ∀ a x, ((![v1119] : Fin 1 → IVec S16 32) a x).toNat < S32768.size a := fun v1119 k0_hw282 => k0_hw282

def k0_chk283 (v1126 : IVec S16 32) : Prop :=
  (∀ a x, ((![v1126] : Fin 1 → IVec S16 32) a x).toNat < S32768.size a)
theorem k0_idx283_inb : ∀ (v1126 : IVec S16 32) (k0_hw283 : k0_chk283 v1126), ∀ a x, ((![v1126] : Fin 1 → IVec S16 32) a x).toNat < S32768.size a := fun v1126 k0_hw283 => k0_hw283

def k0_chk284 (v1133 : IVec S16 32) : Prop :=
  (∀ a x, ((![v1133] : Fin 1 → IVec S16 32) a x).toNat < S32768.size a)
theorem k0_idx284_inb : ∀ (v1133 : IVec S16 32) (k0_hw284 : k0_chk284 v1133), ∀ a x, ((![v1133] : Fin 1 → IVec S16 32) a x).toNat < S32768.size a := fun v1133 k0_hw284 => k0_hw284

def k0_chk285 (v1140 : IVec S16 32) : Prop :=
  (∀ a x, ((![v1140] : Fin 1 → IVec S16 32) a x).toNat < S32768.size a)
theorem k0_idx285_inb : ∀ (v1140 : IVec S16 32) (k0_hw285 : k0_chk285 v1140), ∀ a x, ((![v1140] : Fin 1 → IVec S16 32) a x).toNat < S32768.size a := fun v1140 k0_hw285 => k0_hw285

def k0_chk286 (v1147 : IVec S16 32) : Prop :=
  (∀ a x, ((![v1147] : Fin 1 → IVec S16 32) a x).toNat < S32768.size a)
theorem k0_idx286_inb : ∀ (v1147 : IVec S16 32) (k0_hw286 : k0_chk286 v1147), ∀ a x, ((![v1147] : Fin 1 → IVec S16 32) a x).toNat < S32768.size a := fun v1147 k0_hw286 => k0_hw286

def k0_chk287 (v1160 : IVec S16 32) : Prop :=
  (∀ a x, ((![v1160] : Fin 1 → IVec S16 32) a x).toNat < S65536.size a)
theorem k0_idx287_inb : ∀ (v1160 : IVec S16 32) (k0_hw287 : k0_chk287 v1160), ∀ a x, ((![v1160] : Fin 1 → IVec S16 32) a x).toNat < S65536.size a := fun v1160 k0_hw287 => k0_hw287

def k0_chk288 (v1163 : IVec S16 32) : Prop :=
  (∀ a x, ((![v1163] : Fin 1 → IVec S16 32) a x).toNat < S65536.size a)
theorem k0_idx288_inb : ∀ (v1163 : IVec S16 32) (k0_hw288 : k0_chk288 v1163), ∀ a x, ((![v1163] : Fin 1 → IVec S16 32) a x).toNat < S65536.size a := fun v1163 k0_hw288 => k0_hw288

def k0_chk289 (v1166 : IVec S16 32) : Prop :=
  (∀ a x, ((![v1166] : Fin 1 → IVec S16 32) a x).toNat < S65536.size a)
theorem k0_idx289_inb : ∀ (v1166 : IVec S16 32) (k0_hw289 : k0_chk289 v1166), ∀ a x, ((![v1166] : Fin 1 → IVec S16 32) a x).toNat < S65536.size a := fun v1166 k0_hw289 => k0_hw289

def k0_chk290 (v1169 : IVec S16 32) : Prop :=
  (∀ a x, ((![v1169] : Fin 1 → IVec S16 32) a x).toNat < S65536.size a)
theorem k0_idx290_inb : ∀ (v1169 : IVec S16 32) (k0_hw290 : k0_chk290 v1169), ∀ a x, ((![v1169] : Fin 1 → IVec S16 32) a x).toNat < S65536.size a := fun v1169 k0_hw290 => k0_hw290
def k0_off43 (k0_t3 : Fin k0_t3_loop.trips) : Fin 1 → Nat :=
  let c0_i32_45 : BitVec 32 := 0#32
  let c1_i32_47 : BitVec 32 := 1#32
  let arg18 : BitVec 32 := Scf.iv c0_i32_45 c1_i32_47 k0_t3
  let c128_i32_54 : BitVec 32 := 128#32
  let v150 : BitVec 32 := Scalar.muli arg18 c128_i32_54
  let c64_i32_339 : BitVec 32 := 64#32
  let v1178 : BitVec 32 := Scalar.addi v150 c64_i32_339
  let v1179 : Index := Scalar.indexCast v1178
  ![v1179.toNat]
def k0_off44 (k0_t3 : Fin k0_t3_loop.trips) : Fin 2 → Nat :=
  let c0_i32_340 : BitVec 32 := 0#32
  let v1182 : Index := Scalar.indexCast c0_i32_340
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c80_i32 : BitVec 32 := 80#32
  let v1181 : BitVec 32 := Scalar.addi v149 c80_i32
  let v1183 : Index := Scalar.indexCast v1181
  ![0, v1183.toNat]
def k0_off45 (k0_t3 : Fin k0_t3_loop.trips) : Fin 2 → Nat :=
  let c1_i32_342 : BitVec 32 := 1#32
  let v1186 : Index := Scalar.indexCast c1_i32_342
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c80_i32_341 : BitVec 32 := 80#32
  let v1185 : BitVec 32 := Scalar.addi v149 c80_i32_341
  let v1187 : Index := Scalar.indexCast v1185
  ![1, v1187.toNat]

def k0_chk291 (v1221 : IVec S16 32) : Prop :=
  (∀ a x, ((![v1221] : Fin 1 → IVec S16 32) a x).toNat < S32768.size a)
theorem k0_idx291_inb : ∀ (v1221 : IVec S16 32) (k0_hw291 : k0_chk291 v1221), ∀ a x, ((![v1221] : Fin 1 → IVec S16 32) a x).toNat < S32768.size a := fun v1221 k0_hw291 => k0_hw291

def k0_chk292 (v1228 : IVec S16 32) : Prop :=
  (∀ a x, ((![v1228] : Fin 1 → IVec S16 32) a x).toNat < S32768.size a)
theorem k0_idx292_inb : ∀ (v1228 : IVec S16 32) (k0_hw292 : k0_chk292 v1228), ∀ a x, ((![v1228] : Fin 1 → IVec S16 32) a x).toNat < S32768.size a := fun v1228 k0_hw292 => k0_hw292

def k0_chk293 (v1235 : IVec S16 32) : Prop :=
  (∀ a x, ((![v1235] : Fin 1 → IVec S16 32) a x).toNat < S32768.size a)
theorem k0_idx293_inb : ∀ (v1235 : IVec S16 32) (k0_hw293 : k0_chk293 v1235), ∀ a x, ((![v1235] : Fin 1 → IVec S16 32) a x).toNat < S32768.size a := fun v1235 k0_hw293 => k0_hw293

def k0_chk294 (v1242 : IVec S16 32) : Prop :=
  (∀ a x, ((![v1242] : Fin 1 → IVec S16 32) a x).toNat < S32768.size a)
theorem k0_idx294_inb : ∀ (v1242 : IVec S16 32) (k0_hw294 : k0_chk294 v1242), ∀ a x, ((![v1242] : Fin 1 → IVec S16 32) a x).toNat < S32768.size a := fun v1242 k0_hw294 => k0_hw294

def k0_chk295 (v1249 : IVec S16 32) : Prop :=
  (∀ a x, ((![v1249] : Fin 1 → IVec S16 32) a x).toNat < S32768.size a)
theorem k0_idx295_inb : ∀ (v1249 : IVec S16 32) (k0_hw295 : k0_chk295 v1249), ∀ a x, ((![v1249] : Fin 1 → IVec S16 32) a x).toNat < S32768.size a := fun v1249 k0_hw295 => k0_hw295

def k0_chk296 (v1256 : IVec S16 32) : Prop :=
  (∀ a x, ((![v1256] : Fin 1 → IVec S16 32) a x).toNat < S32768.size a)
theorem k0_idx296_inb : ∀ (v1256 : IVec S16 32) (k0_hw296 : k0_chk296 v1256), ∀ a x, ((![v1256] : Fin 1 → IVec S16 32) a x).toNat < S32768.size a := fun v1256 k0_hw296 => k0_hw296

def k0_chk297 (v1269 : IVec S16 32) : Prop :=
  (∀ a x, ((![v1269] : Fin 1 → IVec S16 32) a x).toNat < S65536.size a)
theorem k0_idx297_inb : ∀ (v1269 : IVec S16 32) (k0_hw297 : k0_chk297 v1269), ∀ a x, ((![v1269] : Fin 1 → IVec S16 32) a x).toNat < S65536.size a := fun v1269 k0_hw297 => k0_hw297

def k0_chk298 (v1272 : IVec S16 32) : Prop :=
  (∀ a x, ((![v1272] : Fin 1 → IVec S16 32) a x).toNat < S65536.size a)
theorem k0_idx298_inb : ∀ (v1272 : IVec S16 32) (k0_hw298 : k0_chk298 v1272), ∀ a x, ((![v1272] : Fin 1 → IVec S16 32) a x).toNat < S65536.size a := fun v1272 k0_hw298 => k0_hw298

def k0_chk299 (v1275 : IVec S16 32) : Prop :=
  (∀ a x, ((![v1275] : Fin 1 → IVec S16 32) a x).toNat < S65536.size a)
theorem k0_idx299_inb : ∀ (v1275 : IVec S16 32) (k0_hw299 : k0_chk299 v1275), ∀ a x, ((![v1275] : Fin 1 → IVec S16 32) a x).toNat < S65536.size a := fun v1275 k0_hw299 => k0_hw299

def k0_chk300 (v1278 : IVec S16 32) : Prop :=
  (∀ a x, ((![v1278] : Fin 1 → IVec S16 32) a x).toNat < S65536.size a)
theorem k0_idx300_inb : ∀ (v1278 : IVec S16 32) (k0_hw300 : k0_chk300 v1278), ∀ a x, ((![v1278] : Fin 1 → IVec S16 32) a x).toNat < S65536.size a := fun v1278 k0_hw300 => k0_hw300

def k0_chk301 (v1318 : IVec S16 32) : Prop :=
  (∀ a x, ((![v1318] : Fin 1 → IVec S16 32) a x).toNat < S32768.size a)
theorem k0_idx301_inb : ∀ (v1318 : IVec S16 32) (k0_hw301 : k0_chk301 v1318), ∀ a x, ((![v1318] : Fin 1 → IVec S16 32) a x).toNat < S32768.size a := fun v1318 k0_hw301 => k0_hw301

def k0_chk302 (v1325 : IVec S16 32) : Prop :=
  (∀ a x, ((![v1325] : Fin 1 → IVec S16 32) a x).toNat < S32768.size a)
theorem k0_idx302_inb : ∀ (v1325 : IVec S16 32) (k0_hw302 : k0_chk302 v1325), ∀ a x, ((![v1325] : Fin 1 → IVec S16 32) a x).toNat < S32768.size a := fun v1325 k0_hw302 => k0_hw302

def k0_chk303 (v1332 : IVec S16 32) : Prop :=
  (∀ a x, ((![v1332] : Fin 1 → IVec S16 32) a x).toNat < S32768.size a)
theorem k0_idx303_inb : ∀ (v1332 : IVec S16 32) (k0_hw303 : k0_chk303 v1332), ∀ a x, ((![v1332] : Fin 1 → IVec S16 32) a x).toNat < S32768.size a := fun v1332 k0_hw303 => k0_hw303

def k0_chk304 (v1339 : IVec S16 32) : Prop :=
  (∀ a x, ((![v1339] : Fin 1 → IVec S16 32) a x).toNat < S32768.size a)
theorem k0_idx304_inb : ∀ (v1339 : IVec S16 32) (k0_hw304 : k0_chk304 v1339), ∀ a x, ((![v1339] : Fin 1 → IVec S16 32) a x).toNat < S32768.size a := fun v1339 k0_hw304 => k0_hw304

def k0_chk305 (v1346 : IVec S16 32) : Prop :=
  (∀ a x, ((![v1346] : Fin 1 → IVec S16 32) a x).toNat < S32768.size a)
theorem k0_idx305_inb : ∀ (v1346 : IVec S16 32) (k0_hw305 : k0_chk305 v1346), ∀ a x, ((![v1346] : Fin 1 → IVec S16 32) a x).toNat < S32768.size a := fun v1346 k0_hw305 => k0_hw305

def k0_chk306 (v1353 : IVec S16 32) : Prop :=
  (∀ a x, ((![v1353] : Fin 1 → IVec S16 32) a x).toNat < S32768.size a)
theorem k0_idx306_inb : ∀ (v1353 : IVec S16 32) (k0_hw306 : k0_chk306 v1353), ∀ a x, ((![v1353] : Fin 1 → IVec S16 32) a x).toNat < S32768.size a := fun v1353 k0_hw306 => k0_hw306

def k0_chk307 (v1366 : IVec S16 32) : Prop :=
  (∀ a x, ((![v1366] : Fin 1 → IVec S16 32) a x).toNat < S65536.size a)
theorem k0_idx307_inb : ∀ (v1366 : IVec S16 32) (k0_hw307 : k0_chk307 v1366), ∀ a x, ((![v1366] : Fin 1 → IVec S16 32) a x).toNat < S65536.size a := fun v1366 k0_hw307 => k0_hw307

def k0_chk308 (v1369 : IVec S16 32) : Prop :=
  (∀ a x, ((![v1369] : Fin 1 → IVec S16 32) a x).toNat < S65536.size a)
theorem k0_idx308_inb : ∀ (v1369 : IVec S16 32) (k0_hw308 : k0_chk308 v1369), ∀ a x, ((![v1369] : Fin 1 → IVec S16 32) a x).toNat < S65536.size a := fun v1369 k0_hw308 => k0_hw308

def k0_chk309 (v1372 : IVec S16 32) : Prop :=
  (∀ a x, ((![v1372] : Fin 1 → IVec S16 32) a x).toNat < S65536.size a)
theorem k0_idx309_inb : ∀ (v1372 : IVec S16 32) (k0_hw309 : k0_chk309 v1372), ∀ a x, ((![v1372] : Fin 1 → IVec S16 32) a x).toNat < S65536.size a := fun v1372 k0_hw309 => k0_hw309

def k0_chk310 (v1375 : IVec S16 32) : Prop :=
  (∀ a x, ((![v1375] : Fin 1 → IVec S16 32) a x).toNat < S65536.size a)
theorem k0_idx310_inb : ∀ (v1375 : IVec S16 32) (k0_hw310 : k0_chk310 v1375), ∀ a x, ((![v1375] : Fin 1 → IVec S16 32) a x).toNat < S65536.size a := fun v1375 k0_hw310 => k0_hw310
def k0_off46 (k0_t3 : Fin k0_t3_loop.trips) : Fin 1 → Nat :=
  let c0_i32_45 : BitVec 32 := 0#32
  let c1_i32_47 : BitVec 32 := 1#32
  let arg18 : BitVec 32 := Scf.iv c0_i32_45 c1_i32_47 k0_t3
  let c128_i32_54 : BitVec 32 := 128#32
  let v150 : BitVec 32 := Scalar.muli arg18 c128_i32_54
  let c80_i32_397 : BitVec 32 := 80#32
  let v1384 : BitVec 32 := Scalar.addi v150 c80_i32_397
  let v1385 : Index := Scalar.indexCast v1384
  ![v1385.toNat]
def k0_off47 (k0_t3 : Fin k0_t3_loop.trips) : Fin 2 → Nat :=
  let c0_i32_398 : BitVec 32 := 0#32
  let v1388 : Index := Scalar.indexCast c0_i32_398
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c96_i32 : BitVec 32 := 96#32
  let v1387 : BitVec 32 := Scalar.addi v149 c96_i32
  let v1389 : Index := Scalar.indexCast v1387
  ![0, v1389.toNat]
def k0_off48 (k0_t3 : Fin k0_t3_loop.trips) : Fin 2 → Nat :=
  let c1_i32_400 : BitVec 32 := 1#32
  let v1392 : Index := Scalar.indexCast c1_i32_400
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c96_i32_399 : BitVec 32 := 96#32
  let v1391 : BitVec 32 := Scalar.addi v149 c96_i32_399
  let v1393 : Index := Scalar.indexCast v1391
  ![1, v1393.toNat]

def k0_chk311 (v1427 : IVec S16 32) : Prop :=
  (∀ a x, ((![v1427] : Fin 1 → IVec S16 32) a x).toNat < S32768.size a)
theorem k0_idx311_inb : ∀ (v1427 : IVec S16 32) (k0_hw311 : k0_chk311 v1427), ∀ a x, ((![v1427] : Fin 1 → IVec S16 32) a x).toNat < S32768.size a := fun v1427 k0_hw311 => k0_hw311

def k0_chk312 (v1434 : IVec S16 32) : Prop :=
  (∀ a x, ((![v1434] : Fin 1 → IVec S16 32) a x).toNat < S32768.size a)
theorem k0_idx312_inb : ∀ (v1434 : IVec S16 32) (k0_hw312 : k0_chk312 v1434), ∀ a x, ((![v1434] : Fin 1 → IVec S16 32) a x).toNat < S32768.size a := fun v1434 k0_hw312 => k0_hw312

def k0_chk313 (v1441 : IVec S16 32) : Prop :=
  (∀ a x, ((![v1441] : Fin 1 → IVec S16 32) a x).toNat < S32768.size a)
theorem k0_idx313_inb : ∀ (v1441 : IVec S16 32) (k0_hw313 : k0_chk313 v1441), ∀ a x, ((![v1441] : Fin 1 → IVec S16 32) a x).toNat < S32768.size a := fun v1441 k0_hw313 => k0_hw313

def k0_chk314 (v1448 : IVec S16 32) : Prop :=
  (∀ a x, ((![v1448] : Fin 1 → IVec S16 32) a x).toNat < S32768.size a)
theorem k0_idx314_inb : ∀ (v1448 : IVec S16 32) (k0_hw314 : k0_chk314 v1448), ∀ a x, ((![v1448] : Fin 1 → IVec S16 32) a x).toNat < S32768.size a := fun v1448 k0_hw314 => k0_hw314

def k0_chk315 (v1455 : IVec S16 32) : Prop :=
  (∀ a x, ((![v1455] : Fin 1 → IVec S16 32) a x).toNat < S32768.size a)
theorem k0_idx315_inb : ∀ (v1455 : IVec S16 32) (k0_hw315 : k0_chk315 v1455), ∀ a x, ((![v1455] : Fin 1 → IVec S16 32) a x).toNat < S32768.size a := fun v1455 k0_hw315 => k0_hw315

def k0_chk316 (v1462 : IVec S16 32) : Prop :=
  (∀ a x, ((![v1462] : Fin 1 → IVec S16 32) a x).toNat < S32768.size a)
theorem k0_idx316_inb : ∀ (v1462 : IVec S16 32) (k0_hw316 : k0_chk316 v1462), ∀ a x, ((![v1462] : Fin 1 → IVec S16 32) a x).toNat < S32768.size a := fun v1462 k0_hw316 => k0_hw316

def k0_chk317 (v1475 : IVec S16 32) : Prop :=
  (∀ a x, ((![v1475] : Fin 1 → IVec S16 32) a x).toNat < S65536.size a)
theorem k0_idx317_inb : ∀ (v1475 : IVec S16 32) (k0_hw317 : k0_chk317 v1475), ∀ a x, ((![v1475] : Fin 1 → IVec S16 32) a x).toNat < S65536.size a := fun v1475 k0_hw317 => k0_hw317

def k0_chk318 (v1478 : IVec S16 32) : Prop :=
  (∀ a x, ((![v1478] : Fin 1 → IVec S16 32) a x).toNat < S65536.size a)
theorem k0_idx318_inb : ∀ (v1478 : IVec S16 32) (k0_hw318 : k0_chk318 v1478), ∀ a x, ((![v1478] : Fin 1 → IVec S16 32) a x).toNat < S65536.size a := fun v1478 k0_hw318 => k0_hw318

def k0_chk319 (v1481 : IVec S16 32) : Prop :=
  (∀ a x, ((![v1481] : Fin 1 → IVec S16 32) a x).toNat < S65536.size a)
theorem k0_idx319_inb : ∀ (v1481 : IVec S16 32) (k0_hw319 : k0_chk319 v1481), ∀ a x, ((![v1481] : Fin 1 → IVec S16 32) a x).toNat < S65536.size a := fun v1481 k0_hw319 => k0_hw319

def k0_chk320 (v1484 : IVec S16 32) : Prop :=
  (∀ a x, ((![v1484] : Fin 1 → IVec S16 32) a x).toNat < S65536.size a)
theorem k0_idx320_inb : ∀ (v1484 : IVec S16 32) (k0_hw320 : k0_chk320 v1484), ∀ a x, ((![v1484] : Fin 1 → IVec S16 32) a x).toNat < S65536.size a := fun v1484 k0_hw320 => k0_hw320

def k0_chk321 (v1524 : IVec S16 32) : Prop :=
  (∀ a x, ((![v1524] : Fin 1 → IVec S16 32) a x).toNat < S32768.size a)
theorem k0_idx321_inb : ∀ (v1524 : IVec S16 32) (k0_hw321 : k0_chk321 v1524), ∀ a x, ((![v1524] : Fin 1 → IVec S16 32) a x).toNat < S32768.size a := fun v1524 k0_hw321 => k0_hw321

def k0_chk322 (v1531 : IVec S16 32) : Prop :=
  (∀ a x, ((![v1531] : Fin 1 → IVec S16 32) a x).toNat < S32768.size a)
theorem k0_idx322_inb : ∀ (v1531 : IVec S16 32) (k0_hw322 : k0_chk322 v1531), ∀ a x, ((![v1531] : Fin 1 → IVec S16 32) a x).toNat < S32768.size a := fun v1531 k0_hw322 => k0_hw322

def k0_chk323 (v1538 : IVec S16 32) : Prop :=
  (∀ a x, ((![v1538] : Fin 1 → IVec S16 32) a x).toNat < S32768.size a)
theorem k0_idx323_inb : ∀ (v1538 : IVec S16 32) (k0_hw323 : k0_chk323 v1538), ∀ a x, ((![v1538] : Fin 1 → IVec S16 32) a x).toNat < S32768.size a := fun v1538 k0_hw323 => k0_hw323

def k0_chk324 (v1545 : IVec S16 32) : Prop :=
  (∀ a x, ((![v1545] : Fin 1 → IVec S16 32) a x).toNat < S32768.size a)
theorem k0_idx324_inb : ∀ (v1545 : IVec S16 32) (k0_hw324 : k0_chk324 v1545), ∀ a x, ((![v1545] : Fin 1 → IVec S16 32) a x).toNat < S32768.size a := fun v1545 k0_hw324 => k0_hw324

def k0_chk325 (v1552 : IVec S16 32) : Prop :=
  (∀ a x, ((![v1552] : Fin 1 → IVec S16 32) a x).toNat < S32768.size a)
theorem k0_idx325_inb : ∀ (v1552 : IVec S16 32) (k0_hw325 : k0_chk325 v1552), ∀ a x, ((![v1552] : Fin 1 → IVec S16 32) a x).toNat < S32768.size a := fun v1552 k0_hw325 => k0_hw325

def k0_chk326 (v1559 : IVec S16 32) : Prop :=
  (∀ a x, ((![v1559] : Fin 1 → IVec S16 32) a x).toNat < S32768.size a)
theorem k0_idx326_inb : ∀ (v1559 : IVec S16 32) (k0_hw326 : k0_chk326 v1559), ∀ a x, ((![v1559] : Fin 1 → IVec S16 32) a x).toNat < S32768.size a := fun v1559 k0_hw326 => k0_hw326

def k0_chk327 (v1572 : IVec S16 32) : Prop :=
  (∀ a x, ((![v1572] : Fin 1 → IVec S16 32) a x).toNat < S65536.size a)
theorem k0_idx327_inb : ∀ (v1572 : IVec S16 32) (k0_hw327 : k0_chk327 v1572), ∀ a x, ((![v1572] : Fin 1 → IVec S16 32) a x).toNat < S65536.size a := fun v1572 k0_hw327 => k0_hw327

def k0_chk328 (v1575 : IVec S16 32) : Prop :=
  (∀ a x, ((![v1575] : Fin 1 → IVec S16 32) a x).toNat < S65536.size a)
theorem k0_idx328_inb : ∀ (v1575 : IVec S16 32) (k0_hw328 : k0_chk328 v1575), ∀ a x, ((![v1575] : Fin 1 → IVec S16 32) a x).toNat < S65536.size a := fun v1575 k0_hw328 => k0_hw328

def k0_chk329 (v1578 : IVec S16 32) : Prop :=
  (∀ a x, ((![v1578] : Fin 1 → IVec S16 32) a x).toNat < S65536.size a)
theorem k0_idx329_inb : ∀ (v1578 : IVec S16 32) (k0_hw329 : k0_chk329 v1578), ∀ a x, ((![v1578] : Fin 1 → IVec S16 32) a x).toNat < S65536.size a := fun v1578 k0_hw329 => k0_hw329

def k0_chk330 (v1581 : IVec S16 32) : Prop :=
  (∀ a x, ((![v1581] : Fin 1 → IVec S16 32) a x).toNat < S65536.size a)
theorem k0_idx330_inb : ∀ (v1581 : IVec S16 32) (k0_hw330 : k0_chk330 v1581), ∀ a x, ((![v1581] : Fin 1 → IVec S16 32) a x).toNat < S65536.size a := fun v1581 k0_hw330 => k0_hw330
def k0_off49 (k0_t3 : Fin k0_t3_loop.trips) : Fin 1 → Nat :=
  let c0_i32_45 : BitVec 32 := 0#32
  let c1_i32_47 : BitVec 32 := 1#32
  let arg18 : BitVec 32 := Scf.iv c0_i32_45 c1_i32_47 k0_t3
  let c128_i32_54 : BitVec 32 := 128#32
  let v150 : BitVec 32 := Scalar.muli arg18 c128_i32_54
  let c96_i32_455 : BitVec 32 := 96#32
  let v1590 : BitVec 32 := Scalar.addi v150 c96_i32_455
  let v1591 : Index := Scalar.indexCast v1590
  ![v1591.toNat]
def k0_off50 (k0_t3 : Fin k0_t3_loop.trips) : Fin 2 → Nat :=
  let c0_i32_457 : BitVec 32 := 0#32
  let v1594 : Index := Scalar.indexCast c0_i32_457
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c112_i32_456 : BitVec 32 := 112#32
  let v1593 : BitVec 32 := Scalar.addi v149 c112_i32_456
  let v1595 : Index := Scalar.indexCast v1593
  ![0, v1595.toNat]
def k0_off51 (k0_t3 : Fin k0_t3_loop.trips) : Fin 2 → Nat :=
  let c1_i32_459 : BitVec 32 := 1#32
  let v1598 : Index := Scalar.indexCast c1_i32_459
  let c0_i32_45 : BitVec 32 := 0#32
  let c1_i32_47 : BitVec 32 := 1#32
  let arg18 : BitVec 32 := Scf.iv c0_i32_45 c1_i32_47 k0_t3
  let c128_i32_53 : BitVec 32 := 128#32
  let v149 : BitVec 32 := Scalar.muli arg18 c128_i32_53
  let c112_i32_458 : BitVec 32 := 112#32
  let v1597 : BitVec 32 := Scalar.addi v149 c112_i32_458
  let v1599 : Index := Scalar.indexCast v1597
  ![1, v1599.toNat]

def k0_chk331 (v1633 : IVec S16 32) : Prop :=
  (∀ a x, ((![v1633] : Fin 1 → IVec S16 32) a x).toNat < S32768.size a)
theorem k0_idx331_inb : ∀ (v1633 : IVec S16 32) (k0_hw331 : k0_chk331 v1633), ∀ a x, ((![v1633] : Fin 1 → IVec S16 32) a x).toNat < S32768.size a := fun v1633 k0_hw331 => k0_hw331

def k0_chk332 (v1640 : IVec S16 32) : Prop :=
  (∀ a x, ((![v1640] : Fin 1 → IVec S16 32) a x).toNat < S32768.size a)
theorem k0_idx332_inb : ∀ (v1640 : IVec S16 32) (k0_hw332 : k0_chk332 v1640), ∀ a x, ((![v1640] : Fin 1 → IVec S16 32) a x).toNat < S32768.size a := fun v1640 k0_hw332 => k0_hw332

def k0_chk333 (v1647 : IVec S16 32) : Prop :=
  (∀ a x, ((![v1647] : Fin 1 → IVec S16 32) a x).toNat < S32768.size a)
theorem k0_idx333_inb : ∀ (v1647 : IVec S16 32) (k0_hw333 : k0_chk333 v1647), ∀ a x, ((![v1647] : Fin 1 → IVec S16 32) a x).toNat < S32768.size a := fun v1647 k0_hw333 => k0_hw333

def k0_chk334 (v1654 : IVec S16 32) : Prop :=
  (∀ a x, ((![v1654] : Fin 1 → IVec S16 32) a x).toNat < S32768.size a)
theorem k0_idx334_inb : ∀ (v1654 : IVec S16 32) (k0_hw334 : k0_chk334 v1654), ∀ a x, ((![v1654] : Fin 1 → IVec S16 32) a x).toNat < S32768.size a := fun v1654 k0_hw334 => k0_hw334

def k0_chk335 (v1661 : IVec S16 32) : Prop :=
  (∀ a x, ((![v1661] : Fin 1 → IVec S16 32) a x).toNat < S32768.size a)
theorem k0_idx335_inb : ∀ (v1661 : IVec S16 32) (k0_hw335 : k0_chk335 v1661), ∀ a x, ((![v1661] : Fin 1 → IVec S16 32) a x).toNat < S32768.size a := fun v1661 k0_hw335 => k0_hw335

def k0_chk336 (v1668 : IVec S16 32) : Prop :=
  (∀ a x, ((![v1668] : Fin 1 → IVec S16 32) a x).toNat < S32768.size a)
theorem k0_idx336_inb : ∀ (v1668 : IVec S16 32) (k0_hw336 : k0_chk336 v1668), ∀ a x, ((![v1668] : Fin 1 → IVec S16 32) a x).toNat < S32768.size a := fun v1668 k0_hw336 => k0_hw336

def k0_chk337 (v1681 : IVec S16 32) : Prop :=
  (∀ a x, ((![v1681] : Fin 1 → IVec S16 32) a x).toNat < S65536.size a)
theorem k0_idx337_inb : ∀ (v1681 : IVec S16 32) (k0_hw337 : k0_chk337 v1681), ∀ a x, ((![v1681] : Fin 1 → IVec S16 32) a x).toNat < S65536.size a := fun v1681 k0_hw337 => k0_hw337

def k0_chk338 (v1684 : IVec S16 32) : Prop :=
  (∀ a x, ((![v1684] : Fin 1 → IVec S16 32) a x).toNat < S65536.size a)
theorem k0_idx338_inb : ∀ (v1684 : IVec S16 32) (k0_hw338 : k0_chk338 v1684), ∀ a x, ((![v1684] : Fin 1 → IVec S16 32) a x).toNat < S65536.size a := fun v1684 k0_hw338 => k0_hw338

def k0_chk339 (v1687 : IVec S16 32) : Prop :=
  (∀ a x, ((![v1687] : Fin 1 → IVec S16 32) a x).toNat < S65536.size a)
theorem k0_idx339_inb : ∀ (v1687 : IVec S16 32) (k0_hw339 : k0_chk339 v1687), ∀ a x, ((![v1687] : Fin 1 → IVec S16 32) a x).toNat < S65536.size a := fun v1687 k0_hw339 => k0_hw339

def k0_chk340 (v1690 : IVec S16 32) : Prop :=
  (∀ a x, ((![v1690] : Fin 1 → IVec S16 32) a x).toNat < S65536.size a)
theorem k0_idx340_inb : ∀ (v1690 : IVec S16 32) (k0_hw340 : k0_chk340 v1690), ∀ a x, ((![v1690] : Fin 1 → IVec S16 32) a x).toNat < S65536.size a := fun v1690 k0_hw340 => k0_hw340

def k0_chk341 (v1730 : IVec S16 32) : Prop :=
  (∀ a x, ((![v1730] : Fin 1 → IVec S16 32) a x).toNat < S32768.size a)
theorem k0_idx341_inb : ∀ (v1730 : IVec S16 32) (k0_hw341 : k0_chk341 v1730), ∀ a x, ((![v1730] : Fin 1 → IVec S16 32) a x).toNat < S32768.size a := fun v1730 k0_hw341 => k0_hw341

def k0_chk342 (v1737 : IVec S16 32) : Prop :=
  (∀ a x, ((![v1737] : Fin 1 → IVec S16 32) a x).toNat < S32768.size a)
theorem k0_idx342_inb : ∀ (v1737 : IVec S16 32) (k0_hw342 : k0_chk342 v1737), ∀ a x, ((![v1737] : Fin 1 → IVec S16 32) a x).toNat < S32768.size a := fun v1737 k0_hw342 => k0_hw342

def k0_chk343 (v1744 : IVec S16 32) : Prop :=
  (∀ a x, ((![v1744] : Fin 1 → IVec S16 32) a x).toNat < S32768.size a)
theorem k0_idx343_inb : ∀ (v1744 : IVec S16 32) (k0_hw343 : k0_chk343 v1744), ∀ a x, ((![v1744] : Fin 1 → IVec S16 32) a x).toNat < S32768.size a := fun v1744 k0_hw343 => k0_hw343

def k0_chk344 (v1751 : IVec S16 32) : Prop :=
  (∀ a x, ((![v1751] : Fin 1 → IVec S16 32) a x).toNat < S32768.size a)
theorem k0_idx344_inb : ∀ (v1751 : IVec S16 32) (k0_hw344 : k0_chk344 v1751), ∀ a x, ((![v1751] : Fin 1 → IVec S16 32) a x).toNat < S32768.size a := fun v1751 k0_hw344 => k0_hw344

def k0_chk345 (v1758 : IVec S16 32) : Prop :=
  (∀ a x, ((![v1758] : Fin 1 → IVec S16 32) a x).toNat < S32768.size a)
theorem k0_idx345_inb : ∀ (v1758 : IVec S16 32) (k0_hw345 : k0_chk345 v1758), ∀ a x, ((![v1758] : Fin 1 → IVec S16 32) a x).toNat < S32768.size a := fun v1758 k0_hw345 => k0_hw345

def k0_chk346 (v1765 : IVec S16 32) : Prop :=
  (∀ a x, ((![v1765] : Fin 1 → IVec S16 32) a x).toNat < S32768.size a)
theorem k0_idx346_inb : ∀ (v1765 : IVec S16 32) (k0_hw346 : k0_chk346 v1765), ∀ a x, ((![v1765] : Fin 1 → IVec S16 32) a x).toNat < S32768.size a := fun v1765 k0_hw346 => k0_hw346

def k0_chk347 (v1778 : IVec S16 32) : Prop :=
  (∀ a x, ((![v1778] : Fin 1 → IVec S16 32) a x).toNat < S65536.size a)
theorem k0_idx347_inb : ∀ (v1778 : IVec S16 32) (k0_hw347 : k0_chk347 v1778), ∀ a x, ((![v1778] : Fin 1 → IVec S16 32) a x).toNat < S65536.size a := fun v1778 k0_hw347 => k0_hw347

def k0_chk348 (v1781 : IVec S16 32) : Prop :=
  (∀ a x, ((![v1781] : Fin 1 → IVec S16 32) a x).toNat < S65536.size a)
theorem k0_idx348_inb : ∀ (v1781 : IVec S16 32) (k0_hw348 : k0_chk348 v1781), ∀ a x, ((![v1781] : Fin 1 → IVec S16 32) a x).toNat < S65536.size a := fun v1781 k0_hw348 => k0_hw348

def k0_chk349 (v1784 : IVec S16 32) : Prop :=
  (∀ a x, ((![v1784] : Fin 1 → IVec S16 32) a x).toNat < S65536.size a)
theorem k0_idx349_inb : ∀ (v1784 : IVec S16 32) (k0_hw349 : k0_chk349 v1784), ∀ a x, ((![v1784] : Fin 1 → IVec S16 32) a x).toNat < S65536.size a := fun v1784 k0_hw349 => k0_hw349

def k0_chk350 (v1787 : IVec S16 32) : Prop :=
  (∀ a x, ((![v1787] : Fin 1 → IVec S16 32) a x).toNat < S65536.size a)
theorem k0_idx350_inb : ∀ (v1787 : IVec S16 32) (k0_hw350 : k0_chk350 v1787), ∀ a x, ((![v1787] : Fin 1 → IVec S16 32) a x).toNat < S65536.size a := fun v1787 k0_hw350 => k0_hw350
def k0_off52 (k0_t3 : Fin k0_t3_loop.trips) : Fin 1 → Nat :=
  let c0_i32_45 : BitVec 32 := 0#32
  let c1_i32_47 : BitVec 32 := 1#32
  let arg18 : BitVec 32 := Scf.iv c0_i32_45 c1_i32_47 k0_t3
  let c128_i32_54 : BitVec 32 := 128#32
  let v150 : BitVec 32 := Scalar.muli arg18 c128_i32_54
  let c112_i32_514 : BitVec 32 := 112#32
  let v1796 : BitVec 32 := Scalar.addi v150 c112_i32_514
  let v1797 : Index := Scalar.indexCast v1796
  ![v1797.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4000000x2 : Shape := ⟨2, ![4000000, 2]⟩
abbrev S1024x2 : Shape := ⟨2, ![1024, 2]⟩
abbrev S1023x2 : Shape := ⟨2, ![1023, 2]⟩
abbrev S4000000x1 : Shape := ⟨2, ![4000000, 1]⟩
abbrev S4000000 : Shape := ⟨1, ![4000000]⟩
abbrev S1024x1 : Shape := ⟨2, ![1024, 1]⟩
abbrev S1024 : Shape := ⟨1, ![1024]⟩
abbrev S1023x1 : Shape := ⟨2, ![1023, 1]⟩
abbrev S1023 : Shape := ⟨1, ![1023]⟩
abbrev S1x1024 : Shape := ⟨2, ![1, 1024]⟩
abbrev S4000000x1024 : Shape := ⟨2, ![4000000, 1024]⟩
abbrev S_ : Shape := ⟨0, ![]⟩
abbrev S1 : Shape := ⟨1, ![1]⟩
abbrev S1x1 : Shape := ⟨2, ![1, 1]⟩

abbrev nBuf : Space → Nat
  | .hbm => 263
  | .vmem => 0
  | .smem => 0
  | _ => 0

abbrev hbmTy0_0 (i : Nat) : BufTy := match i % 128 with
  | 0 => ⟨S4000000x2, .f32⟩
  | 1 => ⟨S1024x2, .f32⟩
  | 2 => ⟨S1023x2, .f32⟩
  | 3 => ⟨S1023x2, .f32⟩
  | 4 => ⟨S1023x2, .f32⟩
  | 5 => ⟨S1023x2, .f32⟩
  | 6 => ⟨S4000000x1, .f32⟩
  | 7 => ⟨S4000000, .f32⟩
  | 8 => ⟨S1024x1, .f32⟩
  | 9 => ⟨S1024, .f32⟩
  | 10 => ⟨S1023x1, .f32⟩
  | 11 => ⟨S1023, .f32⟩
  | 12 => ⟨S1023x1, .f32⟩
  | 13 => ⟨S1023, .f32⟩
  | 14 => ⟨S1023x1, .f32⟩
  | 15 => ⟨S1023, .f32⟩
  | 16 => ⟨S1023x1, .f32⟩
  | 17 => ⟨S1023, .f32⟩
  | 18 => ⟨S1x1024, .f32⟩
  | 19 => ⟨S4000000x1, .f32⟩
  | 20 => ⟨S4000000x1024, .f32⟩
  | 21 => ⟨S4000000x1024, .f32⟩
  | 22 => ⟨S4000000x1024, .i1⟩
  | 23 => ⟨S4000000x1024, .i32⟩
  | 24 => ⟨S_, .i32⟩
  | 25 => ⟨S4000000, .i32⟩
  | 26 => ⟨S_, .i32⟩
  | 27 => ⟨S4000000, .i32⟩
  | 28 => ⟨S4000000, .i32⟩
  | 29 => ⟨S_, .i32⟩
  | 30 => ⟨S_, .i32⟩
  | 31 => ⟨S_, .i32⟩
  | 32 => ⟨S4000000, .i32⟩
  | 33 => ⟨S4000000, .i32⟩
  | 34 => ⟨S_, .i32⟩
  | 35 => ⟨S4000000, .i32⟩
  | 36 => ⟨S4000000, .i32⟩
  | 37 => ⟨S_, .i32⟩
  | 38 => ⟨S4000000, .i32⟩
  | 39 => ⟨S4000000, .i1⟩
  | 40 => ⟨S_, .i32⟩
  | 41 => ⟨S4000000, .i32⟩
  | 42 => ⟨S4000000, .i32⟩
  | 43 => ⟨S4000000, .i32⟩
  | 44 => ⟨S4000000x1, .i32⟩
  | 45 => ⟨S1, .i32⟩
  | 46 => ⟨S_, .i32⟩
  | 47 => ⟨S4000000x1, .i32⟩
  | 48 => ⟨S4000000x1, .i1⟩
  | 49 => ⟨S1x1, .i32⟩
  | 50 => ⟨S4000000x1, .i32⟩
  | 51 => ⟨S4000000x1, .i1⟩
  | 52 => ⟨S4000000x1, .i1⟩
  | 53 => ⟨S_, .i1⟩
  | 54 => ⟨S4000000, .i1⟩
  | 55 => ⟨S4000000, .f32⟩
  | 56 => ⟨S_, .f32⟩
  | 57 => ⟨S4000000, .f32⟩
  | 58 => ⟨S4000000, .f32⟩
  | 59 => ⟨S_, .i32⟩
  | 60 => ⟨S4000000, .i32⟩
  | 61 => ⟨S4000000, .i1⟩
  | 62 => ⟨S_, .i32⟩
  | 63 => ⟨S4000000, .i32⟩
  | 64 => ⟨S4000000, .i32⟩
  | 65 => ⟨S4000000, .i32⟩
  | 66 => ⟨S4000000x1, .i32⟩
  | 67 => ⟨S1, .i32⟩
  | 68 => ⟨S_, .i32⟩
  | 69 => ⟨S4000000x1, .i32⟩
  | 70 => ⟨S4000000x1, .i1⟩
  | 71 => ⟨S1x1, .i32⟩
  | 72 => ⟨S4000000x1, .i32⟩
  | 73 => ⟨S4000000x1, .i1⟩
  | 74 => ⟨S4000000x1, .i1⟩
  | 75 => ⟨S_, .i1⟩
  | 76 => ⟨S4000000, .i1⟩
  | 77 => ⟨S4000000, .f32⟩
  | 78 => ⟨S_, .f32⟩
  | 79 => ⟨S4000000, .f32⟩
  | 80 => ⟨S4000000, .f32⟩
  | 81 => ⟨S_, .i32⟩
  | 82 => ⟨S4000000, .i32⟩
  | 83 => ⟨S4000000, .i1⟩
  | 84 => ⟨S_, .i32⟩
  | 85 => ⟨S4000000, .i32⟩
  | 86 => ⟨S4000000, .i32⟩
  | 87 => ⟨S4000000, .i32⟩
  | 88 => ⟨S4000000x1, .i32⟩
  | 89 => ⟨S1, .i32⟩
  | 90 => ⟨S_, .i32⟩
  | 91 => ⟨S4000000x1, .i32⟩
  | 92 => ⟨S4000000x1, .i1⟩
  | 93 => ⟨S1x1, .i32⟩
  | 94 => ⟨S4000000x1, .i32⟩
  | 95 => ⟨S4000000x1, .i1⟩
  | 96 => ⟨S4000000x1, .i1⟩
  | 97 => ⟨S_, .i1⟩
  | 98 => ⟨S4000000, .i1⟩
  | 99 => ⟨S4000000, .f32⟩
  | 100 => ⟨S_, .f32⟩
  | 101 => ⟨S4000000, .f32⟩
  | 102 => ⟨S4000000, .f32⟩
  | 103 => ⟨S_, .i32⟩
  | 104 => ⟨S4000000, .i32⟩
  | 105 => ⟨S4000000, .i1⟩
  | 106 => ⟨S_, .i32⟩
  | 107 => ⟨S4000000, .i32⟩
  | 108 => ⟨S4000000, .i32⟩
  | 109 => ⟨S4000000, .i32⟩
  | 110 => ⟨S4000000x1, .i32⟩
  | 111 => ⟨S1, .i32⟩
  | 112 => ⟨S_, .i32⟩
  | 113 => ⟨S4000000x1, .i32⟩
  | 114 => ⟨S4000000x1, .i1⟩
  | 115 => ⟨S1x1, .i32⟩
  | 116 => ⟨S4000000x1, .i32⟩
  | 117 => ⟨S4000000x1, .i1⟩
  | 118 => ⟨S4000000x1, .i1⟩
  | 119 => ⟨S_, .i1⟩
  | 120 => ⟨S4000000, .i1⟩
  | 121 => ⟨S4000000, .f32⟩
  | 122 => ⟨S_, .f32⟩
  | 123 => ⟨S4000000, .f32⟩
  | 124 => ⟨S4000000, .f32⟩
  | 125 => ⟨S4000000, .f32⟩
  | 126 => ⟨S4000000, .f32⟩
  | 127 => ⟨S4000000, .f32⟩
  | _ => ⟨S4000000x2, .f32⟩

abbrev hbmTy0_1 (i : Nat) : BufTy := match i % 128 with
  | 0 => ⟨S4000000, .f32⟩
  | 1 => ⟨S4000000, .f32⟩
  | 2 => ⟨S4000000, .f32⟩
  | 3 => ⟨S4000000, .f32⟩
  | 4 => ⟨S4000000, .f32⟩
  | 5 => ⟨S4000000, .f32⟩
  | 6 => ⟨S4000000x1, .f32⟩
  | 7 => ⟨S4000000, .f32⟩
  | 8 => ⟨S1024x1, .f32⟩
  | 9 => ⟨S1024, .f32⟩
  | 10 => ⟨S1023x1, .f32⟩
  | 11 => ⟨S1023, .f32⟩
  | 12 => ⟨S1023x1, .f32⟩
  | 13 => ⟨S1023, .f32⟩
  | 14 => ⟨S1023x1, .f32⟩
  | 15 => ⟨S1023, .f32⟩
  | 16 => ⟨S1023x1, .f32⟩
  | 17 => ⟨S1023, .f32⟩
  | 18 => ⟨S1x1024, .f32⟩
  | 19 => ⟨S4000000x1, .f32⟩
  | 20 => ⟨S4000000x1024, .f32⟩
  | 21 => ⟨S4000000x1024, .f32⟩
  | 22 => ⟨S4000000x1024, .i1⟩
  | 23 => ⟨S4000000x1024, .i32⟩
  | 24 => ⟨S_, .i32⟩
  | 25 => ⟨S4000000, .i32⟩
  | 26 => ⟨S_, .i32⟩
  | 27 => ⟨S4000000, .i32⟩
  | 28 => ⟨S4000000, .i32⟩
  | 29 => ⟨S_, .i32⟩
  | 30 => ⟨S_, .i32⟩
  | 31 => ⟨S_, .i32⟩
  | 32 => ⟨S4000000, .i32⟩
  | 33 => ⟨S4000000, .i32⟩
  | 34 => ⟨S_, .i32⟩
  | 35 => ⟨S4000000, .i32⟩
  | 36 => ⟨S4000000, .i32⟩
  | 37 => ⟨S_, .i32⟩
  | 38 => ⟨S4000000, .i32⟩
  | 39 => ⟨S4000000, .i1⟩
  | 40 => ⟨S_, .i32⟩
  | 41 => ⟨S4000000, .i32⟩
  | 42 => ⟨S4000000, .i32⟩
  | 43 => ⟨S4000000, .i32⟩
  | 44 => ⟨S4000000x1, .i32⟩
  | 45 => ⟨S1, .i32⟩
  | 46 => ⟨S_, .i32⟩
  | 47 => ⟨S4000000x1, .i32⟩
  | 48 => ⟨S4000000x1, .i1⟩
  | 49 => ⟨S1x1, .i32⟩
  | 50 => ⟨S4000000x1, .i32⟩
  | 51 => ⟨S4000000x1, .i1⟩
  | 52 => ⟨S4000000x1, .i1⟩
  | 53 => ⟨S_, .i1⟩
  | 54 => ⟨S4000000, .i1⟩
  | 55 => ⟨S4000000, .f32⟩
  | 56 => ⟨S_, .f32⟩
  | 57 => ⟨S4000000, .f32⟩
  | 58 => ⟨S4000000, .f32⟩
  | 59 => ⟨S_, .i32⟩
  | 60 => ⟨S4000000, .i32⟩
  | 61 => ⟨S4000000, .i1⟩
  | 62 => ⟨S_, .i32⟩
  | 63 => ⟨S4000000, .i32⟩
  | 64 => ⟨S4000000, .i32⟩
  | 65 => ⟨S4000000, .i32⟩
  | 66 => ⟨S4000000x1, .i32⟩
  | 67 => ⟨S1, .i32⟩
  | 68 => ⟨S_, .i32⟩
  | 69 => ⟨S4000000x1, .i32⟩
  | 70 => ⟨S4000000x1, .i1⟩
  | 71 => ⟨S1x1, .i32⟩
  | 72 => ⟨S4000000x1, .i32⟩
  | 73 => ⟨S4000000x1, .i1⟩
  | 74 => ⟨S4000000x1, .i1⟩
  | 75 => ⟨S_, .i1⟩
  | 76 => ⟨S4000000, .i1⟩
  | 77 => ⟨S4000000, .f32⟩
  | 78 => ⟨S_, .f32⟩
  | 79 => ⟨S4000000, .f32⟩
  | 80 => ⟨S4000000, .f32⟩
  | 81 => ⟨S_, .i32⟩
  | 82 => ⟨S4000000, .i32⟩
  | 83 => ⟨S4000000, .i1⟩
  | 84 => ⟨S_, .i32⟩
  | 85 => ⟨S4000000, .i32⟩
  | 86 => ⟨S4000000, .i32⟩
  | 87 => ⟨S4000000, .i32⟩
  | 88 => ⟨S4000000x1, .i32⟩
  | 89 => ⟨S1, .i32⟩
  | 90 => ⟨S_, .i32⟩
  | 91 => ⟨S4000000x1, .i32⟩
  | 92 => ⟨S4000000x1, .i1⟩
  | 93 => ⟨S1x1, .i32⟩
  | 94 => ⟨S4000000x1, .i32⟩
  | 95 => ⟨S4000000x1, .i1⟩
  | 96 => ⟨S4000000x1, .i1⟩
  | 97 => ⟨S_, .i1⟩
  | 98 => ⟨S4000000, .i1⟩
  | 99 => ⟨S4000000, .f32⟩
  | 100 => ⟨S_, .f32⟩
  | 101 => ⟨S4000000, .f32⟩
  | 102 => ⟨S4000000, .f32⟩
  | 103 => ⟨S_, .i32⟩
  | 104 => ⟨S4000000, .i32⟩
  | 105 => ⟨S4000000, .i1⟩
  | 106 => ⟨S_, .i32⟩
  | 107 => ⟨S4000000, .i32⟩
  | 108 => ⟨S4000000, .i32⟩
  | 109 => ⟨S4000000, .i32⟩
  | 110 => ⟨S4000000x1, .i32⟩
  | 111 => ⟨S1, .i32⟩
  | 112 => ⟨S_, .i32⟩
  | 113 => ⟨S4000000x1, .i32⟩
  | 114 => ⟨S4000000x1, .i1⟩
  | 115 => ⟨S1x1, .i32⟩
  | 116 => ⟨S4000000x1, .i32⟩
  | 117 => ⟨S4000000x1, .i1⟩
  | 118 => ⟨S4000000x1, .i1⟩
  | 119 => ⟨S_, .i1⟩
  | 120 => ⟨S4000000, .i1⟩
  | 121 => ⟨S4000000, .f32⟩
  | 122 => ⟨S_, .f32⟩
  | 123 => ⟨S4000000, .f32⟩
  | 124 => ⟨S4000000, .f32⟩
  | 125 => ⟨S4000000, .f32⟩
  | 126 => ⟨S4000000, .f32⟩
  | 127 => ⟨S4000000, .f32⟩
  | _ => ⟨S4000000x2, .f32⟩

abbrev hbmTy0_2 (i : Nat) : BufTy := match i % 128 with
  | 0 => ⟨S4000000, .f32⟩
  | 1 => ⟨S4000000, .f32⟩
  | 2 => ⟨S4000000, .f32⟩
  | 3 => ⟨S4000000, .f32⟩
  | 4 => ⟨S4000000, .f32⟩
  | 5 => ⟨S4000000, .f32⟩
  | 6 => ⟨S4000000, .f32⟩
  | _ => ⟨S4000000x2, .f32⟩

abbrev hbmTy (i : Nat) : BufTy := match i / 128 with
  | 0 => hbmTy0_0 i
  | 1 => hbmTy0_1 i
  | 2 => hbmTy0_2 i
  | _ => ⟨S4000000x2, .f32⟩

abbrev bufTy : (tb : Table) → Fin (tcTables nBuf tb) → BufTy
  | .hbm, ⟨i, _⟩ => hbmTy i
  | _, _ => ⟨S4000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v22 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v23 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v24 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_cst : Ref sig .tc := ⟨.hbm, 122, rfl⟩
abbrev main_call4_v14 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_c_3 : Ref sig .tc := ⟨.hbm, 152, rfl⟩
abbrev main_v53 : Ref sig .tc := ⟨.hbm, 153, rfl⟩
abbrev main_c_4 : Ref sig .tc := ⟨.hbm, 154, rfl⟩
abbrev main_v54 : Ref sig .tc := ⟨.hbm, 155, rfl⟩
abbrev main_v55 : Ref sig .tc := ⟨.hbm, 156, rfl⟩
abbrev main_c_5 : Ref sig .tc := ⟨.hbm, 157, rfl⟩
abbrev main_c_6 : Ref sig .tc := ⟨.hbm, 158, rfl⟩
abbrev main_call5_v0 : Ref sig .tc := ⟨.hbm, 159, rfl⟩
abbrev main_call5_v1 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_v56 : Ref sig .tc := ⟨.hbm, 164, rfl⟩
abbrev main_call6_c : Ref sig .tc := ⟨.hbm, 165, rfl⟩
abbrev main_call6_v0 : Ref sig .tc := ⟨.hbm, 166, rfl⟩
abbrev main_call6_v1 : Ref sig .tc := ⟨.hbm, 167, rfl⟩
abbrev main_call6_c_0 : Ref sig .tc := ⟨.hbm, 168, rfl⟩
abbrev main_call6_v2 : Ref sig .tc := ⟨.hbm, 169, rfl⟩
abbrev main_call6_v3 : Ref sig .tc := ⟨.hbm, 170, rfl⟩
abbrev main_call6_v4 : Ref sig .tc := ⟨.hbm, 171, rfl⟩
abbrev main_call6_v5 : Ref sig .tc := ⟨.hbm, 172, rfl⟩
abbrev main_call6_c_1 : Ref sig .tc := ⟨.hbm, 173, rfl⟩
abbrev main_call6_c_2 : Ref sig .tc := ⟨.hbm, 174, rfl⟩
abbrev main_call6_v6 : Ref sig .tc := ⟨.hbm, 175, rfl⟩
abbrev main_call6_v7 : Ref sig .tc := ⟨.hbm, 176, rfl⟩
abbrev main_call6_v8 : Ref sig .tc := ⟨.hbm, 177, rfl⟩
abbrev main_call6_v9 : Ref sig .tc := ⟨.hbm, 178, rfl⟩
abbrev main_call6_v10 : Ref sig .tc := ⟨.hbm, 179, rfl⟩
abbrev main_call6_v11 : Ref sig .tc := ⟨.hbm, 180, rfl⟩
abbrev main_call6_c_3 : Ref sig .tc := ⟨.hbm, 181, rfl⟩
abbrev main_call6_v12 : Ref sig .tc := ⟨.hbm, 182, rfl⟩
abbrev main_call6_v13 : Ref sig .tc := ⟨.hbm, 183, rfl⟩
abbrev main_call6_cst : Ref sig .tc := ⟨.hbm, 184, rfl⟩
abbrev main_call6_v14 : Ref sig .tc := ⟨.hbm, 185, rfl⟩
abbrev main_v57 : Ref sig .tc := ⟨.hbm, 186, rfl⟩
abbrev main_call7_c : Ref sig .tc := ⟨.hbm, 187, rfl⟩
abbrev main_call7_v0 : Ref sig .tc := ⟨.hbm, 188, rfl⟩
abbrev main_call7_v1 : Ref sig .tc := ⟨.hbm, 189, rfl⟩
abbrev main_call7_c_0 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_call7_v5 : Ref sig .tc := ⟨.hbm, 194, rfl⟩
abbrev main_call7_c_1 : Ref sig .tc := ⟨.hbm, 195, rfl⟩
abbrev main_call7_c_2 : Ref sig .tc := ⟨.hbm, 196, rfl⟩
abbrev main_call7_v6 : Ref sig .tc := ⟨.hbm, 197, rfl⟩
abbrev main_call7_v7 : Ref sig .tc := ⟨.hbm, 198, rfl⟩
abbrev main_call7_v8 : Ref sig .tc := ⟨.hbm, 199, rfl⟩
abbrev main_call7_v9 : Ref sig .tc := ⟨.hbm, 200, rfl⟩
abbrev main_call7_v10 : Ref sig .tc := ⟨.hbm, 201, rfl⟩
abbrev main_call7_v11 : Ref sig .tc := ⟨.hbm, 202, rfl⟩
abbrev main_call7_c_3 : Ref sig .tc := ⟨.hbm, 203, rfl⟩
abbrev main_call7_v12 : Ref sig .tc := ⟨.hbm, 204, rfl⟩
abbrev main_call7_v13 : Ref sig .tc := ⟨.hbm, 205, rfl⟩
abbrev main_call7_cst : Ref sig .tc := ⟨.hbm, 206, rfl⟩
abbrev main_call7_v14 : Ref sig .tc := ⟨.hbm, 207, rfl⟩
abbrev main_v58 : Ref sig .tc := ⟨.hbm, 208, rfl⟩
abbrev main_call8_c : Ref sig .tc := ⟨.hbm, 209, rfl⟩
abbrev main_call8_v0 : Ref sig .tc := ⟨.hbm, 210, rfl⟩
abbrev main_call8_v1 : Ref sig .tc := ⟨.hbm, 211, rfl⟩
abbrev main_call8_c_0 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_call8_v5 : Ref sig .tc := ⟨.hbm, 216, rfl⟩
abbrev main_call8_c_1 : Ref sig .tc := ⟨.hbm, 217, rfl⟩
abbrev main_call8_c_2 : Ref sig .tc := ⟨.hbm, 218, rfl⟩
abbrev main_call8_v6 : Ref sig .tc := ⟨.hbm, 219, rfl⟩
abbrev main_call8_v7 : Ref sig .tc := ⟨.hbm, 220, rfl⟩
abbrev main_call8_v8 : Ref sig .tc := ⟨.hbm, 221, rfl⟩
abbrev main_call8_v9 : Ref sig .tc := ⟨.hbm, 222, rfl⟩
abbrev main_call8_v10 : Ref sig .tc := ⟨.hbm, 223, rfl⟩
abbrev main_call8_v11 : Ref sig .tc := ⟨.hbm, 224, rfl⟩
abbrev main_call8_c_3 : Ref sig .tc := ⟨.hbm, 225, rfl⟩
abbrev main_call8_v12 : Ref sig .tc := ⟨.hbm, 226, rfl⟩
abbrev main_call8_v13 : Ref sig .tc := ⟨.hbm, 227, rfl⟩
abbrev main_call8_cst : Ref sig .tc := ⟨.hbm, 228, rfl⟩
abbrev main_call8_v14 : Ref sig .tc := ⟨.hbm, 229, rfl⟩
abbrev main_v59 : Ref sig .tc := ⟨.hbm, 230, rfl⟩
abbrev main_call9_c : Ref sig .tc := ⟨.hbm, 231, rfl⟩
abbrev main_call9_v0 : Ref sig .tc := ⟨.hbm, 232, rfl⟩
abbrev main_call9_v1 : Ref sig .tc := ⟨.hbm, 233, rfl⟩
abbrev main_call9_c_0 : Ref sig .tc := ⟨.hbm, 234, rfl⟩
abbrev main_call9_v2 : Ref sig .tc := ⟨.hbm, 235, rfl⟩
abbrev main_call9_v3 : Ref sig .tc := ⟨.hbm, 236, rfl⟩
abbrev main_call9_v4 : Ref sig .tc := ⟨.hbm, 237, rfl⟩
abbrev main_call9_v5 : Ref sig .tc := ⟨.hbm, 238, rfl⟩
abbrev main_call9_c_1 : Ref sig .tc := ⟨.hbm, 239, rfl⟩
abbrev main_call9_c_2 : Ref sig .tc := ⟨.hbm, 240, rfl⟩
abbrev main_call9_v6 : Ref sig .tc := ⟨.hbm, 241, rfl⟩
abbrev main_call9_v7 : Ref sig .tc := ⟨.hbm, 242, rfl⟩
abbrev main_call9_v8 : Ref sig .tc := ⟨.hbm, 243, rfl⟩
abbrev main_call9_v9 : Ref sig .tc := ⟨.hbm, 244, rfl⟩
abbrev main_call9_v10 : Ref sig .tc := ⟨.hbm, 245, rfl⟩
abbrev main_call9_v11 : Ref sig .tc := ⟨.hbm, 246, rfl⟩
abbrev main_call9_c_3 : Ref sig .tc := ⟨.hbm, 247, rfl⟩
abbrev main_call9_v12 : Ref sig .tc := ⟨.hbm, 248, rfl⟩
abbrev main_call9_v13 : Ref sig .tc := ⟨.hbm, 249, rfl⟩
abbrev main_call9_cst : Ref sig .tc := ⟨.hbm, 250, rfl⟩
abbrev main_call9_v14 : Ref sig .tc := ⟨.hbm, 251, rfl⟩
abbrev main_v60 : Ref sig .tc := ⟨.hbm, 252, rfl⟩
abbrev main_v61 : Ref sig .tc := ⟨.hbm, 253, rfl⟩
abbrev main_v62 : Ref sig .tc := ⟨.hbm, 254, rfl⟩
abbrev main_v63 : Ref sig .tc := ⟨.hbm, 255, rfl⟩
abbrev main_v64 : Ref sig .tc := ⟨.hbm, 256, rfl⟩
abbrev main_v65 : Ref sig .tc := ⟨.hbm, 257, rfl⟩
abbrev main_v66 : Ref sig .tc := ⟨.hbm, 258, rfl⟩
abbrev main_v67 : Ref sig .tc := ⟨.hbm, 259, rfl⟩
abbrev main_v68 : Ref sig .tc := ⟨.hbm, 260, rfl⟩
abbrev main_v69 : Ref sig .tc := ⟨.hbm, 261, rfl⟩
abbrev main_v70 : Ref sig .tc := ⟨.hbm, 262, rfl⟩

abbrev nD : Nat := 1
abbrev τ : Topo := Topo.v7x

variable {F : FTy → Type} [FloatOps F]
-- ==== Proof.Lane.lean ====
/-
  The kernel's inner loop body, written once. One trip of the inner loop evaluates one block of 128
  points as eight groups of sixteen lanes. `lane` is the program of one such group: two loads of
  coordinates, the search of each coordinate among its knots (`search`), the four coefficients at the
  found interval and the cubic there (`cubic`), the product, and its store. The printed loop bodies,
  for the two staging buffers, are eight groups one after another.
-/
module

public import proofs.«01_k».proof.Defs
public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.Spline

open Cert.KernelIdeal Cert.KernelIdeal.Gen
open Idealize.ShloMosaic
open Idealize.SL Idealize.SL.Sem

variable {F : FTy → Type} [FloatOps F]

/-- A gather of the knots' scratch at an index vector, its range checked. -/
def gatherK (i : grid0.Coords) (kM : Memref sig .scVector .vmem S32768 .f32) (v : IVec S16 32) : Prog (TpuEff nD τ sig (Elt F) Λ₀ (.scVector ((i 0).castLE hcore0) ((i 1).castLE hsub0))) (Vec F S16 .f32) := do
  have h : k0_chk31 v := (← Prog.lift (TpuEff.assume (k0_chk31 v) (k0_chk31.dec v))).down
  SparseCore.vectorLoadIdx kM ![v] (k0_idx31_inb v h) (View.loads_vmem h_S32768)

/-- A gather of the coefficients' scratch at an index vector, its range checked. -/
def gatherC (i : grid0.Coords) (cM : Memref sig .scVector .vmem S65536 .f32) (v : IVec S16 32) : Prog (TpuEff nD τ sig (Elt F) Λ₀ (.scVector ((i 0).castLE hcore0) ((i 1).castLE hsub0))) (Vec F S16 .f32) := do
  have h : k0_chk37 v := (← Prog.lift (TpuEff.assume (k0_chk37 v) (k0_chk37.dec v))).down
  SparseCore.vectorLoadIdx cM ![v] (k0_idx37_inb v h) (View.loads_vmem h_S65536)

/-- The fifteen knots of one coordinate that the first four halvings may compare with, each a vector of copies,
    and the six constant index vectors of the other six. -/
structure Cands (F : FTy → Type) where
  c0 : Vec F S16 .f32
  (c1 c2 : Vec F S16 .f32)
  (d0 d1 d2 d3 : Vec F S16 .f32)
  (e0 e1 e2 e3 e4 e5 e6 e7 : Vec F S16 .f32)
  (g0 g1 g2 g3 g4 g5 : IVec S16 32)

/-- One halving's move: `n` where the knot is below the coordinate. -/
abbrev step (p : IVec S16 1) (n : BitVec 32) : IVec S16 32 := select p (broadcast S16 n) (broadcast S16 0#32)

/-- The first four halvings, on knots held in vectors. -/
def start (C : Cands F) (x : Vec F S16 .f32) : IVec S16 32 :=
  have p0 : IVec S16 1 := cmpf .olt C.c0 x
  have s0 : IVec S16 32 := addi (broadcast S16 0#32) (step p0 8192#32)
  have p1 : IVec S16 1 := cmpf .olt (select p0 C.c2 C.c1) x
  have s1 : IVec S16 32 := addi s0 (step p1 4096#32)
  have p2 : IVec S16 1 := cmpf .olt (select p0 (select p1 C.d3 C.d1) (select p1 C.d2 C.d0)) x
  have s2 : IVec S16 32 := addi s1 (step p2 2048#32)
  have p3 : IVec S16 1 := cmpf .olt (select p0 (select p1 (select p2 C.e7 C.e3) (select p2 C.e5 C.e1)) (select p1 (select p2 C.e6 C.e2) (select p2 C.e4 C.e0))) x
  addi s2 (step p3 1024#32)

/-- A later halving: the knot gathered at `s + g`, the move `n`. -/
def halveK (i : grid0.Coords) (kM : Memref sig .scVector .vmem S32768 .f32) (g : IVec S16 32) (n : BitVec 32) (x : Vec F S16 .f32) (s : IVec S16 32) : Prog (TpuEff nD τ sig (Elt F) Λ₀ (.scVector ((i 0).castLE hcore0) ((i 1).castLE hsub0))) (IVec S16 32) := do
  let k ← gatherK i kM (addi s g)
  pure (addi s (step (cmpf .olt k x) n))

/-- The search of the coordinates `x` among the knots: sixteen times the number of knots passed. -/
def search (i : grid0.Coords) (kM : Memref sig .scVector .vmem S32768 .f32) (C : Cands F) (x : Vec F S16 .f32) : Prog (TpuEff nD τ sig (Elt F) Λ₀ (.scVector ((i 0).castLE hcore0) ((i 1).castLE hsub0))) (IVec S16 32) := do
  let s4 ← halveK i kM C.g0 512#32 x (start C x)
  let s5 ← halveK i kM C.g1 256#32 x s4
  let s6 ← halveK i kM C.g2 128#32 x s5
  let s7 ← halveK i kM C.g3 64#32 x s6
  let s8 ← halveK i kM C.g4 32#32 x s7
  halveK i kM C.g5 16#32 x s8

/-- Where the coefficients of the found interval lie in the coefficients' scratch (`a` = the coordinate's offset). -/
abbrev cix (s a : IVec S16 32) : IVec S16 32 := addi (shrui (maxsi (subi s (broadcast S16 16#32)) (broadcast S16 0#32)) (broadcast S16 1#32)) a

/-- The cubic of the found interval at `x`. -/
def cubic (i : grid0.Coords) (cM : Memref sig .scVector .vmem S65536 .f32) (v : IVec S16 32) (x : Vec F S16 .f32) : Prog (TpuEff nD τ sig (Elt F) Λ₀ (.scVector ((i 0).castLE hcore0) ((i 1).castLE hsub0))) (FVec F S16 .f32) := do
  let a ← gatherC i cM v
  let b ← gatherC i cM (addi v (broadcast S16 16384#32))
  let c ← gatherC i cM (addi v (broadcast S16 32768#32))
  let d ← gatherC i cM (addi v (broadcast S16 49152#32))
  pure (addf (mulf (addf (mulf (addf (mulf d x) c) x) b) x) a)

/-- One group of sixteen lanes. -/
def lane (i : grid0.Coords) (kM : Memref sig .scVector .vmem S32768 .f32) (cM : Memref sig .scVector .vmem S65536 .f32)
    (xM : Memref sig .scVector .vmem S2x2048 .f32) (oM : Memref sig .scVector .vmem S2048 .f32) (C0 C1 : Cands F) (a0 a1 : IVec S16 32)
    (o0 o1 : Fin 2 → ℕ) (h0 : ∀ a, o0 a + S1x16.size a ≤ S2x2048.size a) (h1 : ∀ a, o1 a + S1x16.size a ≤ S2x2048.size a)
    (oo : Fin 1 → ℕ) (ho : ∀ a, oo a + S16.size a ≤ S2048.size a) : Prog (TpuEff nD τ sig (Elt F) Λ₀ (.scVector ((i 0).castLE hcore0) ((i 1).castLE hsub0))) PUnit := do
  let x0 ← Prog.lift (.load xM (Rect.unit (s := S2x2048) o0 S1x16.size h0).toLoadRect (View.loadsAt_vmem h_S1x16))
  let x1 ← Prog.lift (.load xM (Rect.unit (s := S2x2048) o1 S1x16.size h1).toLoadRect (View.loadsAt_vmem h_S1x16))
  let s0 ← search i kM C0 (shapeCast S16 x0 shapeCasts_S1x16_S16)
  let y0 ← cubic i cM (cix s0 a0) (shapeCast S16 x0 shapeCasts_S1x16_S16)
  let s1 ← search i kM C1 (shapeCast S16 x1 shapeCasts_S1x16_S16)
  let y1 ← cubic i cM (cix s1 a1) (shapeCast S16 x1 shapeCasts_S1x16_S16)
  let _ ← Prog.lift (.load oM (Rect.unit (s := S2048) oo S16.size ho).toLoadRect (View.loadsAt_vmem h_S16))
  Prog.lift (.store oM (Rect.unit (s := S2048) oo S16.size ho) (mulf y0 y1) Finset.univ (View.stores_vmem_bits_univ h_S16 rfl) (.inl rfl))

universe v in
/-- Two programs that begin with one operation and go on alike are one program. -/
theorem op_congr {E : Type → Type v} {β α : Type} {e : E β} {k k' : β → Prog E α} (h : ∀ r, k r = k' r) : Prog.op e k = Prog.op e k' := by
  rw [funext h]

/-- The windows of one group of lanes: of the two coordinate rows, and of the output row. -/
structure Win where
  (o0 o1 : Fin 2 → ℕ)
  (oo : Fin 1 → ℕ)
  h0 : ∀ a, o0 a + S1x16.size a ≤ S2x2048.size a
  h1 : ∀ a, o1 a + S1x16.size a ≤ S2x2048.size a
  ho : ∀ a, oo a + S16.size a ≤ S2048.size a

/-- The eight groups of one block. -/
def lanes (i : grid0.Coords) (kM : Memref sig .scVector .vmem S32768 .f32) (cM : Memref sig .scVector .vmem S65536 .f32)
    (xM : Memref sig .scVector .vmem S2x2048 .f32) (oM : Memref sig .scVector .vmem S2048 .f32) (C0 C1 : Cands F) (a0 a1 : IVec S16 32)
    (w : Fin 8 → Win) : Prog (TpuEff nD τ sig (Elt F) Λ₀ (.scVector ((i 0).castLE hcore0) ((i 1).castLE hsub0))) (BitVec 32) := do
  lane i kM cM xM oM C0 C1 a0 a1 (w 0).o0 (w 0).o1 (w 0).h0 (w 0).h1 (w 0).oo (w 0).ho
  lane i kM cM xM oM C0 C1 a0 a1 (w 1).o0 (w 1).o1 (w 1).h0 (w 1).h1 (w 1).oo (w 1).ho
  lane i kM cM xM oM C0 C1 a0 a1 (w 2).o0 (w 2).o1 (w 2).h0 (w 2).h1 (w 2).oo (w 2).ho
  lane i kM cM xM oM C0 C1 a0 a1 (w 3).o0 (w 3).o1 (w 3).h0 (w 3).h1 (w 3).oo (w 3).ho
  lane i kM cM xM oM C0 C1 a0 a1 (w 4).o0 (w 4).o1 (w 4).h0 (w 4).h1 (w 4).oo (w 4).ho
  lane i kM cM xM oM C0 C1 a0 a1 (w 5).o0 (w 5).o1 (w 5).h0 (w 5).h1 (w 5).oo (w 5).ho
  lane i kM cM xM oM C0 C1 a0 a1 (w 6).o0 (w 6).o1 (w 6).h0 (w 6).h1 (w 6).oo (w 6).ho
  lane i kM cM xM oM C0 C1 a0 a1 (w 7).o0 (w 7).o1 (w 7).h0 (w 7).h1 (w 7).oo (w 7).ho
  pure 0#32

/-- The windows of block `t` of the first buffers. -/
def winsEven (t : Fin k0_t2_loop.trips) : Fin 8 → Win :=
  ![⟨k0_off3 t, k0_off4 t, k0_off5 t, k0_off3_inb t, k0_off4_inb t, k0_off5_inb t⟩,
    ⟨k0_off6 t, k0_off7 t, k0_off8 t, k0_off6_inb t, k0_off7_inb t, k0_off8_inb t⟩,
    ⟨k0_off9 t, k0_off10 t, k0_off11 t, k0_off9_inb t, k0_off10_inb t, k0_off11_inb t⟩,
    ⟨k0_off12 t, k0_off13 t, k0_off14 t, k0_off12_inb t, k0_off13_inb t, k0_off14_inb t⟩,
    ⟨k0_off15 t, k0_off16 t, k0_off17 t, k0_off15_inb t, k0_off16_inb t, k0_off17_inb t⟩,
    ⟨k0_off18 t, k0_off19 t, k0_off20 t, k0_off18_inb t, k0_off19_inb t, k0_off20_inb t⟩,
    ⟨k0_off21 t, k0_off22 t, k0_off23 t, k0_off21_inb t, k0_off22_inb t, k0_off23_inb t⟩,
    ⟨k0_off24 t, k0_off25 t, k0_off26 t, k0_off24_inb t, k0_off25_inb t, k0_off26_inb t⟩]

/-- The windows of block `t` of the second buffers. -/
def winsOdd (t : Fin k0_t3_loop.trips) : Fin 8 → Win :=
  ![⟨k0_off29 t, k0_off30 t, k0_off31 t, k0_off29_inb t, k0_off30_inb t, k0_off31_inb t⟩,
    ⟨k0_off32 t, k0_off33 t, k0_off34 t, k0_off32_inb t, k0_off33_inb t, k0_off34_inb t⟩,
    ⟨k0_off35 t, k0_off36 t, k0_off37 t, k0_off35_inb t, k0_off36_inb t, k0_off37_inb t⟩,
    ⟨k0_off38 t, k0_off39 t, k0_off40 t, k0_off38_inb t, k0_off39_inb t, k0_off40_inb t⟩,
    ⟨k0_off41 t, k0_off42 t, k0_off43 t, k0_off41_inb t, k0_off42_inb t, k0_off43_inb t⟩,
    ⟨k0_off44 t, k0_off45 t, k0_off46 t, k0_off44_inb t, k0_off45_inb t, k0_off46_inb t⟩,
    ⟨k0_off47 t, k0_off48 t, k0_off49 t, k0_off47_inb t, k0_off48_inb t, k0_off49_inb t⟩,
    ⟨k0_off50 t, k0_off51 t, k0_off52 t, k0_off50_inb t, k0_off51_inb t, k0_off52_inb t⟩]

end Cert.Proof.Spline

end
-- ==== Proof.Tile.lean ====
/-
  The kernel's body on one tile, as a short program. `tile` fetches the two tables, reads the knots that
  the first halvings compare with (`cands`), starts the fetch of the first piece of coordinates and runs
  31 trips of two pieces each. A piece's turn is `turn`: start the fetch of the next piece, wait for this
  one, wait for the write-out that used the same output buffer, evaluate sixteen blocks (`lanes`), and
  start the write-out. `run_eq_tile` says that the printed body is this program.
-/
module

public import proofs.«01_k».proof.Proof.Lane

@[expose] public section

noncomputable section

namespace Cert.Proof.Spline

open Cert.KernelIdeal Cert.KernelIdeal.Gen
open Idealize.ShloMosaic
open Idealize.SL Idealize.SL.Sem

variable {F : FTy → Type} [FloatOps F]

/-- The lane numbers moved by `n`. -/
abbrev offs (n : ℕ) : IVec S16 32 := addi (iota .scVector S16 32 [0] iota_S16_d0_w32_scVector) (broadcast S16 (BitVec.ofNat 32 n))

/-- Each lane's copy of a coefficient (there are eight copies), moved by `n`. -/
abbrev copies : IVec S16 32 := andi (iota .scVector S16 32 [0] iota_S16_d0_w32_scVector) (broadcast S16 7#32)

/-- The knots of the first halvings, read from the knots' scratch at base `b`. -/
def cands (i : grid0.Coords) (kM : Memref sig .scVector .vmem S32768 .f32) (b : ℕ) : Prog (TpuEff nD τ sig (Elt F) Λ₀ (.scVector ((i 0).castLE hcore0) ((i 1).castLE hsub0))) (Cands F) := do
  let c0 ← gatherK i kM (broadcast S16 (BitVec.ofNat 32 (8176 + b)))
  let c1 ← gatherK i kM (broadcast S16 (BitVec.ofNat 32 (4080 + b)))
  let c2 ← gatherK i kM (broadcast S16 (BitVec.ofNat 32 (12272 + b)))
  let d0 ← gatherK i kM (broadcast S16 (BitVec.ofNat 32 (2032 + b)))
  let d1 ← gatherK i kM (broadcast S16 (BitVec.ofNat 32 (10224 + b)))
  let d2 ← gatherK i kM (broadcast S16 (BitVec.ofNat 32 (6128 + b)))
  let d3 ← gatherK i kM (broadcast S16 (BitVec.ofNat 32 (14320 + b)))
  let e0 ← gatherK i kM (broadcast S16 (BitVec.ofNat 32 (1008 + b)))
  let e1 ← gatherK i kM (broadcast S16 (BitVec.ofNat 32 (9200 + b)))
  let e2 ← gatherK i kM (broadcast S16 (BitVec.ofNat 32 (5104 + b)))
  let e3 ← gatherK i kM (broadcast S16 (BitVec.ofNat 32 (13296 + b)))
  let e4 ← gatherK i kM (broadcast S16 (BitVec.ofNat 32 (3056 + b)))
  let e5 ← gatherK i kM (broadcast S16 (BitVec.ofNat 32 (11248 + b)))
  let e6 ← gatherK i kM (broadcast S16 (BitVec.ofNat 32 (7152 + b)))
  let e7 ← gatherK i kM (broadcast S16 (BitVec.ofNat 32 (15344 + b)))
  pure ⟨c0, c1, c2, d0, d1, d2, d3, e0, e1, e2, e3, e4, e5, e6, e7, offs (496 + b), offs (240 + b), offs (112 + b), offs (48 + b), offs (16 + b), offs (0 + b)⟩

/-- Whether piece `p` is not among the first two. -/
abbrev later (p : BitVec 32) : BitVec 1 := Scalar.cmpi .ne (Scalar.extui (Scalar.cmpi .sge p 2#32) : BitVec 32) 0#32

/-- Three programs in a row, grouped either way. -/
theorem bind_bind {E : Type → Type} {α β γ : Type} (p : Prog E α) (k : α → Prog E β) (K : β → Prog E γ) :
    (p >>= k) >>= K = p >>= fun a => k a >>= K :=
  bind_assoc p k K

/-- A request made only when `c` is set. -/
def gate {E : Type → Type} (c : BitVec 1) (e : c = 1#1 → E PUnit) : Prog E PUnit :=
  if h : c = 1#1 then Prog.op (e h) Prog.ret else Prog.ret ⟨⟩

/-- A request made only when `c` is set, with what follows in both cases. -/
theorem gate_bind {E : Type → Type} {α : Type} {c : BitVec 1} {e : c = 1#1 → E PUnit} {J J' : Prog E α} (hJ : J = J') :
    (if h : c = 1#1 then Prog.op (e h) (fun _ => J) else J) = (gate c e >>= fun _ => J') := by
  subst hJ; unfold gate; split <;> rfl

/-- One piece's turn: fetch the next piece into `yM`, wait for this one in `xM`, evaluate into `oM`, write out at `oo`. -/
def turn (i : grid0.Coords) (arg2 : Memref sig .scVector .hbm S2x4000000 .f32) (arg5 : Memref sig .scVector .hbm S4000000 .f32)
    (xM yM : Memref sig .scVector .vmem S2x2048 .f32) (hx : xM.IsWhole) (hy : yM.IsWhole) (oM : Memref sig .scVector .vmem S2048 .f32) (ho : oM.IsWhole)
    (sx sy so : DmaSems sig S_) (c : BitVec 1) (off : Fin 2 → ℕ) (hoff : c = 1#1 → ∀ a, off a + S2x2048.size a ≤ S2x4000000.size a)
    (p : BitVec 32) (L : Scf.Loop 32) (hL : L.OK) (body : Fin L.trips → BitVec 32 → Prog (TpuEff nD τ sig (Elt F) Λ₀ (.scVector ((i 0).castLE hcore0) ((i 1).castLE hsub0))) (BitVec 32))
    (oo : Fin 1 → ℕ) (hoo : ∀ a, oo a + S2048.size a ≤ S4000000.size a) : Prog (TpuEff nD τ sig (Elt F) Λ₀ (.scVector ((i 0).castLE hcore0) ((i 1).castLE hsub0))) PUnit := do
  gate c fun h => .enqueueDma (arg2.slice (Rect.unit (s := S2x4000000) off S2x2048.size (hoff h)) (fun _ => rfl)) (.here yM) (.dma sy.sem) (View.wordExact_bits rfl) hy.wordExact ⟨Or.inl rfl, trivial⟩
  Prog.lift (.waitDma2 sx.sem (arg2.slice (Rect.unit (s := S2x4000000) ![0, 0] S2x2048.size inb_S2x4000000_S2x2048_0_0) (fun _ => rfl)) xM (View.wordExact_bits rfl) hx.wordExact)
  gate (later p) fun _ => .waitDma2 so.sem oM (arg5.slice (Rect.unit (s := S4000000) ![0] S2048.size inb_S4000000_S2048_0) (fun _ => rfl)) ho.wordExact (View.wordExact_bits rfl)
  let _ ← Scf.Loop.for L hL 0#32 body
  Prog.lift (.enqueueDma oM (.here (arg5.slice (Rect.unit (s := S4000000) oo S2048.size hoo) (fun _ => rfl))) (.dma so.sem) ho.wordExact (View.wordExact_bits rfl) ⟨Or.inl rfl, trivial⟩)

/-- The number of the even piece of trip `t`. -/
abbrev pieceEven (t : Fin k0_t1_loop.trips) : BitVec 32 := Scalar.addi (Scalar.muli (Scf.iv 0#32 1#32 t) 2#32) 0#32

/-- The number of the odd piece of trip `t`. -/
abbrev pieceOdd (t : Fin k0_t1_loop.trips) : BitVec 32 := Scalar.addi (Scalar.muli (Scf.iv 0#32 1#32 t) 2#32) 1#32

/-- One trip of the outer loop: the even piece's turn, then the odd piece's. -/
def trip (i : grid0.Coords) (arg2 : Memref sig .scVector .hbm S2x4000000 .f32) (harg2 : arg2.IsWhole) (arg3 : Memref sig .scVector .hbm S32768 .f32) (harg3 : arg3.IsWhole) (arg4 : Memref sig .scVector .hbm S65536 .f32) (harg4 : arg4.IsWhole) (arg5 : Memref sig .scVector .hbm S4000000 .f32) (harg5 : arg5.IsWhole) (arg6 : Memref sig .scVector .vmem S32768 .f32) (harg6 : arg6.IsWhole) (arg7 : Memref sig .scVector .vmem S65536 .f32) (harg7 : arg7.IsWhole) (arg8 : Memref sig .scVector .vmem S2x2048 .f32) (harg8 : arg8.IsWhole) (arg9 : Memref sig .scVector .vmem S2x2048 .f32) (harg9 : arg9.IsWhole) (arg10 : Memref sig .scVector .vmem S2048 .f32) (harg10 : arg10.IsWhole) (arg11 : Memref sig .scVector .vmem S2048 .f32) (harg11 : arg11.IsWhole) (arg12 : DmaSems sig S_) (arg13 : DmaSems sig S_) (arg14 : DmaSems sig S_) (arg15 : DmaSems sig S_) (v109_r0 : DmaSems sig S_) (v109_r1 : DmaSems sig S_) (C0 C1 : Cands F) (a0 a1 : IVec S16 32) (t : Fin k0_t1_loop.trips) : Prog (TpuEff nD τ sig (Elt F) Λ₀ (.scVector ((i 0).castLE hcore0) ((i 1).castLE hsub0))) (BitVec 32) := do
  turn i arg2 arg5 arg8 arg9 harg8 harg9 arg10 harg10 arg12 arg13 arg14 (k0_cond1 t) (k0_off2 i t) (k0_off2_inb i t) (pieceEven t)
    k0_t2_loop k0_t2_ok (fun u _ => lanes i arg6 arg7 arg8 arg10 C0 C1 a0 a1 (winsEven u)) (k0_off27 i t 0#32) (k0_off27_inb i t 0)
  turn i arg2 arg5 arg9 arg8 harg9 harg8 arg11 harg11 arg13 arg12 arg15 (k0_cond3 t) (k0_off28 i t) (k0_off28_inb i t) (pieceOdd t)
    k0_t3_loop k0_t3_ok (fun u _ => lanes i arg6 arg7 arg9 arg11 C0 C1 a0 a1 (winsOdd u)) (k0_off27 i t 1#32) (k0_off27_inb i t 1)
  pure 0#32

/-- The kernel's body on one tile. -/
def tile (i : grid0.Coords) (arg2 : Memref sig .scVector .hbm S2x4000000 .f32) (harg2 : arg2.IsWhole) (arg3 : Memref sig .scVector .hbm S32768 .f32) (harg3 : arg3.IsWhole) (arg4 : Memref sig .scVector .hbm S65536 .f32) (harg4 : arg4.IsWhole) (arg5 : Memref sig .scVector .hbm S4000000 .f32) (harg5 : arg5.IsWhole) (arg6 : Memref sig .scVector .vmem S32768 .f32) (harg6 : arg6.IsWhole) (arg7 : Memref sig .scVector .vmem S65536 .f32) (harg7 : arg7.IsWhole) (arg8 : Memref sig .scVector .vmem S2x2048 .f32) (harg8 : arg8.IsWhole) (arg9 : Memref sig .scVector .vmem S2x2048 .f32) (harg9 : arg9.IsWhole) (arg10 : Memref sig .scVector .vmem S2048 .f32) (harg10 : arg10.IsWhole) (arg11 : Memref sig .scVector .vmem S2048 .f32) (harg11 : arg11.IsWhole) (arg12 : DmaSems sig S_) (arg13 : DmaSems sig S_) (arg14 : DmaSems sig S_) (arg15 : DmaSems sig S_) (v109_r0 : DmaSems sig S_) (v109_r1 : DmaSems sig S_) : Prog (TpuEff nD τ sig (Elt F) Λ₀ (.scVector ((i 0).castLE hcore0) ((i 1).castLE hsub0))) PUnit := do
  Prog.lift (.enqueueDma arg3 (.here arg6) (.dma v109_r0.sem) harg3.wordExact harg6.wordExact ⟨Or.inl rfl, trivial⟩)
  Prog.lift (.waitDma2 v109_r0.sem arg3 arg6 harg3.wordExact harg6.wordExact)
  Prog.lift (.enqueueDma arg4 (.here arg7) (.dma v109_r1.sem) harg4.wordExact harg7.wordExact ⟨Or.inl rfl, trivial⟩)
  Prog.lift (.waitDma2 v109_r1.sem arg4 arg7 harg4.wordExact harg7.wordExact)
  let C0 ← cands i arg6 0
  let C1 ← cands i arg6 16384
  Prog.lift (.enqueueDma (arg2.slice (Rect.unit (s := S2x4000000) (k0_off1 i) S2x2048.size (k0_off1_inb i)) (fun _ => rfl)) (.here arg8) (.dma arg12.sem) (View.wordExact_bits rfl) harg8.wordExact ⟨Or.inl rfl, trivial⟩)
  let _ ← Scf.Loop.for k0_t1_loop k0_t1_ok 0#32 fun t _ => trip i arg2 harg2 arg3 harg3 arg4 harg4 arg5 harg5 arg6 harg6 arg7 harg7 arg8 harg8 arg9 harg9 arg10 harg10 arg11 harg11 arg12 arg13 arg14 arg15 v109_r0 v109_r1 C0 C1 copies (addi copies (broadcast S16 8184#32)) t
  Prog.lift (.waitDma2 arg14.sem arg10 (arg5.slice (Rect.unit (s := S4000000) ![0] S2048.size inb_S4000000_S2048_0) (fun _ => rfl)) harg10.wordExact (View.wordExact_bits rfl))
  Prog.lift (.waitDma2 arg15.sem arg11 (arg5.slice (Rect.unit (s := S4000000) ![0] S2048.size inb_S4000000_S2048_0) (fun _ => rfl)) harg11.wordExact (View.wordExact_bits rfl))

/-- Two programs that run one after another, equal in both parts. -/
theorem bind_congr' {E : Type → Type} {α β : Type} {p p' : Prog E α} {k k' : α → Prog E β} (hp : p = p') (hk : ∀ a, k a = k' a) : (p >>= k) = (p' >>= k') := by
  rw [hp, funext hk]

set_option maxRecDepth 100000 in
set_option maxHeartbeats 800000 in
/-- The printed first part of a trip. -/
theorem part79_eq (i : grid0.Coords) (arg2 : Memref sig .scVector .hbm S2x4000000 .f32) (harg2 : arg2.IsWhole) (arg3 : Memref sig .scVector .hbm S32768 .f32) (harg3 : arg3.IsWhole) (arg4 : Memref sig .scVector .hbm S65536 .f32) (harg4 : arg4.IsWhole) (arg5 : Memref sig .scVector .hbm S4000000 .f32) (harg5 : arg5.IsWhole) (arg6 : Memref sig .scVector .vmem S32768 .f32) (harg6 : arg6.IsWhole) (arg7 : Memref sig .scVector .vmem S65536 .f32) (harg7 : arg7.IsWhole) (arg8 : Memref sig .scVector .vmem S2x2048 .f32) (harg8 : arg8.IsWhole) (arg9 : Memref sig .scVector .vmem S2x2048 .f32) (harg9 : arg9.IsWhole) (arg10 : Memref sig .scVector .vmem S2048 .f32) (harg10 : arg10.IsWhole) (arg11 : Memref sig .scVector .vmem S2048 .f32) (harg11 : arg11.IsWhole) (arg12 : DmaSems sig S_) (arg13 : DmaSems sig S_) (arg14 : DmaSems sig S_) (arg15 : DmaSems sig S_) (v109_r0 : DmaSems sig S_) (v109_r1 : DmaSems sig S_) (v4 : BitVec 32) (v7 : BitVec 32) (v10 : IVec S16 32) (v12 : Vec F S16 .f32) (v14 : Vec F S16 .f32) (v16 : Vec F S16 .f32) (v18 : Vec F S16 .f32) (v20 : Vec F S16 .f32) (v22 : Vec F S16 .f32) (v24 : Vec F S16 .f32) (v26 : Vec F S16 .f32) (v28 : Vec F S16 .f32) (v30 : Vec F S16 .f32) (v32 : Vec F S16 .f32) (v34 : Vec F S16 .f32) (v36 : Vec F S16 .f32) (v38 : Vec F S16 .f32) (v40 : Vec F S16 .f32) (v42 : Vec F S16 .f32) (v44 : Vec F S16 .f32) (v46 : Vec F S16 .f32) (v48 : Vec F S16 .f32) (v50 : Vec F S16 .f32) (v52 : Vec F S16 .f32) (v54 : Vec F S16 .f32) (v56 : Vec F S16 .f32) (v58 : Vec F S16 .f32) (v60 : Vec F S16 .f32) (v62 : Vec F S16 .f32) (v64 : Vec F S16 .f32) (v66 : Vec F S16 .f32) (v68 : Vec F S16 .f32) (v70 : Vec F S16 .f32) (v72 : IVec S16 32) (v74 : IVec S16 32) (v76 : IVec S16 32) (v78 : IVec S16 32) (v80 : IVec S16 32) (v82 : IVec S16 32) (v84 : IVec S16 32) (v86 : IVec S16 32) (v88 : IVec S16 32) (v90 : IVec S16 32) (v92 : IVec S16 32) (v94 : IVec S16 32) (v96 : IVec S16 32) (k0_t1 : Fin k0_t1_loop.trips) :
    k0_part79 i arg2 harg2 arg3 harg3 arg4 harg4 arg5 harg5 arg6 harg6 arg7 harg7 arg8 harg8 arg9 harg9 arg10 harg10 arg11 harg11 arg12 arg13 arg14 arg15 v109_r0 v109_r1 v4 v7 v10 v12 v14 v16 v18 v20 v22 v24 v26 v28 v30 v32 v34 v36 v38 v40 v42 v44 v46 v48 v50 v52 v54 v56 v58 v60 v62 v64 v66 v68 v70 v72 v74 v76 v78 v80 v82 v84 v86 v88 v90 v92 v94 v96 0#32 1#32 k0_t1 = (do
      gate (k0_cond1 k0_t1) fun h => .enqueueDma (arg2.slice (Rect.unit (s := S2x4000000) (k0_off2 i k0_t1) S2x2048.size (k0_off2_inb i k0_t1 h)) (fun _ => rfl)) (.here arg9) (.dma arg13.sem) (View.wordExact_bits rfl) harg9.wordExact ⟨Or.inl rfl, trivial⟩
      Prog.lift (.waitDma2 arg12.sem (arg2.slice (Rect.unit (s := S2x4000000) ![0, 0] S2x2048.size inb_S2x4000000_S2x2048_0_0) (fun _ => rfl)) arg8 (View.wordExact_bits rfl) harg8.wordExact)
      gate (later (pieceEven k0_t1)) fun _ => .waitDma2 arg14.sem arg10 (arg5.slice (Rect.unit (s := S4000000) ![0] S2048.size inb_S4000000_S2048_0) (fun _ => rfl)) harg10.wordExact (View.wordExact_bits rfl)
      let _ ← Scf.Loop.for k0_t2_loop k0_t2_ok 0#32 fun u _ => lanes i arg6 arg7 arg8 arg10 (Cands.mk v12 v14 v16 v18 v20 v22 v24 v26 v28 v30 v32 v34 v36 v38 v40 v72 v74 v76 v78 v80 v82) (Cands.mk v42 v44 v46 v48 v50 v52 v54 v56 v58 v60 v62 v64 v66 v68 v70 v84 v86 v88 v90 v92 v94) v10 v96 (winsEven u)
      Prog.lift (.enqueueDma arg10 (.here (arg5.slice (Rect.unit (s := S4000000) (k0_off27 i k0_t1 0#32) S2048.size (k0_off27_inb i k0_t1 0)) (fun _ => rfl))) (.dma arg14.sem) harg10.wordExact (View.wordExact_bits rfl) ⟨Or.inl rfl, trivial⟩)
      gate (k0_cond3 k0_t1) fun h => .enqueueDma (arg2.slice (Rect.unit (s := S2x4000000) (k0_off28 i k0_t1) S2x2048.size (k0_off28_inb i k0_t1 h)) (fun _ => rfl)) (.here arg8) (.dma arg12.sem) (View.wordExact_bits rfl) harg8.wordExact ⟨Or.inl rfl, trivial⟩
      pure (pieceOdd k0_t1) : Prog (TpuEff nD τ sig (Elt F) Λ₀ (.scVector ((i 0).castLE hcore0) ((i 1).castLE hsub0))) (BitVec 32)) := by
  unfold k0_part79
  refine gate_bind ?_
  refine op_congr fun _ => ?_
  refine gate_bind ?_
  refine bind_congr' ?_ fun _ => ?_
  · refine congrArg (Scf.Loop.for _ _ _) (funext fun u => funext fun a => ?_)
    unfold lanes
    iterate 352 refine op_congr fun _ => ?_
    rfl
  refine op_congr fun _ => ?_
  exact gate_bind rfl

set_option maxRecDepth 100000 in
set_option maxHeartbeats 800000 in
/-- The printed trip of the outer loop. -/
theorem trip_eq (i : grid0.Coords) (arg2 : Memref sig .scVector .hbm S2x4000000 .f32) (harg2 : arg2.IsWhole) (arg3 : Memref sig .scVector .hbm S32768 .f32) (harg3 : arg3.IsWhole) (arg4 : Memref sig .scVector .hbm S65536 .f32) (harg4 : arg4.IsWhole) (arg5 : Memref sig .scVector .hbm S4000000 .f32) (harg5 : arg5.IsWhole) (arg6 : Memref sig .scVector .vmem S32768 .f32) (harg6 : arg6.IsWhole) (arg7 : Memref sig .scVector .vmem S65536 .f32) (harg7 : arg7.IsWhole) (arg8 : Memref sig .scVector .vmem S2x2048 .f32) (harg8 : arg8.IsWhole) (arg9 : Memref sig .scVector .vmem S2x2048 .f32) (harg9 : arg9.IsWhole) (arg10 : Memref sig .scVector .vmem S2048 .f32) (harg10 : arg10.IsWhole) (arg11 : Memref sig .scVector .vmem S2048 .f32) (harg11 : arg11.IsWhole) (arg12 : DmaSems sig S_) (arg13 : DmaSems sig S_) (arg14 : DmaSems sig S_) (arg15 : DmaSems sig S_) (v109_r0 : DmaSems sig S_) (v109_r1 : DmaSems sig S_) (v4 : BitVec 32) (v7 : BitVec 32) (v10 : IVec S16 32) (v12 : Vec F S16 .f32) (v14 : Vec F S16 .f32) (v16 : Vec F S16 .f32) (v18 : Vec F S16 .f32) (v20 : Vec F S16 .f32) (v22 : Vec F S16 .f32) (v24 : Vec F S16 .f32) (v26 : Vec F S16 .f32) (v28 : Vec F S16 .f32) (v30 : Vec F S16 .f32) (v32 : Vec F S16 .f32) (v34 : Vec F S16 .f32) (v36 : Vec F S16 .f32) (v38 : Vec F S16 .f32) (v40 : Vec F S16 .f32) (v42 : Vec F S16 .f32) (v44 : Vec F S16 .f32) (v46 : Vec F S16 .f32) (v48 : Vec F S16 .f32) (v50 : Vec F S16 .f32) (v52 : Vec F S16 .f32) (v54 : Vec F S16 .f32) (v56 : Vec F S16 .f32) (v58 : Vec F S16 .f32) (v60 : Vec F S16 .f32) (v62 : Vec F S16 .f32) (v64 : Vec F S16 .f32) (v66 : Vec F S16 .f32) (v68 : Vec F S16 .f32) (v70 : Vec F S16 .f32) (v72 : IVec S16 32) (v74 : IVec S16 32) (v76 : IVec S16 32) (v78 : IVec S16 32) (v80 : IVec S16 32) (v82 : IVec S16 32) (v84 : IVec S16 32) (v86 : IVec S16 32) (v88 : IVec S16 32) (v90 : IVec S16 32) (v92 : IVec S16 32) (v94 : IVec S16 32) (v96 : IVec S16 32) (k0_t1 : Fin k0_t1_loop.trips) :
    (do
    let v130 : BitVec 32 ← k0_part79 i arg2 harg2 arg3 harg3 arg4 harg4 arg5 harg5 arg6 harg6 arg7 harg7 arg8 harg8 arg9 harg9 arg10 harg10 arg11 harg11 arg12 arg13 arg14 arg15 v109_r0 v109_r1 v4 v7 v10 v12 v14 v16 v18 v20 v22 v24 v26 v28 v30 v32 v34 v36 v38 v40 v42 v44 v46 v48 v50 v52 v54 v56 v58 v60 v62 v64 v66 v68 v70 v72 v74 v76 v78 v80 v82 v84 v86 v88 v90 v92 v94 v96 0#32 1#32 k0_t1
    let c0_i32_41 : BitVec 32 := 0#32
    let v136 : Memref sig .scVector .hbm S2x2048 .f32 := arg2.slice (Rect.unit (s := S2x4000000) ![0, 0] S2x2048.size inb_S2x4000000_S2x2048_0_0) (fun _ => rfl)
    Prog.lift (.waitDma2 arg13.sem v136 arg9 (View.wordExact_bits rfl) harg9.wordExact)
    let c2_i32_42 : BitVec 32 := 2#32
    let v137 : BitVec 1 := Scalar.cmpi .sge v130 c2_i32_42
    let v138 : BitVec 32 := Scalar.extui v137
    let c0_i32_43 : BitVec 32 := 0#32
    let v139 : BitVec 1 := Scalar.cmpi .ne v138 c0_i32_43
    if k0_h4 : v139 = 1#1 then do
      let c0_i32_53 : BitVec 32 := 0#32
      let v149 : Memref sig .scVector .hbm S2048 .f32 := arg5.slice (Rect.unit (s := S4000000) ![0] S2048.size inb_S4000000_S2048_0) (fun _ => rfl)
      let c0_i32_54 : BitVec 32 := 0#32
      let v150 : Memref sig .scVector .hbm S2048 .f32 := arg5.slice (Rect.unit (s := S4000000) ![0] S2048.size inb_S4000000_S2048_0) (fun _ => rfl)
      Prog.lift (.waitDma2 arg15.sem arg11 v150 harg11.wordExact (View.wordExact_bits rfl))
      pure ⟨⟩
    else do
      pure ⟨⟩
    let c0_i32_44 : BitVec 32 := 0#32
    let c0_i32_45 : BitVec 32 := 0#32
    let c16_i32_46 : BitVec 32 := 16#32
    let v140 : BitVec 32 := Scalar.addi c0_i32_45 c16_i32_46
    let c1_i32_47 : BitVec 32 := 1#32
    let v141 : BitVec 32 ← Scf.Loop.for k0_t3_loop k0_t3_ok c0_i32_44 fun k0_t3 arg19 => do
      let ⟨v150, v1697, v1779, v1793⟩ : Σ' (v150 : BitVec 32) (v1697 : FVec F S16 .f32) (v1779 : Vec F S16 .f32), FVec F S16 .f32 ← k0_part78 i arg2 harg2 arg3 harg3 arg4 harg4 arg5 harg5 arg6 harg6 arg7 harg7 arg8 harg8 arg9 harg9 arg10 harg10 arg11 harg11 arg12 arg13 arg14 arg15 v109_r0 v109_r1 v10 v12 v14 v16 v18 v20 v22 v24 v26 v28 v30 v32 v34 v36 v38 v40 v42 v44 v46 v48 v50 v52 v54 v56 v58 v60 v62 v64 v66 v68 v70 v72 v74 v76 v78 v80 v82 v84 v86 v88 v90 v92 v94 v96 c0_i32_45 c1_i32_47 k0_t3
      have v1794 : FVec F S16 .f32 := addf v1793 v1779
      have v1795 : FVec F S16 .f32 := mulf v1697 v1794
      let c112_i32_514 : BitVec 32 := 112#32
      let v1796 : BitVec 32 := Scalar.addi v150 c112_i32_514
      let v1797 : Index := Scalar.indexCast v1796
      let v1798 : Vec F S16 .f32 ← Prog.lift (.load arg11 (Rect.unit (s := S2048) (k0_off52 k0_t3) S16.size (k0_off52_inb k0_t3)).toLoadRect (View.loadsAt_vmem h_S16))
      Prog.lift (.store arg11 (Rect.unit (s := S2048) (k0_off52 k0_t3) S16.size (k0_off52_inb k0_t3)) v1795 Finset.univ (View.stores_vmem_bits_univ h_S16 rfl) (.inl rfl))
      let c0_i32_515 : BitVec 32 := 0#32
      pure c0_i32_515
    let c16_i32_48 : BitVec 32 := 16#32
    let c16_i32_49 : BitVec 32 := 16#32
    let v142 : BitVec 32 := Scalar.muli v130 c16_i32_49
    let c16_i32_50 : BitVec 32 := 16#32
    let v143 : BitVec 32 := Scalar.subi v4 c16_i32_50
    let v144 : BitVec 32 := Scalar.minsi v142 v143
    let v145 : BitVec 32 := Scalar.addi v7 v144
    let c128_i32_51 : BitVec 32 := 128#32
    let v146 : BitVec 32 := Scalar.muli v145 c128_i32_51
    let v147 : Memref sig .scVector .hbm S2048 .f32 := arg5.slice (Rect.unit (s := S4000000) (k0_off27 i k0_t1 1#32) S2048.size (k0_off27_inb i k0_t1 1)) (fun _ => rfl)
    let v148 : Memref sig .scVector .hbm S2048 .f32 := arg5.slice (Rect.unit (s := S4000000) (k0_off27 i k0_t1 1#32) S2048.size (k0_off27_inb i k0_t1 1)) (fun _ => rfl)
    Prog.lift (.enqueueDma arg11 (.here v148) (.dma arg15.sem) harg11.wordExact (View.wordExact_bits rfl) ⟨Or.inl rfl, trivial⟩)
    let c0_i32_52 : BitVec 32 := 0#32
    pure c0_i32_52 : Prog (TpuEff nD τ sig (Elt F) Λ₀ (.scVector ((i 0).castLE hcore0) ((i 1).castLE hsub0))) (BitVec 32)) = trip i arg2 harg2 arg3 harg3 arg4 harg4 arg5 harg5 arg6 harg6 arg7 harg7 arg8 harg8 arg9 harg9 arg10 harg10 arg11 harg11 arg12 arg13 arg14 arg15 v109_r0 v109_r1 (Cands.mk v12 v14 v16 v18 v20 v22 v24 v26 v28 v30 v32 v34 v36 v38 v40 v72 v74 v76 v78 v80 v82) (Cands.mk v42 v44 v46 v48 v50 v52 v54 v56 v58 v60 v62 v64 v66 v68 v70 v84 v86 v88 v90 v92 v94) v10 v96 k0_t1 := by
  rw [part79_eq]
  unfold trip turn
  refine (bind_bind _ _ _).trans (Eq.trans ?_ (bind_bind _ _ _).symm)
  refine bind_congr' rfl fun _ => ?_
  refine (bind_bind _ _ _).trans (Eq.trans ?_ (bind_bind _ _ _).symm)
  refine bind_congr' rfl fun _ => ?_
  refine (bind_bind _ _ _).trans (Eq.trans ?_ (bind_bind _ _ _).symm)
  refine bind_congr' rfl fun _ => ?_
  refine (bind_bind _ _ _).trans (Eq.trans ?_ (bind_bind _ _ _).symm)
  refine bind_congr' rfl fun _ => ?_
  refine (bind_bind _ _ _).trans ?_
  refine bind_congr' rfl fun _ => ?_
  refine (bind_bind _ _ _).trans (Eq.trans ?_ (bind_bind _ _ _).symm)
  refine bind_congr' rfl fun _ => ?_
  refine (pure_bind (m := Prog _) _ _).trans (Eq.trans ?_ (bind_bind _ _ _).symm)
  refine bind_congr' rfl fun _ => ?_
  refine Eq.trans ?_ (bind_bind _ _ _).symm
  refine gate_bind ?_
  refine Eq.trans ?_ (bind_bind _ _ _).symm
  refine bind_congr' ?_ fun _ => ?_
  · refine congrArg (Scf.Loop.for _ _ _) (funext fun u => funext fun a => ?_)
    unfold lanes
    iterate 352 refine op_congr fun _ => ?_
    rfl
  rfl

set_option maxRecDepth 100000 in
/-- The printed body is the short program. -/
theorem run_eq_tile (i : grid0.Coords) (arg2 : Memref sig .scVector .hbm S2x4000000 .f32) (harg2 : arg2.IsWhole) (arg3 : Memref sig .scVector .hbm S32768 .f32) (harg3 : arg3.IsWhole) (arg4 : Memref sig .scVector .hbm S65536 .f32) (harg4 : arg4.IsWhole) (arg5 : Memref sig .scVector .hbm S4000000 .f32) (harg5 : arg5.IsWhole) (arg6 : Memref sig .scVector .vmem S32768 .f32) (harg6 : arg6.IsWhole) (arg7 : Memref sig .scVector .vmem S65536 .f32) (harg7 : arg7.IsWhole) (arg8 : Memref sig .scVector .vmem S2x2048 .f32) (harg8 : arg8.IsWhole) (arg9 : Memref sig .scVector .vmem S2x2048 .f32) (harg9 : arg9.IsWhole) (arg10 : Memref sig .scVector .vmem S2048 .f32) (harg10 : arg10.IsWhole) (arg11 : Memref sig .scVector .vmem S2048 .f32) (harg11 : arg11.IsWhole) (arg12 : DmaSems sig S_) (arg13 : DmaSems sig S_) (arg14 : DmaSems sig S_) (arg15 : DmaSems sig S_) (v109_r0 : DmaSems sig S_) (v109_r1 : DmaSems sig S_) : cc0_run (F := F) i arg2 harg2 arg3 harg3 arg4 harg4 arg5 harg5 arg6 harg6 arg7 harg7 arg8 harg8 arg9 harg9 arg10 harg10 arg11 harg11 arg12 arg13 arg14 arg15 v109_r0 v109_r1 = tile i arg2 harg2 arg3 harg3 arg4 harg4 arg5 harg5 arg6 harg6 arg7 harg7 arg8 harg8 arg9 harg9 arg10 harg10 arg11 harg11 arg12 arg13 arg14 arg15 v109_r0 v109_r1 := by
  unfold cc0_run tile
  iterate 65 refine op_congr fun _ => ?_
  refine bind_congr' rfl fun _ => ?_
  refine bind_congr' ?_ fun _ => ?_
  rotate_left
  · rfl
  refine congrArg (Scf.Loop.for _ _ _) (funext fun u => funext fun a => ?_)
  exact trip_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

end Cert.Proof.Spline

end
-- ==== Proof.Base.lean ====
/-
  The launch's set-up: the program as the launch theorem sees it, the ghost state (the handshakes' rounds
  beside the write-mode cells and the transfers' counters), and the threads.
-/
module

public import proofs.«01_k».proof.Proof.Tile
public import Idealize.ShloMosaic.Lib.SparseCore.Quiescent
public import Idealize.ShloMosaic.Lib.StableHlo.Run
public import Idealize.ShloMosaic.Lib.Pipeline.Kit
public import Idealize.ShloMosaic.Lib.WriteMode
public import Idealize.ShloMosaic.Lib.Transfers
public import Idealize.ShloMosaic.Lib.Writes

@[expose] public section

noncomputable section

namespace Cert.Proof.Spline

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; the cells of buffers in write mode; both with the transfers' counters. -/
abbrev UH : Type := URounds (GSem nD τ sig) ℕ
abbrev UW (F : FTy → Type) : Type := WmRA nD τ sig (Elt F)
abbrev UU (F : FTy → Type) : Type := UH × (UW F × Counters)

local notation "𝕄" => MT nD τ sig (HIx 1) (Elt F) ℕ (UU F) ℕ

abbrev EH : Emb UH 𝕄 := embL

/-- Where the write-mode cells live in the ghost state. -/
abbrev emW : UEmb (UW F) (UU F) := UEmb.inl.trans UEmb.inr

/-- The thread of the tile at grid coordinates `i` of device `d`. -/
abbrev thr (d : Dev nD) (i : grid0.Coords) : Thread nD τ := V d ((i 0).castLE hcore0) ((i 1).castLE hsub0)

variable [FloatOps F]

/-- A program of the tile at `i` that, from `R`, ends with `Q`. -/
abbrev Runs (d : Dev nD) (i : grid0.Coords) {α : Type} (R : sProp 𝕄) (p : Prog (TpuEff nD τ sig (Elt F) Λ₀ (.scVector ((i 0).castLE hcore0) ((i 1).castLE hsub0))) α)
    (Q : α → sProp 𝕄) : Prop :=
  R ⊢ wp frame (wpE (defs₀ (F := F)) 𝒱₀ (thr d i) none) Set.univ p Q

/-- A program that keeps `R` and returns a value with the property `φ`. -/
abbrev Yields (d : Dev nD) (i : grid0.Coords) {α : Type} (R : sProp 𝕄) (p : Prog (TpuEff nD τ sig (Elt F) Λ₀ (.scVector ((i 0).castLE hcore0) ((i 1).castLE hsub0))) α)
    (φ : α → Prop) : Prop :=
  Runs d i R p fun r => iprop(⌜φ r⌝ ∗ R)

theorem Yields.bind {d : Dev nD} {i : grid0.Coords} {α β : Type} {R : sProp 𝕄}
    {p : Prog (TpuEff nD τ sig (Elt F) Λ₀ (.scVector ((i 0).castLE hcore0) ((i 1).castLE hsub0))) α}
    {k : α → Prog (TpuEff nD τ sig (Elt F) Λ₀ (.scVector ((i 0).castLE hcore0) ((i 1).castLE hsub0))) β}
    {φ : α → Prop} {Q : β → sProp 𝕄} (hp : Yields d i R p φ) (hk : ∀ r, φ r → Runs d i R (k r) Q) :
    Runs d i R (p >>= k) Q := by
  unfold Runs
  rw [wp_bind]
  refine BI.Entails.trans hp (wp_mono frame _ _ fun r => ?_)
  iintro ⟨%hr, HR⟩
  iapply (hk r hr) $$ HR

theorem Yields.pure {d : Dev nD} {i : grid0.Coords} {α : Type} {R : sProp 𝕄} {φ : α → Prop} {r : α} (h : φ r) :
    Yields d i R (pure r) φ := by
  unfold Yields Runs
  rw [wp_pure]
  iintro HR
  imodintro
  isplitr
  · ipureintro; exact h
  · iexact HR

theorem Yields.mono {d : Dev nD} {i : grid0.Coords} {α : Type} {R : sProp 𝕄}
    {p : Prog (TpuEff nD τ sig (Elt F) Λ₀ (.scVector ((i 0).castLE hcore0) ((i 1).castLE hsub0))) α}
    {φ ψ : α → Prop} (hp : Yields d i R p φ) (h : ∀ r, φ r → ψ r) : Yields d i R p ψ := by
  refine BI.Entails.trans hp (wp_mono frame _ _ fun r => ?_)
  iintro ⟨%hr, HR⟩
  isplitr
  · ipureintro; exact h r hr
  · iexact HR

end Cert.Proof.Spline

end
-- ==== Proof.Spec.lean ====
/-
  What one tile computes, as plain functions of tables of knots `kn d j` and coefficients `co q r`
  (`d` the coordinate, `j` the knot, `q` the power, `r = d * 1023 + j`), for any float values. The search
  is by halving (`count`), the cubic by Horner's rule (`poly`).
-/
module

public import proofs.«01_k».proof.Proof.Lane

@[expose] public section

noncomputable section

namespace Cert.Proof.Spline

open Cert.KernelIdeal Cert.KernelIdeal.Gen
open Idealize.ShloMosaic

variable {F : FTy → Type} [FloatOps F]

/-- One halving: `s` knots are passed; `h` more are if the last of them is below `x`. -/
def halve (kn : ℕ → F .f32) (x : F .f32) (h s : ℕ) : ℕ :=
  if FloatOps.cmpf .olt (kn (s + h - 1)) x = 1#1 then s + h else s

theorem halve_le {kn : ℕ → F .f32} {x : F .f32} {h s b : ℕ} (hs : s ≤ b) : halve kn x h s ≤ b + h := by
  unfold halve; split <;> omega

/-- The first four halvings. -/
def top (kn : ℕ → F .f32) (x : F .f32) : ℕ :=
  halve kn x 64 (halve kn x 128 (halve kn x 256 (halve kn x 512 0)))

theorem top_le (kn : ℕ → F .f32) (x : F .f32) : top kn x ≤ 960 :=
  halve_le (halve_le (halve_le (halve_le (le_refl 0))))

/-- All ten halvings: how many knots lie below `x`, for sorted knots. -/
def count (kn : ℕ → F .f32) (x : F .f32) : ℕ :=
  halve kn x 1 (halve kn x 2 (halve kn x 4 (halve kn x 8 (halve kn x 16 (halve kn x 32 (top kn x))))))

theorem count_le (kn : ℕ → F .f32) (x : F .f32) : count kn x ≤ 1023 :=
  halve_le (halve_le (halve_le (halve_le (halve_le (halve_le (top_le kn x))))))

/-- Horner's rule. -/
def poly (a b c d x : F .f32) : F .f32 :=
  FloatOps.addf (FloatOps.mulf (FloatOps.addf (FloatOps.mulf (FloatOps.addf (FloatOps.mulf d x) c) x) b) x) a

/-- The spline of coordinate `d` at `x`. -/
def spl (kn co : ℕ → ℕ → F .f32) (d : ℕ) (x : F .f32) : F .f32 :=
  poly (co 0 (d * 1023 + (count (kn d) x - 1))) (co 1 (d * 1023 + (count (kn d) x - 1)))
    (co 2 (d * 1023 + (count (kn d) x - 1))) (co 3 (d * 1023 + (count (kn d) x - 1))) x

/-- The product of the two coordinates' splines. -/
def point (kn co : ℕ → ℕ → F .f32) (x0 x1 : F .f32) : F .f32 := FloatOps.mulf (spl kn co 0 x0) (spl kn co 1 x1)

/-- The knots' scratch holds sixteen copies of each knot. -/
def HoldsK (kn : ℕ → ℕ → F .f32) (f : S32768.Idx → F .f32) : Prop :=
  ∀ y, f y = kn ((y 0).val / 16384) ((y 0).val % 16384 / 16)

/-- The coefficients' scratch holds eight copies of each coefficient. -/
def HoldsC (co : ℕ → ℕ → F .f32) (f : S65536.Idx → F .f32) : Prop :=
  ∀ y, f y = co ((y 0).val / 16384) ((y 0).val % 16384 / 8)

/-- The vectors that a search of coordinate `d` starts from hold that coordinate's knots. -/
structure Cands.Holds (C : Cands F) (kn : ℕ → F .f32) (b : ℕ) : Prop where
  c0 : ∀ l, C.c0 l = kn 511
  c1 : ∀ l, C.c1 l = kn 255
  c2 : ∀ l, C.c2 l = kn 767
  d0 : ∀ l, C.d0 l = kn 127
  d1 : ∀ l, C.d1 l = kn 639
  d2 : ∀ l, C.d2 l = kn 383
  d3 : ∀ l, C.d3 l = kn 895
  e0 : ∀ l, C.e0 l = kn 63
  e1 : ∀ l, C.e1 l = kn 575
  e2 : ∀ l, C.e2 l = kn 319
  e3 : ∀ l, C.e3 l = kn 831
  e4 : ∀ l, C.e4 l = kn 191
  e5 : ∀ l, C.e5 l = kn 703
  e6 : ∀ l, C.e6 l = kn 447
  e7 : ∀ l, C.e7 l = kn 959
  g0 : ∀ l, C.g0 l = BitVec.ofNat 32 (b + (l 0).val + 496)
  g1 : ∀ l, C.g1 l = BitVec.ofNat 32 (b + (l 0).val + 240)
  g2 : ∀ l, C.g2 l = BitVec.ofNat 32 (b + (l 0).val + 112)
  g3 : ∀ l, C.g3 l = BitVec.ofNat 32 (b + (l 0).val + 48)
  g4 : ∀ l, C.g4 l = BitVec.ofNat 32 (b + (l 0).val + 16)
  g5 : ∀ l, C.g5 l = BitVec.ofNat 32 (b + (l 0).val)

/-- The first four halvings on vectors are `top` in every lane. -/
theorem start_eq {C : Cands F} {kn : ℕ → F .f32} {b : ℕ} (H : C.Holds kn b) (x : Vec F S16 .f32) (l : S16.Idx) :
    start C x l = BitVec.ofNat 32 (16 * top kn (x l)) := by
  obtain ⟨c0, c1, c2, d0, d1, d2, d3, e0, e1, e2, e3, e4, e5, e6, e7, -, -, -, -, -, -⟩ := H
  simp only [start, addi, select, cmpf, broadcast, Scalar.select, IntOp.addi, c0, c1, c2, d0, d1, d2, d3, e0, e1, e2, e3, e4, e5, e6, e7, top, halve]
  generalize hP : (fun j => FloatOps.cmpf CmpFPredicate.olt (kn j) (x l)) = P
  have e : ∀ j, FloatOps.cmpf CmpFPredicate.olt (kn j) (x l) = P j := fun j => congrFun hP j
  have one : (1 : BitVec 1) = 1#1 := rfl
  simp only [one, apply_ite kn, e, apply_ite P, apply_ite (fun n => FloatOps.cmpf CmpFPredicate.olt n (x l))]
  by_cases h0 : P 511 = 1#1 <;> simp only [h0, ↓reduceIte, Nat.reduceAdd, Nat.reduceSub, Nat.zero_add]
  · by_cases h1 : P 767 = 1#1 <;> simp only [h1, ↓reduceIte, Nat.reduceAdd, Nat.reduceSub]
    · by_cases h2 : P 895 = 1#1 <;> simp only [h2, ↓reduceIte, Nat.reduceAdd, Nat.reduceSub] <;> split <;> rfl
    · by_cases h2 : P 639 = 1#1 <;> simp only [h2, ↓reduceIte, Nat.reduceAdd, Nat.reduceSub] <;> split <;> rfl
  · by_cases h1 : P 255 = 1#1 <;> simp only [h1, ↓reduceIte, Nat.reduceAdd, Nat.reduceSub, Nat.zero_add]
    · by_cases h2 : P 383 = 1#1 <;> simp only [h2, ↓reduceIte, Nat.reduceAdd, Nat.reduceSub] <;> split <;> rfl
    · by_cases h2 : P 127 = 1#1 <;> simp only [h2, ↓reduceIte, Nat.reduceAdd, Nat.reduceSub, Nat.zero_add] <;> split <;> rfl

/-- One later halving in a lane. -/
theorem step_eq (kn : ℕ → F .f32) (x : F .f32) (h n : ℕ) :
    BitVec.ofNat 32 (16 * n) + (if FloatOps.cmpf .olt (kn (n + h - 1)) x = 1#1 then BitVec.ofNat 32 (16 * h) else 0#32)
      = BitVec.ofNat 32 (16 * halve kn x h n) := by
  unfold halve; split
  · rw [← BitVec.ofNat_add]; congr 1; ring
  · simp

/-- Where a found interval's coefficients lie: from sixteen times the count `n` to eight times the interval. -/
theorem cix_eq {s a : IVec S16 32} {l : S16.Idx} {n b : ℕ} (hn : n ≤ 1023) (hs : s l = BitVec.ofNat 32 (16 * n)) (ha : a l = BitVec.ofNat 32 b) :
    cix s a l = BitVec.ofNat 32 (8 * (n - 1) + b) := by
  simp only [cix, addi, shrui, maxsi, subi, broadcast, IntOp.addi, IntOp.subi, IntOp.maxsi, IntOp.shrui, hs, ha]
  rw [BitVec.ofNat_add]
  congr 1
  interval_cases n <;> rfl

end Cert.Proof.Spline

end
-- ==== Proof.Rules.lean ====
/-
  One group of sixteen lanes, run: from scratches that hold the tables and a piece of coordinates, it writes
  the sixteen points' values into the output buffer.
-/
module

public import proofs.«01_k».proof.Proof.Base
public import proofs.«01_k».proof.Proof.Spec
public import Idealize.ShloMosaic.Lib.Pipeline.ValueKit.Tiles

@[expose] public section

noncomputable section

namespace Cert.Proof.Spline

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

/-- The scratches of the knots and of the coefficients. -/
abbrev kS : Memref sig .scVector .vmem S32768 .f32 := Memref.whole cc0_scratch0
abbrev cS : Memref sig .scVector .vmem S65536 .f32 := Memref.whole cc0_scratch1

variable [FloatOps F]
variable (d : Dev nD) (i : grid0.Coords)

/-- The tile's two tables, in its scratches. -/
def Tabs (kn co : ℕ → ℕ → F .f32) : sProp 𝕄 :=
  iprop(∃ (fK : S32768.Idx → F .f32) (fC : S65536.Idx → F .f32), ⌜HoldsK kn fK⌝ ∗ ⌜HoldsC co fC⌝
    ∗ (kS.view.loc (thr d i) ↦{fullShare} fK) ∗ (cS.view.loc (thr d i) ↦{fullShare} fC))

variable {d i}
variable {kn co : ℕ → ℕ → F .f32}

/-- A gather of the knots' scratch. -/
theorem gatherK_yields {R : sProp 𝕄} {v : IVec S16 32} {n : S16.Idx → ℕ} (hv : ∀ l, v l = BitVec.ofNat 32 (n l)) (hn : ∀ l, n l < 32768) :
    Yields d i iprop(Tabs d i kn co ∗ R) (gatherK i kS v) fun r => ∀ l, r l = kn (n l / 16384) (n l % 16384 / 16) := by
  have ht : ∀ l, (v l).toNat = n l := fun l => by rw [hv, BitVec.toNat_ofNat]; exact Nat.mod_eq_of_lt (by have := hn l; omega)
  have hc : k0_chk31 v := by
    intro a l
    obtain rfl : a = 0 := Subsingleton.elim _ _
    exact (ht l).trans_lt (hn l)
  unfold Yields Runs gatherK Tabs
  simp only [Prog.lift, Prog.bind_op, Prog.bind_ret]
  rw [wp_assume_of _ _ _ _ hc, ← bind_pure (SparseCore.vectorLoadIdx _ _ _ _)]
  iintro ⟨⟨%fK, %fC, %hK, %hC, HK, HC⟩, HR⟩
  iapply (SparseCore.wp_vectorLoadIdx (c := thr d i) 𝒱₀ none Set.univ (base := kS) (Finset.subset_univ _)) $$ HK
  iintro HK
  rw [wp_pure]
  imodintro
  isplitr
  · ipureintro
    intro l
    refine ((congrFun (Memref.read_access_whole (Elt F) cc0_scratch0 fK) _).trans (hK _)).trans ?_
    show kn ((v l).toNat / 16384) ((v l).toNat % 16384 / 16) = _
    rw [ht]
  · isplitr [HR]
    · iexists fK, fC
      isplitr; · ipureintro; exact hK
      isplitr; · ipureintro; exact hC
      isplitl [HK] <;> iassumption
    · iexact HR

/-- A gather of the coefficients' scratch. -/
theorem gatherC_yields {R : sProp 𝕄} {v : IVec S16 32} {n : S16.Idx → ℕ} (hv : ∀ l, v l = BitVec.ofNat 32 (n l)) (hn : ∀ l, n l < 65536) :
    Yields d i iprop(Tabs d i kn co ∗ R) (gatherC i cS v) fun r => ∀ l, r l = co (n l / 16384) (n l % 16384 / 8) := by
  have ht : ∀ l, (v l).toNat = n l := fun l => by rw [hv, BitVec.toNat_ofNat]; exact Nat.mod_eq_of_lt (by have := hn l; omega)
  have hc : k0_chk37 v := by
    intro a l
    obtain rfl : a = 0 := Subsingleton.elim _ _
    exact (ht l).trans_lt (hn l)
  unfold Yields Runs gatherC Tabs
  simp only [Prog.lift, Prog.bind_op, Prog.bind_ret]
  rw [wp_assume_of _ _ _ _ hc, ← bind_pure (SparseCore.vectorLoadIdx _ _ _ _)]
  iintro ⟨⟨%fK, %fC, %hK, %hC, HK, HC⟩, HR⟩
  iapply (SparseCore.wp_vectorLoadIdx (c := thr d i) 𝒱₀ none Set.univ (base := cS) (Finset.subset_univ _)) $$ HC
  iintro HC
  rw [wp_pure]
  imodintro
  isplitr
  · ipureintro
    intro l
    refine ((congrFun (Memref.read_access_whole (Elt F) cc0_scratch1 fC) _).trans (hC _)).trans ?_
    show co ((v l).toNat / 16384) ((v l).toNat % 16384 / 8) = _
    rw [ht]
  · isplitr [HR]
    · iexists fK, fC
      isplitr; · ipureintro; exact hK
      isplitr; · ipureintro; exact hC
      isplitl [HK] <;> iassumption
    · iexact HR

theorem lane_lt (l : S16.Idx) : (l 0).val < 16 := (l 0).isLt

/-- One later halving, of coordinate `e`. -/
theorem halveK_yields {R : sProp 𝕄} {e h : ℕ} (he : e < 2) (h1 : 1 ≤ h) {g s : IVec S16 32} {x : Vec F S16 .f32} {n : S16.Idx → ℕ} {w : BitVec 32}
    (hw : w = BitVec.ofNat 32 (16 * h)) (hg : ∀ l, g l = BitVec.ofNat 32 (16384 * e + (l 0).val + 16 * (h - 1)))
    (hs : ∀ l, s l = BitVec.ofNat 32 (16 * n l)) (hn : ∀ l, n l + h ≤ 1024) :
    Yields d i iprop(Tabs d i kn co ∗ R) (halveK i kS g w x s) fun r => ∀ l, r l = BitVec.ofNat 32 (16 * halve (kn e) (x l) h (n l)) := by
  unfold halveK
  refine Yields.bind (gatherK_yields (n := fun l => 16 * n l + (16384 * e + (l 0).val + 16 * (h - 1))) ?_ ?_) ?_
  · intro l
    rw [BitVec.ofNat_add, ← hs, ← hg]; rfl
  · intro l
    have := lane_lt l; have := hn l
    show 16 * n l + (16384 * e + (l 0).val + 16 * (h - 1)) < 32768
    omega
  · intro k hk
    refine Yields.pure fun l => ?_
    rw [← step_eq, ← hs, ← hw]
    have e1 : (16 * n l + (16384 * e + (l 0).val + 16 * (h - 1))) / 16384 = e := by
      have := lane_lt l; have := hn l; omega
    have e2 : (16 * n l + (16384 * e + (l 0).val + 16 * (h - 1))) % 16384 / 16 = n l + h - 1 := by
      have := lane_lt l; have := hn l; omega
    have := hk l
    rw [e1, e2] at this
    show s l + (if FloatOps.cmpf .olt (k l) (x l) = 1#1 then w else 0#32) = _
    rw [this]

/-- The whole search, of coordinate `e`. -/
theorem search_yields {R : sProp 𝕄} {e : ℕ} (he : e < 2) {C : Cands F} (H : C.Holds (kn e) (16384 * e)) (x : Vec F S16 .f32) :
    Yields d i iprop(Tabs d i kn co ∗ R) (search i kS C x) fun r => ∀ l, r l = BitVec.ofNat 32 (16 * count (kn e) (x l)) := by
  unfold search
  refine Yields.bind (halveK_yields he (h := 32) (by decide) rfl H.g0 (fun l => start_eq H x l) fun l => ?_) fun s4 h4 => ?_
  · have := top_le (kn e) (x l); omega
  refine Yields.bind (halveK_yields he (h := 16) (by decide) rfl H.g1 h4 fun l => ?_) fun s5 h5 => ?_
  · have := halve_le (kn := kn e) (x := x l) (h := 32) (top_le (kn e) (x l)); omega
  refine Yields.bind (halveK_yields he (h := 8) (by decide) rfl H.g2 h5 fun l => ?_) fun s6 h6 => ?_
  · have := halve_le (kn := kn e) (x := x l) (h := 16) (halve_le (kn := kn e) (x := x l) (h := 32) (top_le (kn e) (x l))); omega
  refine Yields.bind (halveK_yields he (h := 4) (by decide) rfl H.g3 h6 fun l => ?_) fun s7 h7 => ?_
  · have := halve_le (kn := kn e) (x := x l) (h := 8) (halve_le (kn := kn e) (x := x l) (h := 16) (halve_le (kn := kn e) (x := x l) (h := 32) (top_le (kn e) (x l)))); omega
  refine Yields.bind (halveK_yields he (h := 2) (by decide) rfl H.g4 h7 fun l => ?_) fun s8 h8 => ?_
  · have := halve_le (kn := kn e) (x := x l) (h := 4) (halve_le (kn := kn e) (x := x l) (h := 8) (halve_le (kn := kn e) (x := x l) (h := 16) (halve_le (kn := kn e) (x := x l) (h := 32) (top_le (kn e) (x l))))); omega
  refine halveK_yields he (h := 1) (by decide) rfl (fun l => ?_) h8 fun l => ?_
  · exact H.g5 l
  · have := halve_le (kn := kn e) (x := x l) (h := 2) (halve_le (kn := kn e) (x := x l) (h := 4) (halve_le (kn := kn e) (x := x l) (h := 8) (halve_le (kn := kn e) (x := x l) (h := 16) (halve_le (kn := kn e) (x := x l) (h := 32) (top_le (kn e) (x l)))))); omega

/-- The cubic of coordinate `e` at a found interval. -/
theorem cubic_yields {R : sProp 𝕄} {e : ℕ} (he : e < 2) {s a : IVec S16 32} {x : Vec F S16 .f32}
    (hs : ∀ l, s l = BitVec.ofNat 32 (16 * count (kn e) (x l))) (ha : ∀ l, a l = BitVec.ofNat 32 (8184 * e + (l 0).val % 8)) :
    Yields d i iprop(Tabs d i kn co ∗ R) (cubic i cS (cix s a) x) fun r => ∀ l, r l = spl kn co e (x l) := by
  have hb : ∀ l, 8 * (count (kn e) (x l) - 1) + (8184 * e + (l 0).val % 8) < 16384 := fun l => by
    have := count_le (kn e) (x l); omega
  have hq : ∀ l, (8 * (count (kn e) (x l) - 1) + (8184 * e + (l 0).val % 8)) / 8 = e * 1023 + (count (kn e) (x l) - 1) := fun l => by
    omega
  have hv : ∀ l, cix s a l = BitVec.ofNat 32 (8 * (count (kn e) (x l) - 1) + (8184 * e + (l 0).val % 8)) := fun l =>
    cix_eq (count_le _ _) (hs l) (ha l)
  have hq' : ∀ q l, (16384 * q + (8 * (count (kn e) (x l) - 1) + (8184 * e + (l 0).val % 8))) / 16384 = q
      ∧ (16384 * q + (8 * (count (kn e) (x l) - 1) + (8184 * e + (l 0).val % 8))) % 16384 / 8 = e * 1023 + (count (kn e) (x l) - 1) := fun q l => by
    have := hb l; have := hq l
    constructor
    · omega
    · rw [Nat.mul_add_mod, Nat.mod_eq_of_lt (hb l), this]
  have g : ∀ q < 4, ∀ v : IVec S16 32, (∀ l, v l = BitVec.ofNat 32 (16384 * q) + cix s a l) →
      Yields d i iprop(Tabs d i kn co ∗ R) (gatherC i cS v) fun r => ∀ l, r l = co q (e * 1023 + (count (kn e) (x l) - 1)) := by
    intro q hq4 v hvq
    refine Yields.mono (gatherC_yields (R := R) (i := i) (d := d) (kn := kn) (co := co) (n := fun l => 16384 * q + (8 * (count (kn e) (x l) - 1) + (8184 * e + (l 0).val % 8))) ?_ ?_) ?_
    · intro l; rw [hvq, hv, BitVec.ofNat_add (16384 * q)]
    · intro l; have := hb l; show 16384 * q + _ < 65536; omega
    · intro r hr l
      rw [hr l, (hq' q l).1, (hq' q l).2]
  unfold cubic
  refine Yields.bind (g 0 (by decide) _ fun l => ?_) fun A hA => ?_
  · simp
  refine Yields.bind (g 1 (by decide) _ fun l => ?_) fun B hB => ?_
  · exact BitVec.add_comm _ _
  refine Yields.bind (g 2 (by decide) _ fun l => ?_) fun C hC => ?_
  · exact BitVec.add_comm _ _
  refine Yields.bind (g 3 (by decide) _ fun l => ?_) fun E hE => ?_
  · exact BitVec.add_comm _ _
  refine Yields.pure fun l => ?_
  show FloatOps.addf (FloatOps.mulf (FloatOps.addf (FloatOps.mulf (FloatOps.addf (FloatOps.mulf (E l) (x l)) (C l)) (x l)) (B l)) (x l)) (A l) = _
  rw [hA, hB, hC, hE]
  rfl

/-- The first four halvings' knots, read. -/
theorem cands_yields {R : sProp 𝕄} {e b : ℕ} (he : e < 2) (hb : b = 16384 * e) :
    Yields d i iprop(Tabs d i kn co ∗ R) (cands i kS b) fun C => C.Holds (kn e) b := by
  have g : ∀ j < 1024, ∀ N, N = 16 * j + b → Yields d i iprop(Tabs d i kn co ∗ R) (gatherK i kS (broadcast S16 (BitVec.ofNat 32 N))) fun r => ∀ l, r l = kn e j := by
    intro j hj N hN
    refine Yields.mono (gatherK_yields (R := R) (i := i) (d := d) (kn := kn) (co := co) (n := fun _ => N) (fun _ => rfl) fun _ => ?_) fun r hr l => ?_
    · show N < 32768; omega
    · rw [hr l, show N / 16384 = e by omega, show N % 16384 / 16 = j by omega]
  have o : ∀ (n : ℕ) (l : S16.Idx), offs (n + b) l = BitVec.ofNat 32 (b + (l 0).val + n) := by
    intro n l
    show BitVec.ofNat 32 (0 * 16 + (l 0).val) + BitVec.ofNat 32 (n + b) = _
    rw [← BitVec.ofNat_add]
    congr 1; omega
  unfold cands
  refine Yields.bind (g 511 (by decide) _ (by omega)) fun c0 h1 => ?_
  refine Yields.bind (g 255 (by decide) _ (by omega)) fun c1 h2 => ?_
  refine Yields.bind (g 767 (by decide) _ (by omega)) fun c2 h3 => ?_
  refine Yields.bind (g 127 (by decide) _ (by omega)) fun d0 h4 => ?_
  refine Yields.bind (g 639 (by decide) _ (by omega)) fun d1 h5 => ?_
  refine Yields.bind (g 383 (by decide) _ (by omega)) fun d2 h6 => ?_
  refine Yields.bind (g 895 (by decide) _ (by omega)) fun d3 h7 => ?_
  refine Yields.bind (g 63 (by decide) _ (by omega)) fun e0 h8 => ?_
  refine Yields.bind (g 575 (by decide) _ (by omega)) fun e1 h9 => ?_
  refine Yields.bind (g 319 (by decide) _ (by omega)) fun e2 h10 => ?_
  refine Yields.bind (g 831 (by decide) _ (by omega)) fun e3 h11 => ?_
  refine Yields.bind (g 191 (by decide) _ (by omega)) fun e4 h12 => ?_
  refine Yields.bind (g 703 (by decide) _ (by omega)) fun e5 h13 => ?_
  refine Yields.bind (g 447 (by decide) _ (by omega)) fun e6 h14 => ?_
  refine Yields.bind (g 959 (by decide) _ (by omega)) fun e7 h15 => ?_
  exact Yields.pure ⟨h1, h2, h3, h4, h5, h6, h7, h8, h9, h10, h11, h12, h13, h14, h15, o 496, o 240, o 112, o 48, o 16, fun l => o 0 l⟩

end Cert.Proof.Spline

end
-- ==== Proof.Lanes.lean ====
/-
  One piece's evaluation, run: from the tables and a piece of coordinates in the tile's scratches, the block loop
  leaves the piece's values in the output buffer.
-/
module

public import proofs.«01_k».proof.Proof.Rules
public import Idealize.ShloMosaic.Lib.ValueIdxCore
public import Idealize.ShloMosaic.Lib.Pipeline.ValueKit.Tiles

@[expose] public section

noncomputable section

namespace Cert.Proof.Spline

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

variable [FloatOps F]
variable {d : Dev nD} {i : grid0.Coords} {kn co X : ℕ → ℕ → F .f32}
  {xM : Memref sig .scVector .vmem S2x2048 .f32} {oM : Memref sig .scVector .vmem S2048 .f32}

/-- The coordinates' buffer holds the points from `m0` on. -/
def HoldsX (X : ℕ → ℕ → F .f32) (m0 : ℕ) (xM : Memref sig .scVector .vmem S2x2048 .f32) (fx : xM.view.ty.Contents (Elt F)) : Prop :=
  ∀ y : S2x2048.Idx, xM.view.read (Elt F) fx y = X (y 0).val (m0 + (y 1).val)

/-- The output buffer holds the first `m` values of the points from `m0` on. -/
def Upto (kn co X : ℕ → ℕ → F .f32) (m0 : ℕ) (oM : Memref sig .scVector .vmem S2048 .f32) (m : ℕ) (fo : oM.view.ty.Contents (Elt F)) : Prop :=
  ∀ y : S2048.Idx, (y 0).val < m → oM.view.read (Elt F) fo y = point kn co (X 0 (m0 + (y 0).val)) (X 1 (m0 + (y 0).val))

/-- What a tile holds of its scratches while it evaluates a piece, the first `m` values written. -/
def Work (d : Dev nD) (i : grid0.Coords) (kn co X : ℕ → ℕ → F .f32) (m0 : ℕ) (xM : Memref sig .scVector .vmem S2x2048 .f32)
    (oM : Memref sig .scVector .vmem S2048 .f32) (m : ℕ) : sProp 𝕄 :=
  iprop(Tabs d i kn co ∗ ∃ (fx : Buf (Elt F) (xM.view.loc (thr d i))) (fo : Buf (Elt F) (oM.view.loc (thr d i))), ⌜HoldsX X m0 xM fx⌝ ∗ ⌜Upto kn co X m0 oM m fo⌝
    ∗ (xM.view.loc (thr d i) ↦{fullShare} fx) ∗ (oM.view.loc (thr d i) ↦{fullShare} fo))

/-- The windows of a group of lanes lie at `m`. -/
structure Win.At (w : Win) (m : ℕ) : Prop where
  o0 : w.o0 = ![0, m]
  o1 : w.o1 = ![1, m]
  oo : w.oo = ![m]

/-- One group of lanes writes sixteen more values. -/
theorem lane_runs {m0 m : ℕ} {C0 C1 : Cands F} {a0 a1 : IVec S16 32} (H0 : C0.Holds (kn 0) 0) (H1 : C1.Holds (kn 1) 16384)
    (ha0 : ∀ l, a0 l = BitVec.ofNat 32 (8184 * 0 + (l 0).val % 8)) (ha1 : ∀ l, a1 l = BitVec.ofNat 32 (8184 * 1 + (l 0).val % 8)) {w : Win} (hw : w.At m) :
    Runs d i (Work d i kn co X m0 xM oM m) (lane i kS cS xM oM C0 C1 a0 a1 w.o0 w.o1 w.h0 w.h1 w.oo w.ho) fun _ => Work d i kn co X m0 xM oM (m + 16) := by
  obtain ⟨o0, o1, oo, h0, h1, ho⟩ := w
  obtain ⟨e0, e1, eo⟩ := hw
  dsimp only at e0 e1 eo
  subst e0 e1 eo
  unfold Runs lane Work
  simp only [Prog.lift, Prog.bind_op, Prog.bind_ret]
  iintro ⟨HT, %fx, %fo, %hX, %hU, HX, HO⟩
  have hx : ∀ (r : ℕ) (h : ∀ a, (![r, m] : Fin 2 → ℕ) a + S1x16.size a ≤ S2x2048.size a) (l : S16.Idx),
      shapeCast S16 (xM.view.readAt (Elt F) (Rect.unit (s := S2x2048) ![r, m] S1x16.size h).toLoadRect fx) shapeCasts_S1x16_S16 l = X r (m0 + (m + (l 0).val)) := by
    intro r h l
    show xM.view.read (Elt F) fx ((Rect.unit (s := S2x2048) ![r, m] S1x16.size h).idx (Shape.reshapeEquiv _ l)) = _
    rw [hX, Rect.idx_unit_val, Rect.idx_unit_val, show Shape.reshapeEquiv (s := S1x16) (s' := S16) _ l = Fin.cons ⟨0, Nat.one_pos⟩ l from Shape.reshapeEquiv_cons_one _ l]
    rfl
  have hx0 := hx 0 h0
  have hx1 := hx 1 h1
  iapply (wp_load (c := thr d i) 𝒱₀ none Set.univ (Finset.subset_univ _)) $$ HX
  iintro HX
  iapply (wp_load (c := thr d i) 𝒱₀ none Set.univ (Finset.subset_univ _)) $$ HX
  iintro HX
  generalize shapeCast S16 (xM.view.readAt (Elt F) (Rect.unit (s := S2x2048) ![0, m] S1x16.size h0).toLoadRect fx) shapeCasts_S1x16_S16 = x0 at hx0 ⊢
  generalize shapeCast S16 (xM.view.readAt (Elt F) (Rect.unit (s := S2x2048) ![1, m] S1x16.size h1).toLoadRect fx) shapeCasts_S1x16_S16 = x1 at hx1 ⊢
  ihave HR : iprop(Tabs d i kn co ∗ ((xM.view.loc (thr d i) ↦{fullShare} fx) ∗ (oM.view.loc (thr d i) ↦{fullShare} fo))) $$ [HT HX HO]
  · isplitl [HT]; · iexact HT
    isplitl [HX] <;> iassumption
  refine Yields.bind (search_yields (by decide) H0 x0) fun s0 hs0 => ?_
  refine Yields.bind (cubic_yields (by decide) hs0 ha0) fun y0 hy0 => ?_
  refine Yields.bind (search_yields (by decide) H1 x1) fun s1 hs1 => ?_
  refine Yields.bind (cubic_yields (by decide) hs1 ha1) fun y1 hy1 => ?_
  unfold Runs
  iintro ⟨HT, HX, HO⟩
  iapply (wp_load (c := thr d i) 𝒱₀ none Set.univ (Finset.subset_univ _)) $$ HO
  iintro HO
  iapply (wp_store (c := thr d i) 𝒱₀ none Set.univ (m := oM) (r := Rect.unit (s := S2048) ![m] S16.size ho) (Mk := Finset.univ) (Finset.subset_univ _)) $$ HO
  iintro HO
  rw [wp_ret]
  imodintro
  isplitl [HT]; · iexact HT
  iexists fx, _
  isplitr; · ipureintro; exact hX
  isplitr
  rotate_left
  · isplitl [HX]; · iexact HX
    iexact HO
  ipureintro
  intro y hy
  by_cases hm : (y 0).val < m
  · refine (View.read_writes_cons_miss_of_axis oM.view fo ⟨Rect.unit (s := S2048) ![m] S16.size ho, mulf y0 y1⟩ [] y 0 m 16 rfl rfl rfl (Or.inl hm)).trans (hU y hm)
  · have hl : (y 0).val - m < 16 := by omega
    refine (View.read_writes_cons_hit_of_coords oM.view fo (Rect.unit (s := S2048) ![m] S16.size ho) (mulf y0 y1) [] (ValueIdx.ix1 (n := 16) ⟨(y 0).val - m, hl⟩) y ?_).trans ?_
    · intro a
      obtain rfl : a = 0 := Subsingleton.elim _ _
      show (y 0).val = m + 1 * ((y 0).val - m)
      omega
    · show FloatOps.mulf (y0 _) (y1 _) = _
      rw [hy0, hy1, hx0, hx1]
      have e : m + ((y 0).val - m) = (y 0).val := by omega
      show FloatOps.mulf (spl kn co 0 (X 0 (m0 + (m + ((y 0).val - m))))) (spl kn co 1 (X 1 (m0 + (m + ((y 0).val - m))))) = _
      rw [e]
      rfl

/-- One block's eight groups. -/
theorem lanes_runs {m0 m : ℕ} {C0 C1 : Cands F} {a0 a1 : IVec S16 32} (H0 : C0.Holds (kn 0) 0) (H1 : C1.Holds (kn 1) 16384)
    (ha0 : ∀ l, a0 l = BitVec.ofNat 32 (8184 * 0 + (l 0).val % 8)) (ha1 : ∀ l, a1 l = BitVec.ofNat 32 (8184 * 1 + (l 0).val % 8)) {w : Fin 8 → Win} (hw : ∀ u, (w u).At (m + 16 * u.val)) :
    Runs d i (Work d i kn co X m0 xM oM m) (lanes i kS cS xM oM C0 C1 a0 a1 w) fun _ => Work d i kn co X m0 xM oM (m + 128) := by
  have step : ∀ {α : Type} (u : Fin 8) {k : PUnit → Prog (TpuEff nD τ sig (Elt F) Λ₀ (.scVector ((i 0).castLE hcore0) ((i 1).castLE hsub0))) α} {Q : α → sProp 𝕄},
      Runs d i (Work d i kn co X m0 xM oM (m + 16 * (u.val + 1))) (k ⟨⟩) Q →
      Runs d i (Work d i kn co X m0 xM oM (m + 16 * u.val)) (lane i kS cS xM oM C0 C1 a0 a1 (w u).o0 (w u).o1 (w u).h0 (w u).h1 (w u).oo (w u).ho >>= k) Q := by
    intro α u k Q h
    unfold Runs
    rw [wp_bind]
    exact BI.Entails.trans (lane_runs H0 H1 ha0 ha1 (hw u)) (wp_mono frame _ _ fun _ => h)
  unfold lanes
  refine step 0 (step 1 (step 2 (step 3 (step 4 (step 5 (step 6 (step 7 ?_)))))))
  unfold Runs
  rw [wp_pure]
  iintro H
  imodintro
  iexact H

theorem winsEven_at (t : Fin k0_t2_loop.trips) : ∀ u, (winsEven t u).At (128 * t.val + 16 * u.val) := by
  intro u
  match u with
  | 0 => exact ⟨k0_off3_eq t, k0_off4_eq t, k0_off5_eq t⟩
  | 1 => exact ⟨k0_off6_eq t, k0_off7_eq t, k0_off8_eq t⟩
  | 2 => exact ⟨k0_off9_eq t, k0_off10_eq t, k0_off11_eq t⟩
  | 3 => exact ⟨k0_off12_eq t, k0_off13_eq t, k0_off14_eq t⟩
  | 4 => exact ⟨k0_off15_eq t, k0_off16_eq t, k0_off17_eq t⟩
  | 5 => exact ⟨k0_off18_eq t, k0_off19_eq t, k0_off20_eq t⟩
  | 6 => exact ⟨k0_off21_eq t, k0_off22_eq t, k0_off23_eq t⟩
  | 7 => exact ⟨k0_off24_eq t, k0_off25_eq t, k0_off26_eq t⟩

theorem winsOdd_at (t : Fin k0_t3_loop.trips) : ∀ u, (winsOdd t u).At (128 * t.val + 16 * u.val) := by
  intro u
  match u with
  | 0 => exact ⟨k0_off29_eq t, k0_off30_eq t, k0_off31_eq t⟩
  | 1 => exact ⟨k0_off32_eq t, k0_off33_eq t, k0_off34_eq t⟩
  | 2 => exact ⟨k0_off35_eq t, k0_off36_eq t, k0_off37_eq t⟩
  | 3 => exact ⟨k0_off38_eq t, k0_off39_eq t, k0_off40_eq t⟩
  | 4 => exact ⟨k0_off41_eq t, k0_off42_eq t, k0_off43_eq t⟩
  | 5 => exact ⟨k0_off44_eq t, k0_off45_eq t, k0_off46_eq t⟩
  | 6 => exact ⟨k0_off47_eq t, k0_off48_eq t, k0_off49_eq t⟩
  | 7 => exact ⟨k0_off50_eq t, k0_off51_eq t, k0_off52_eq t⟩

set_option maxRecDepth 8000 in
/-- The block loop of one piece: the output buffer ends with all the piece's values. -/
theorem blocks_runs {m0 : ℕ} {C0 C1 : Cands F} {a0 a1 : IVec S16 32} (H0 : C0.Holds (kn 0) 0) (H1 : C1.Holds (kn 1) 16384)
    (ha0 : ∀ l, a0 l = BitVec.ofNat 32 (8184 * 0 + (l 0).val % 8)) (ha1 : ∀ l, a1 l = BitVec.ofNat 32 (8184 * 1 + (l 0).val % 8))
    {L : Scf.Loop 32} (hL : L.OK) (hn : L.trips = 16) {w : Fin L.trips → Fin 8 → Win} (hw : ∀ t u, (w t u).At (128 * t.val + 16 * u.val)) :
    Runs d i (Work d i kn co X m0 xM oM 0) (Scf.Loop.for L hL 0#32 fun t _ => lanes i kS cS xM oM C0 C1 a0 a1 (w t)) fun _ => Work d i kn co X m0 xM oM 2048 := by
  unfold Runs
  have body : ∀ (t : Fin L.trips) (_ : BitVec 32), Work d i kn co X m0 xM oM (128 * t.val)
      ⊢ wp frame (wpE (defs₀ (F := F)) 𝒱₀ (thr d i) none) Set.univ (lanes i kS cS xM oM C0 C1 a0 a1 (w t)) fun _ => Work d i kn co X m0 xM oM (128 * (t.val + 1)) :=
    fun t _ => by rw [Nat.mul_add_one]; exact lanes_runs (m := 128 * t.val) H0 H1 ha0 ha1 (hw t)
  iintro H
  iapply (Scf.wp_for frame _ Set.univ L.lb L.ub L.st hL 0#32 (fun t _ => lanes i kS cS xM oM C0 C1 a0 a1 (w t))
    (fun k _ => Work d i kn co X m0 xM oM (128 * k)) body)
  isplitl [H]
  · iexact H
  · iintro %r HW
    rw [show Scf.trips L.lb L.ub L.st = 16 from hn]
    iexact HW

end Cert.Proof.Spline

end
-- ==== Proof.Copies.lean ====
/-
  The tile's copies. In-copies of coordinates borrow a read share of the transposed input; out-copies write the
  tile's chunk of the result, held in write mode so that the two last pieces, whose windows overlap, may both be
  in flight.
-/
module

public import proofs.«01_k».proof.Proof.Lanes
public import Idealize.ShloMosaic.Lib.WriteMode
public import Idealize.ShloMosaic.Lib.Transfers
public import Idealize.ShloMosaic.Lib.SparseCore.Quiescent

@[expose] public section

noncomputable section

namespace Cert.Proof.Spline

open Cert.KernelIdeal Cert.KernelIdeal.Gen
open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open PCS

variable {F : FTy → Type}

local notation "𝕄" => MT nD τ sig (HIx 1) (Elt F) ℕ (UU F) ℕ

/-- The transposed input and the result, as a tile names them. -/
abbrev xH : Memref sig .scVector .hbm S2x4000000 .f32 := Memref.whole main_v0_scv
abbrev oH : Memref sig .scVector .hbm S4000000 .f32 := Memref.whole main_v24_scv

/-- Where the chunk of the tile at `i` begins, how far its last piece begins behind that, and where piece `p` begins. -/
def base (i : grid0.Coords) : ℕ := 249856 * (i 1).val + 124928 * (i 0).val + 128 * (min (2 * (i 1).val + (i 0).val) 18)
def cap (i : grid0.Coords) : ℕ := (if 2 * (i 1).val + (i 0).val < 18 then 1 else 0) + 960
def off (i : grid0.Coords) (p : ℕ) : ℕ := base i + 128 * min (16 * p) (cap i)

/-- The tile's chunk of the result. -/
def chunk (i : grid0.Coords) : Finset S4000000.Idx := Finset.univ.filter fun y => base i ≤ (y 0).val ∧ (y 0).val < base i + 128 * cap i + 2048

/-- The whole result. -/
def result (kn co X : ℕ → ℕ → F .f32) [FloatOps F] : S4000000.Idx → F .f32 := fun y => point kn co (X 0 (y 0).val) (X 1 (y 0).val)

/-- The marks hold the pieces of parity `r` before `n`. -/
def Done (i : grid0.Coords) (r n : ℕ) (W : Finset S4000000.Idx) : Prop :=
  ∀ p < n, p % 2 = r → ∀ y : S4000000.Idx, off i p ≤ (y 0).val → (y 0).val < off i p + 2048 → y ∈ W

variable [FloatOps F]
variable (d : Dev nD) (i : grid0.Coords) (kn co X : ℕ → ℕ → F .f32)
variable (fX : Buf (Elt F) (xH.view.loc (thr d i))) (f0 : Buf (Elt F) (oH.view.loc (thr d i)))

/-- A share of the tile's chunk in write mode, the marks holding the pieces of parity `r` before `n`. -/
def Marked (h : PosShare TreeShare) (r n : ℕ) : sProp 𝕄 :=
  iprop(∃ W : Finset S4000000.Idx, ⌜Done i r n W⌝ ∗ willBeTo emW (oH.view.loc (thr d i)) (chunk i) h f0 (fun y => some (result kn co X y)) W)

/-- A coordinates' buffer with nothing in flight. -/
def XFree (sx : DmaSems sig S_) (xM : Memref sig .scVector .vmem S2x2048 .f32) (q : PosShare TreeShare) : sProp 𝕄 :=
  iprop((∃ fx, xM.view.loc (thr d i) ↦{fullShare} fx) ∗ semVal (thr d i, .dma sx.sem) 0 ∗ (xH.view.loc (thr d i) ↦{q} fX))

/-- A coordinates' buffer with piece `p` in flight to it. -/
def XFlight (sx : DmaSems sig S_) (xM : Memref sig .scVector .vmem S2x2048 .f32) (q : PosShare TreeShare) (p : ℕ) : sProp 𝕄 :=
  iprop(∃ S' : Finset (Idx (xH.view.loc (thr d i))),
    Flight countersEmb (thr d i) (.dma sx.sem) none xM.view.dmaCredit
      iprop((∃ fx, ⌜HoldsX X (off i p) xM fx⌝ ∗ (xM.view.loc (thr d i) ↦{fullShare} fx)) ∗ (xH.view.loc (thr d i) ↦[S']{q} fX))
    ∗ (xH.view.loc (thr d i) ↦[Finset.univ \ S']{q} fX))

/-- An output buffer with nothing in flight. -/
def OFree (so : DmaSems sig S_) (oM : Memref sig .scVector .vmem S2048 .f32) (h : PosShare TreeShare) (r n : ℕ) : sProp 𝕄 :=
  iprop((∃ fo, oM.view.loc (thr d i) ↦{fullShare} fo) ∗ semVal (thr d i, .dma so.sem) 0 ∗ Marked d i kn co X f0 h r n)

/-- An output buffer in flight to the result. -/
def OFlight (so : DmaSems sig S_) (oM : Memref sig .scVector .vmem S2048 .f32) (h : PosShare TreeShare) (r n : ℕ) : sProp 𝕄 :=
  Flight countersEmb (thr d i) (.dma so.sem) none (oH.slice (Rect.unit (s := S4000000) ![0] S2048.size inb_S4000000_S2048_0) (fun _ => rfl)).view.dmaCredit
    iprop(Marked d i kn co X f0 h r n ∗ ∃ fo, oM.view.loc (thr d i) ↦{fullShare} fo)

/-- What the tile owes, its waits so far being before `W` or its own. -/
def Owes (O : CellTallies nD τ sig (HIx 1)) (W : Waits sig (HIx 1)) : sProp 𝕄 :=
  iprop(∃ W', ⌜∀ p ∈ W', p ∈ W ∨ p.2 = none⌝ ∗ owes (thr d i) O W')

variable {d i kn co X fX f0}

/-- A share of the chunk's marks, split in two and joined. -/
theorem marked_split {q q₁ q₂ : PosShare TreeShare} (hq : q ∈ q₁ ·? q₂) {ℓ : Loc nD τ sig} {I : Finset (Idx ℓ)} {f : Buf (Elt F) ℓ} {g : Tgt (Elt F) ℓ} {W₁ W₂ : Finset (Idx ℓ)} :
    (willBeTo emW ℓ I q f g (W₁ ∪ W₂) : sProp 𝕄) ⊣⊢ iprop(willBeTo emW ℓ I q₁ f g W₁ ∗ willBeTo emW ℓ I q₂ f g W₂) := by
  have e : ∀ j, (decide (j ∈ W₁ ∪ W₂)) = (decide (j ∈ W₁) || decide (j ∈ W₂)) := fun j => by
    rw [← Bool.decide_or]; exact decide_eq_decide.mpr Finset.mem_union
  refine BI.Region.held_share hq fun j _ => ?_
  have h := Idealize.SL.RA.Region.WB.mem_mk_op_mk (f j) (g j) (decide (j ∈ W₁)) (decide (j ∈ W₂))
  rw [← e] at h
  exact h

/-- Issuing the copy of piece `p` of the coordinates. -/
theorem issue_in (hX : ∀ y : S2x4000000.Idx, fX y = X (y 0).val (y 1).val) {sx : DmaSems sig S_} {xM : Memref sig .scVector .vmem S2x2048 .f32} {q : PosShare TreeShare} {p : ℕ}
    {o : Fin 2 → ℕ} (ho : o = ![0, off i p]) {h : ∀ a, o a + S2x2048.size a ≤ S2x4000000.size a}
    {h1 : (xH.slice (Rect.unit (s := S2x4000000) o S2x2048.size h) (fun _ => rfl)).view.WordExact} {h2 : xM.view.WordExact}
    {h3 : DmaTarget.Typed (nD := nD) (p := Proc.scVector ((i 0).castLE hcore0) ((i 1).castLE hsub0)) .hbm (SemLoc.dma sx.sem) (.here xM)} {α : Type} {Q : α → sProp 𝕄}
    {k : PUnit → Prog (TpuEff nD τ sig (Elt F) Λ₀ (.scVector ((i 0).castLE hcore0) ((i 1).castLE hsub0))) α} :
    XFree d i fX sx xM q ⊢ iprop((XFlight d i X fX sx xM q p -∗ wp frame (wpE (defs₀ (F := F)) 𝒱₀ (thr d i) none) Set.univ (k ⟨⟩) Q)
      -∗ wp frame (wpE (defs₀ (F := F)) 𝒱₀ (thr d i) none) Set.univ
          (.op (.enqueueDma (xH.slice (Rect.unit (s := S2x4000000) o S2x2048.size h) (fun _ => rfl)) (.here xM) (.dma sx.sem) h1 h2 h3) k) Q) := by
  unfold XFree XFlight
  iintro ⟨⟨%fx, HX⟩, Hs, Ht⟩ Hk
  ihave Ht' := (pointsTo_split_subset (Finset.subset_univ (xH.slice (Rect.unit (s := S2x4000000) o S2x2048.size h) (fun _ => rfl)).view.set)).1 $$ Ht
  icases Ht' with ⟨Hw, Hr⟩
  iapply (wp_dmaLocal countersEmb 𝒱₀ (thr d i) none (via := .same) none xM.view.dmaCredit rfl (xM.view.dmaCredit_pos (show 0 < S2x2048.numel by decide)) (Finset.subset_univ _)) $$ [Hw HX Hs]
  · isplitl [Hw]; · iexact Hw
    isplitl [HX] <;> iassumption
  iintro Hf
  iapply Hk
  iexists _
  isplitl [Hf]
  · iapply (Flight_mono countersEmb (thr d i) ?_) $$ Hf
    iintro ⟨HX, Hw⟩
    isplitl [HX]
    · iexists _
      isplitr
      rotate_left
      · iexact HX
      ipureintro
      intro y
      rw [View.read_write_univ]
      show fX ((Rect.unit (s := S2x4000000) o S2x2048.size h).idx y) = _
      have e0 : o 0 = 0 := by rw [ho]; rfl
      have e1 : o 1 = off i p := by rw [ho]; rfl
      rw [hX, Rect.idx_unit_val, Rect.idx_unit_val]
      show X (o 0 + (y 0).val) (o 1 + (y 1).val) = _
      rw [e0, e1, Nat.zero_add]
    · iexact Hw
  · iexact Hr

/-- Waiting for it. -/
theorem wait_in {O : CellTallies nD τ sig (HIx 1)} {W : Waits sig (HIx 1)} (hO : ∀ g, O g none = 0) {sx : DmaSems sig S_} {xM : Memref sig .scVector .vmem S2x2048 .f32} {q : PosShare TreeShare} {p : ℕ}
    {s' : Memref sig .scVector .hbm S2x2048 .f32} {h1 : s'.view.WordExact} {h2 : xM.view.WordExact} {α : Type} {Q : α → sProp 𝕄}
    {k : PUnit → Prog (TpuEff nD τ sig (Elt F) Λ₀ (.scVector ((i 0).castLE hcore0) ((i 1).castLE hsub0))) α} :
    iprop(levAts (K (F := F)).L (K (F := F)).lev ∗ XFlight d i X fX sx xM q p ∗ Owes d i O W)
      ⊢ iprop((iprop((∃ fx, ⌜HoldsX X (off i p) xM fx⌝ ∗ (xM.view.loc (thr d i) ↦{fullShare} fx)) ∗ semVal (thr d i, .dma sx.sem) 0
          ∗ (xH.view.loc (thr d i) ↦{q} fX) ∗ Owes d i O W) -∗ wp frame (wpE (defs₀ (F := F)) 𝒱₀ (thr d i) none) Set.univ (k ⟨⟩) Q)
      -∗ wp frame (wpE (defs₀ (F := F)) 𝒱₀ (thr d i) none) Set.univ (.op (.waitDma2 sx.sem s' xM h1 h2) k) Q) := by
  unfold XFlight Owes
  iintro ⟨#Hlv, ⟨%S', Hf, Hr⟩, %W', %hW', HO⟩ Hk
  iapply (wp_waitLocalO countersEmb 𝒱₀ (thr d i) none none rfl) $$ [Hf HO]
  · isplitl [Hf]; · iexact Hf
    isplitl [HO]; · iexact HO
    iapply ((K (F := F)).mayWait_none (SemLoc.dma sx.sem) hO); iexact Hlv
  iintro ⟨⟨HX, Hw⟩, Hs, HO⟩
  iapply Hk
  isplitl [HX]; · iexact HX
  isplitl [Hs]; · iexact Hs
  isplitl [Hw Hr]
  · iapply (pointsTo_split_subset (Finset.subset_univ S')).2
    isplitl [Hw] <;> iassumption
  · iexists _
    isplitr
    rotate_left
    · iexact HO
    ipureintro
    intro p hp
    rcases Finset.mem_insert.mp hp with rfl | hp
    · exact Or.inr rfl
    · exact hW' p hp

/-- Waiting for an output buffer's copy. -/
theorem wait_out {O : CellTallies nD τ sig (HIx 1)} {W : Waits sig (HIx 1)} (hO : ∀ g, O g none = 0) {so : DmaSems sig S_} {oM : Memref sig .scVector .vmem S2048 .f32} {hq : PosShare TreeShare} {r n : ℕ}
    {h1 : oM.view.WordExact} {h2 : (oH.slice (Rect.unit (s := S4000000) ![0] S2048.size inb_S4000000_S2048_0) (fun _ => rfl)).view.WordExact} {α : Type} {Q : α → sProp 𝕄}
    {k : PUnit → Prog (TpuEff nD τ sig (Elt F) Λ₀ (.scVector ((i 0).castLE hcore0) ((i 1).castLE hsub0))) α} :
    iprop(levAts (K (F := F)).L (K (F := F)).lev ∗ OFlight d i kn co X f0 so oM hq r n ∗ Owes d i O W)
      ⊢ iprop((iprop(OFree d i kn co X f0 so oM hq r n ∗ Owes d i O W) -∗ wp frame (wpE (defs₀ (F := F)) 𝒱₀ (thr d i) none) Set.univ (k ⟨⟩) Q)
      -∗ wp frame (wpE (defs₀ (F := F)) 𝒱₀ (thr d i) none) Set.univ
        (.op (.waitDma2 so.sem oM (oH.slice (Rect.unit (s := S4000000) ![0] S2048.size inb_S4000000_S2048_0) (fun _ => rfl)) h1 h2) k) Q) := by
  unfold OFlight OFree Owes
  iintro ⟨#Hlv, Hf, %W', %hW', HO⟩ Hk
  iapply (wp_waitLocalO countersEmb 𝒱₀ (thr d i) none none rfl) $$ [Hf HO]
  · isplitl [Hf]; · iexact Hf
    isplitl [HO]; · iexact HO
    iapply ((K (F := F)).mayWait_none (SemLoc.dma so.sem) hO); iexact Hlv
  iintro ⟨⟨HM, HX⟩, Hs, HO⟩
  iapply Hk
  isplitl [HX Hs HM]
  · isplitl [HX]; · iexact HX
    isplitl [Hs] <;> iassumption
  · iexists _
    isplitr
    rotate_left
    · iexact HO
    ipureintro
    intro p hp
    rcases Finset.mem_insert.mp hp with rfl | hp
    · exact Or.inr rfl
    · exact hW' p hp

theorem off_le (i : grid0.Coords) (p : ℕ) : base i ≤ off i p ∧ off i p ≤ base i + 128 * cap i := by
  unfold off; omega

/-- Issuing the copy of piece `p` to the result. -/
theorem issue_out {ιwm : ℕ} {so : DmaSems sig S_} {oM : Memref sig .scVector .vmem S2048 .f32} (hset : oM.view.set = Finset.univ) {hq : PosShare TreeShare} {r p : ℕ} (hr : p % 2 = r)
    {o : Fin 1 → ℕ} (ho : o = ![off i p]) {h : ∀ a, o a + S2048.size a ≤ S4000000.size a}
    {h1 : oM.view.WordExact} {h2 : (oH.slice (Rect.unit (s := S4000000) o S2048.size h) (fun _ => rfl)).view.WordExact}
    {h3 : DmaTarget.Typed (nD := nD) (p := Proc.scVector ((i 0).castLE hcore0) ((i 1).castLE hsub0)) .vmem (SemLoc.dma so.sem) (.here (oH.slice (Rect.unit (s := S4000000) o S2048.size h) (fun _ => rfl)))} {α : Type} {Q : α → sProp 𝕄}
    {k : PUnit → Prog (TpuEff nD τ sig (Elt F) Λ₀ (.scVector ((i 0).castLE hcore0) ((i 1).castLE hsub0))) α} {fo : Buf (Elt F) (oM.view.loc (thr d i))} (hfo : Upto kn co X (off i p) oM 2048 fo) :
    iprop(wmInv emW ιwm ∗ (oM.view.loc (thr d i) ↦{fullShare} fo) ∗ semVal (thr d i, .dma so.sem) 0 ∗ Marked d i kn co X f0 hq r p)
      ⊢ iprop((OFlight d i kn co X f0 so oM hq r (p + 2) -∗ wp frame (wpE (defs₀ (F := F)) 𝒱₀ (thr d i) none) Set.univ (k ⟨⟩) Q)
      -∗ wp frame (wpE (defs₀ (F := F)) 𝒱₀ (thr d i) none) Set.univ
          (.op (.enqueueDma oM (.here (oH.slice (Rect.unit (s := S4000000) o S2048.size h) (fun _ => rfl))) (.dma so.sem) h1 h2 h3) k) Q) := by
  unfold OFlight Marked
  iintro ⟨#Hwm, HX, Hs, %W, %hW, HM⟩ Hk
  have hsub : (oH.slice (Rect.unit (s := S4000000) o S2048.size h) (fun _ => rfl)).view.set ⊆ chunk i := by
    intro y hy
    have hy' := (View.set_slice_whole main_v24_scv (Rect.unit (s := S4000000) o S2048.size h)) ▸ hy
    have := (Rect.mem_set_unit.mp hy') 0
    rw [ho] at this
    have h1 := off_le i p
    have h2 : off i p ≤ (y 0).val := this.1
    have h3 : (y 0).val < off i p + 2048 := this.2
    exact Finset.mem_filter.mpr ⟨Finset.mem_univ _, by omega⟩
  have hadm : (oH.slice (Rect.unit (s := S4000000) o S2048.size h) (fun _ => rfl)).view.Admitted (Elt F) (fun y => some (result kn co X y)) (oM.view.read (Elt F) fo) Finset.univ := by
    refine View.admitted_some_iff.mpr fun x _ => ?_
    rw [hfo x (x 0).isLt]
    have e : (((Rect.unit (s := S4000000) o S2048.size h).idx x) 0).val = off i p + (x 0).val := by
      rw [Rect.idx_unit_val]
      exact congrArg (· + (x 0).val) (congrFun ho 0)
    show _ = point kn co (X 0 (((Rect.unit (s := S4000000) o S2048.size h).idx x) 0).val) (X 1 (((Rect.unit (s := S4000000) o S2048.size h).idx x) 0).val)
    rw [e]
  imod (flight_alloc countersEmb (((oH.slice (Rect.unit (s := S4000000) o S2048.size h) (fun _ => rfl)).view.dmaCredit_pos (show 0 < S2048.numel by decide)))
    iprop(willBeTo emW (oH.view.loc (thr d i)) (chunk i) hq f0 (fun y => some (result kn co X y)) (W ∪ (oH.slice (Rect.unit (s := S4000000) o S2048.size h) (fun _ => rfl)).view.set)
      ∗ (oM.view.loc (thr d i) ↦[oM.view.set]{fullShare} fo)) (g := (thr d i, SemLoc.dma so.sem))) $$ Hs with ⟨%γ, %δ, %κ, #Hinv, Hγ, Hδ⟩
  iapply (wp_enqueueDmaAs 𝒱₀ (thr d i) none Set.univ none (oH.slice (Rect.unit (s := S4000000) o S2048.size h) (fun _ => rfl)).view.dmaCredit rfl) $$ [HX HM] [Hγ]
  · isplitl [HX]
    · rw [hset]; iexact HX
    iapply (willBeTo_writeUpdate (thr d i) (v := (oH.slice (Rect.unit (s := S4000000) o S2048.size h) (fun _ => rfl)).view) hsub hadm)
    isplitr; · iexact Hwm
    iexact HM
  · iapply (flight_creditUpdate countersEmb (δ := δ))
    isplitr; · iexact Hinv
    iexact Hγ
  iintro Hcred
  iapply Hk
  iapply (Flight_mono countersEmb (thr d i) ?_)
  rotate_left
  · iapply (flight_intro countersEmb (thr d i) (κ := κ))
    isplitr; · iexact Hinv
    isplitl [Hδ]; · iexact Hδ
    iexact Hcred
  · iintro ⟨HM, HX⟩
    isplitl [HM]
    · iexists _
      isplitr
      rotate_left
      · iexact HM
      ipureintro
      intro p' hp' hr' y hlo hhi
      rw [Finset.mem_union]
      by_cases e : p' = p
      · right
        refine (View.set_slice_whole main_v24_scv (Rect.unit (s := S4000000) o S2048.size h)).symm ▸ Rect.mem_set_unit.mpr fun a => ?_
        obtain rfl : a = 0 := Subsingleton.elim (α := Fin 1) _ _
        rw [ho]
        subst e
        exact ⟨hlo, hhi⟩
      · exact Or.inl (hW p' (by omega) hr' y hlo hhi)
    · iexists fo
      rw [hset]; iexact HX

end Cert.Proof.Spline

end
-- ==== Proof.Body.lean ====
/-
  The tile's loop over its pieces. One turn fetches the next piece, waits for its own, evaluates it and sends it
  to the result; the invariant of the loop is what is in flight between two trips.
-/
module

public import proofs.«01_k».proof.Proof.Copies
public import proofs.«01_k».proof.Proof.Tile

@[expose] public section

noncomputable section

namespace Cert.Proof.Spline

open Cert.KernelIdeal Cert.KernelIdeal.Gen
open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open PCS

variable {F : FTy → Type}

local notation "𝕄" => MT nD τ sig (HIx 1) (Elt F) ℕ (UU F) ℕ

variable [FloatOps F]
variable {d : Dev nD} {i : grid0.Coords} {kn co X : ℕ → ℕ → F .f32}
variable {fX : Buf (Elt F) (xH.view.loc (thr d i))} {f0 : Buf (Elt F) (oH.view.loc (thr d i))}

theorem Runs.bind {α β : Type} {R : sProp 𝕄}
    {p : Prog (TpuEff nD τ sig (Elt F) Λ₀ (.scVector ((i 0).castLE hcore0) ((i 1).castLE hsub0))) α}
    {k : α → Prog (TpuEff nD τ sig (Elt F) Λ₀ (.scVector ((i 0).castLE hcore0) ((i 1).castLE hsub0))) β}
    {Q : α → sProp 𝕄} {Q' : β → sProp 𝕄} (hp : Runs d i R p Q) :
    R ⊢ iprop((∀ r, Q r -∗ wp frame (wpE (defs₀ (F := F)) 𝒱₀ (thr d i) none) Set.univ (k r) Q')
      -∗ wp frame (wpE (defs₀ (F := F)) 𝒱₀ (thr d i) none) Set.univ (p >>= k) Q') := by
  rw [wp_bind]
  iintro HR Hk
  iapply (wp_wand_r frame _ Set.univ)
  isplitl [HR]
  · iapply hp; iexact HR
  · iexact Hk

theorem gate_yes {E : Type → Type} {α : Type} {c : BitVec 1} {e : c = 1#1 → E PUnit} {k : PUnit → Prog E α} (h : c = 1#1) :
    (gate c e >>= k) = .op (e h) k := by
  unfold gate; rw [dif_pos h]; rfl

theorem gate_no {E : Type → Type} {α : Type} {c : BitVec 1} {e : c = 1#1 → E PUnit} {k : PUnit → Prog E α} (h : c ≠ 1#1) :
    (gate c e >>= k) = k ⟨⟩ := by
  unfold gate; rw [dif_neg h]; rfl

/-- What it holds of the coordinates' buffers before piece `p`, the last perhaps passed. -/
def Coming (d : Dev nD) (i : grid0.Coords) (X : ℕ → ℕ → F .f32) (fX : Buf (Elt F) (xH.view.loc (thr d i)))
    (sx : DmaSems sig S_) (xM : Memref sig .scVector .vmem S2x2048 .f32) (q : PosShare TreeShare) (p : ℕ) : sProp 𝕄 :=
  if p < 62 then XFlight d i X fX sx xM q p else XFree d i fX sx xM q

/-- What it holds of an output buffer before piece `p` of the buffer's parity. -/
def Going (d : Dev nD) (i : grid0.Coords) (kn co X : ℕ → ℕ → F .f32) (f0 : Buf (Elt F) (oH.view.loc (thr d i)))
    (so : DmaSems sig S_) (oM : Memref sig .scVector .vmem S2048 .f32) (h : PosShare TreeShare) (r p : ℕ) : sProp 𝕄 :=
  if p < 2 then OFree d i kn co X f0 so oM h r p else OFlight d i kn co X f0 so oM h r p

/-- One turn. -/
theorem turn_runs {O : CellTallies nD τ sig (HIx 1)} {W : Waits sig (HIx 1)} (hO : ∀ g, O g none = 0) {ιwm : ℕ}
    (hX : ∀ y : S2x4000000.Idx, fX y = X (y 0).val (y 1).val)
    {C0 C1 : Cands F} {a0 a1 : IVec S16 32} (H0 : C0.Holds (kn 0) 0) (H1 : C1.Holds (kn 1) 16384)
    (ha0 : ∀ l, a0 l = BitVec.ofNat 32 (8184 * 0 + (l 0).val % 8)) (ha1 : ∀ l, a1 l = BitVec.ofNat 32 (8184 * 1 + (l 0).val % 8))
    {xM yM : Memref sig .scVector .vmem S2x2048 .f32} {hx : xM.IsWhole} {hy : yM.IsWhole} {oM : Memref sig .scVector .vmem S2048 .f32} {ho : oM.IsWhole}
    (hset : oM.view.set = Finset.univ) {sx sy so : DmaSems sig S_} {q₁ q₂ h : PosShare TreeShare} {r p : ℕ} (hr : p % 2 = r) (hp : p < 62)
    {c : BitVec 1} (hc : c = 1#1 ↔ p + 1 < 62) {o : Fin 2 → ℕ} {hoff : c = 1#1 → ∀ a, o a + S2x2048.size a ≤ S2x4000000.size a} (heo : o = ![0, off i (p + 1)])
    {v : BitVec 32} (hv : later v = 1#1 ↔ ¬ p < 2) {L : Scf.Loop 32} {hL : L.OK} (hn : L.trips = 16) {w : Fin L.trips → Fin 8 → Win}
    (hw : ∀ t u, (w t u).At (128 * t.val + 16 * u.val)) {oo : Fin 1 → ℕ} {hoo : ∀ a, oo a + S2048.size a ≤ S4000000.size a} (heoo : oo = ![off i p]) :
    Runs d i iprop(levAts (K (F := F)).L (K (F := F)).lev ∗ wmInv emW ιwm ∗ Tabs d i kn co ∗ XFlight d i X fX sx xM q₁ p ∗ XFree d i fX sy yM q₂
        ∗ Going d i kn co X f0 so oM h r p ∗ Owes d i O W)
      (turn i xH oH xM yM hx hy oM ho sx sy so c o hoff v L hL (fun u _ => lanes i kS cS xM oM C0 C1 a0 a1 (w u)) oo hoo)
      fun _ => iprop(Tabs d i kn co ∗ Coming d i X fX sy yM q₂ (p + 1) ∗ XFree d i fX sx xM q₁ ∗ OFlight d i kn co X f0 so oM h r (p + 2) ∗ Owes d i O W) := by
  unfold Runs turn
  -- from the wait on
  have rest : iprop(levAts (K (F := F)).L (K (F := F)).lev ∗ wmInv emW ιwm ∗ Tabs d i kn co ∗ XFlight d i X fX sx xM q₁ p ∗ Coming d i X fX sy yM q₂ (p + 1)
        ∗ Going d i kn co X f0 so oM h r p ∗ Owes d i O W)
      ⊢ wp frame (wpE (defs₀ (F := F)) 𝒱₀ (thr d i) none) Set.univ (do
        Prog.lift (.waitDma2 sx.sem (xH.slice (Rect.unit (s := S2x4000000) ![0, 0] S2x2048.size inb_S2x4000000_S2x2048_0_0) (fun _ => rfl)) xM (View.wordExact_bits rfl) hx.wordExact)
        gate (later v) fun _ => .waitDma2 so.sem oM (oH.slice (Rect.unit (s := S4000000) ![0] S2048.size inb_S4000000_S2048_0) (fun _ => rfl)) ho.wordExact (View.wordExact_bits rfl)
        let _ ← Scf.Loop.for L hL 0#32 (fun u _ => lanes i kS cS xM oM C0 C1 a0 a1 (w u))
        Prog.lift (.enqueueDma oM (.here (oH.slice (Rect.unit (s := S4000000) oo S2048.size hoo) (fun _ => rfl))) (.dma so.sem) ho.wordExact (View.wordExact_bits rfl) ⟨Or.inl rfl, trivial⟩))
      fun _ => iprop(Tabs d i kn co ∗ Coming d i X fX sy yM q₂ (p + 1) ∗ XFree d i fX sx xM q₁ ∗ OFlight d i kn co X f0 so oM h r (p + 2) ∗ Owes d i O W) := by
    -- from the loop on
    have rest2 : iprop(levAts (K (F := F)).L (K (F := F)).lev ∗ wmInv emW ιwm ∗ Tabs d i kn co ∗ ((∃ fx, ⌜HoldsX X (off i p) xM fx⌝ ∗ (xM.view.loc (thr d i) ↦{fullShare} fx)) ∗ semVal (thr d i, .dma sx.sem) 0
          ∗ (xH.view.loc (thr d i) ↦{q₁} fX)) ∗ Coming d i X fX sy yM q₂ (p + 1) ∗ OFree d i kn co X f0 so oM h r p ∗ Owes d i O W)
        ⊢ wp frame (wpE (defs₀ (F := F)) 𝒱₀ (thr d i) none) Set.univ (do
          let _ ← Scf.Loop.for L hL 0#32 (fun u _ => lanes i kS cS xM oM C0 C1 a0 a1 (w u))
          Prog.lift (.enqueueDma oM (.here (oH.slice (Rect.unit (s := S4000000) oo S2048.size hoo) (fun _ => rfl))) (.dma so.sem) ho.wordExact (View.wordExact_bits rfl) ⟨Or.inl rfl, trivial⟩))
        fun _ => iprop(Tabs d i kn co ∗ Coming d i X fX sy yM q₂ (p + 1) ∗ XFree d i fX sx xM q₁ ∗ OFlight d i kn co X f0 so oM h r (p + 2) ∗ Owes d i O W) := by
      unfold OFree
      iintro ⟨#Hlv, #Hwm, HT, ⟨⟨%fx, %hfx, HX⟩, Hsx, Hq⟩, HC, ⟨⟨%fo, HO⟩, Hso, HM⟩, HW⟩
      iapply (Runs.bind (blocks_runs (m0 := off i p) (xM := xM) (oM := oM) (X := X) H0 H1 ha0 ha1 hL hn hw)) $$ [HT HX HO]
      · unfold Work
        isplitl [HT]; · iexact HT
        iexists fx, fo
        isplitr; · ipureintro; exact hfx
        isplitr; · ipureintro; intro y hy; exact absurd hy (Nat.not_lt_zero _)
        isplitl [HX] <;> iassumption
      iintro %acc HWk
      unfold Work
      icases HWk with ⟨HT, %fx', %fo', %hfx', %hfo', HX, HO⟩
      simp only [Prog.lift]
      iapply (issue_out (ιwm := ιwm) (f0 := f0) hset hr heoo hfo') $$ [HO Hso HM]
      · isplitr; · iexact Hwm
        isplitl [HO]; · iexact HO
        isplitl [Hso] <;> iassumption
      iintro Hf
      rw [wp_ret]
      imodintro
      isplitl [HT]; · iexact HT
      isplitl [HC]; · iexact HC
      isplitl [HX Hsx Hq]
      · unfold XFree
        isplitl [HX]; · iexists _; iexact HX
        isplitl [Hsx] <;> iassumption
      isplitl [Hf] <;> iassumption
    simp only [Prog.lift, Prog.bind_op, Prog.bind_ret] at rest2 ⊢
    unfold Going
    by_cases hp2 : p < 2
    · rw [gate_no (fun e => hv.mp e hp2), if_pos hp2]
      iintro ⟨#Hlv, #Hwm, HT, HX, HC, HG, HW⟩
      iapply (wait_in hO) $$ [HX HW]
      · isplitr; · iexact Hlv
        isplitl [HX] <;> iassumption
      iintro ⟨HX, Hsx, Hq, HW⟩
      iapply rest2
      isplitr; · iexact Hlv
      isplitr; · iexact Hwm
      isplitl [HT]; · iexact HT
      isplitl [HX Hsx Hq]
      · isplitl [HX]; · iexact HX
        isplitl [Hsx] <;> iassumption
      isplitl [HC]; · iexact HC
      isplitl [HG] <;> iassumption
    · rw [gate_yes (hv.mpr hp2), if_neg hp2]
      iintro ⟨#Hlv, #Hwm, HT, HX, HC, HG, HW⟩
      iapply (wait_in hO) $$ [HX HW]
      · isplitr; · iexact Hlv
        isplitl [HX] <;> iassumption
      iintro ⟨HX, Hsx, Hq, HW⟩
      iapply (wait_out hO) $$ [HG HW]
      · isplitr; · iexact Hlv
        isplitl [HG] <;> iassumption
      iintro ⟨HG, HW⟩
      iapply rest2
      isplitr; · iexact Hlv
      isplitr; · iexact Hwm
      isplitl [HT]; · iexact HT
      isplitl [HX Hsx Hq]
      · isplitl [HX]; · iexact HX
        isplitl [Hsx] <;> iassumption
      isplitl [HC]; · iexact HC
      isplitl [HG] <;> iassumption
  iintro ⟨#Hlv, #Hwm, HT, HX, HY, HG, HW⟩
  by_cases hp1 : p + 1 < 62
  · rw [gate_yes (hc.mpr hp1)]
    iapply (issue_in hX heo) $$ HY
    iintro HY
    iapply rest
    isplitr; · iexact Hlv
    isplitr; · iexact Hwm
    isplitl [HT]; · iexact HT
    isplitl [HX]; · iexact HX
    isplitl [HY]
    · unfold Coming; rw [if_pos hp1]; iexact HY
    isplitl [HG] <;> iassumption
  · rw [gate_no (fun e => hp1 (hc.mp e))]
    iapply rest
    isplitr; · iexact Hlv
    isplitr; · iexact Hwm
    isplitl [HT]; · iexact HT
    isplitl [HX]; · iexact HX
    isplitl [HY]
    · unfold Coming; rw [if_neg hp1]; iexact HY
    isplitl [HG] <;> iassumption

/-! ### The trips -/

/-- The tile's buffers. -/
abbrev xA : Memref sig .scVector .vmem S2x2048 .f32 := Memref.whole cc0_scratch2
abbrev xB : Memref sig .scVector .vmem S2x2048 .f32 := Memref.whole cc0_scratch3
abbrev oA : Memref sig .scVector .vmem S2048 .f32 := Memref.whole cc0_scratch4
abbrev oB : Memref sig .scVector .vmem S2048 .f32 := Memref.whole cc0_scratch5

theorem cond1_iff : ∀ t : Fin k0_t1_loop.trips, k0_cond1 t = 1#1 ↔ 2 * t.val + 1 < 62 := by decide +kernel
theorem cond3_iff : ∀ t : Fin k0_t1_loop.trips, k0_cond3 t = 1#1 ↔ 2 * t.val + 1 + 1 < 62 := by decide +kernel
theorem laterEven_iff : ∀ t : Fin k0_t1_loop.trips, later (pieceEven t) = 1#1 ↔ ¬ 2 * t.val < 2 := by decide +kernel
theorem laterOdd_iff : ∀ t : Fin k0_t1_loop.trips, later (pieceOdd t) = 1#1 ↔ ¬ 2 * t.val + 1 < 2 := by decide +kernel
theorem trips_lt : ∀ t : Fin k0_t1_loop.trips, t.val < 31 := by decide +kernel

theorem off2_off (t : Fin k0_t1_loop.trips) : k0_off2 i t = ![0, off i (2 * t.val + 1)] := by
  rw [k0_off2_eq, off, base, cap, show 16 * (2 * t.val + 1) = 32 * t.val + 16 by omega]
theorem off28_off (t : Fin k0_t1_loop.trips) : k0_off28 i t = ![0, off i (2 * t.val + 1 + 1)] := by
  rw [k0_off28_eq, off, base, cap, show 16 * (2 * t.val + 1 + 1) = 32 * t.val + 32 by omega]
theorem off27_even (t : Fin k0_t1_loop.trips) : k0_off27 i t 0#32 = ![off i (2 * t.val)] := by
  rw [off, base, cap, show 16 * (2 * t.val) = 32 * t.val + 16 * 0 by omega]; exact k0_off27_eq i t 0
theorem off27_odd (t : Fin k0_t1_loop.trips) : k0_off27 i t 1#32 = ![off i (2 * t.val + 1)] := by
  rw [off, base, cap, show 16 * (2 * t.val + 1) = 32 * t.val + 16 * 1 by omega]
  exact k0_off27_eq i t 1

/-- What is held between two trips. -/
def Trips (d : Dev nD) (i : grid0.Coords) (kn co X : ℕ → ℕ → F .f32) (fX : Buf (Elt F) (xH.view.loc (thr d i))) (f0 : Buf (Elt F) (oH.view.loc (thr d i)))
    (O : CellTallies nD τ sig (HIx 1)) (W : Waits sig (HIx 1)) (q₁ q₂ h₁ h₂ : PosShare TreeShare) (t : ℕ) : sProp 𝕄 :=
  iprop(Tabs d i kn co ∗ Coming d i X fX cc0_scratch6 xA q₁ (2 * t) ∗ XFree d i fX cc0_scratch7 xB q₂
    ∗ Going d i kn co X f0 cc0_scratch8 oA h₁ 0 (2 * t) ∗ Going d i kn co X f0 cc0_scratch9 oB h₂ 1 (2 * t + 1) ∗ Owes d i O W)

theorem going_of_flight {so : DmaSems sig S_} {oM : Memref sig .scVector .vmem S2048 .f32} {h : PosShare TreeShare} {r p : ℕ} :
    OFlight d i kn co X f0 so oM h r (p + 2) ⊢ Going d i kn co X f0 so oM h r (p + 2) := by
  unfold Going; rw [if_neg (by omega)]

theorem flight_of_coming {sx : DmaSems sig S_} {xM : Memref sig .scVector .vmem S2x2048 .f32} {q : PosShare TreeShare} {p : ℕ} (hp : p < 62) :
    Coming d i X fX sx xM q p ⊢ XFlight d i X fX sx xM q p := by
  unfold Coming; rw [if_pos hp]

set_option maxHeartbeats 800000 in
/-- One trip: an even piece and an odd one. -/
theorem trip_runs {O : CellTallies nD τ sig (HIx 1)} {W : Waits sig (HIx 1)} (hO : ∀ g, O g none = 0) {ιwm : ℕ}
    (hX : ∀ y : S2x4000000.Idx, fX y = X (y 0).val (y 1).val)
    {C0 C1 : Cands F} {a0 a1 : IVec S16 32} (H0 : C0.Holds (kn 0) 0) (H1 : C1.Holds (kn 1) 16384)
    (ha0 : ∀ l, a0 l = BitVec.ofNat 32 (8184 * 0 + (l 0).val % 8)) (ha1 : ∀ l, a1 l = BitVec.ofNat 32 (8184 * 1 + (l 0).val % 8))
    {q₁ q₂ h₁ h₂ : PosShare TreeShare} {a3 a4} {b2 b3 b4 b5 b6 b7 b8 b9 b10 b11} {s0 s1 : DmaSems sig S_} (t : Fin k0_t1_loop.trips) :
    iprop(levAts (K (F := F)).L (K (F := F)).lev ∗ wmInv emW ιwm ∗ Trips d i kn co X fX f0 O W q₁ q₂ h₁ h₂ t.val)
      ⊢ wp frame (wpE (defs₀ (F := F)) 𝒱₀ (thr d i) none) Set.univ
        (trip i xH b2 a3 b3 a4 b4 oH b5 kS b6 cS b7 xA b8 xB b9 oA b10 oB b11 cc0_scratch6 cc0_scratch7 cc0_scratch8 cc0_scratch9 s0 s1 C0 C1 a0 a1 t)
        fun _ => Trips d i kn co X fX f0 O W q₁ q₂ h₁ h₂ (t.val + 1) := by
  have ht := trips_lt t
  have hA : oA.view.set = Finset.univ := View.set_whole _
  have hB : oB.view.set = Finset.univ := View.set_whole _
  unfold trip Trips
  iintro ⟨#Hlv, #Hwm, HT, HX, HY, HA, HB, HW⟩
  iapply (Runs.bind (turn_runs (ιwm := ιwm) (h := h₁) (r := 0) (q₁ := q₁) (q₂ := q₂) hO hX H0 H1 ha0 ha1 hA (by omega) (by omega) (cond1_iff t) (off2_off t)
    (laterEven_iff t) (by decide) (fun u => winsEven_at u) (off27_even t))) $$ [HT HX HY HA HW]
  · isplitr; · iexact Hlv
    isplitr; · iexact Hwm
    isplitl [HT]; · iexact HT
    isplitl [HX]; · iapply (flight_of_coming (by omega)); iexact HX
    isplitl [HY]; · iexact HY
    isplitl [HA] <;> iassumption
  iintro %_ ⟨HT, HY, HX, HA, HW⟩
  iapply (Runs.bind (turn_runs (ιwm := ιwm) (h := h₂) (r := 1) (q₁ := q₂) (q₂ := q₁) hO hX H0 H1 ha0 ha1 hB (by omega) (by omega) (cond3_iff t) (off28_off t)
    (laterOdd_iff t) (by decide) (fun u => winsOdd_at u) (off27_odd t))) $$ [HT HX HY HB HW]
  · isplitr; · iexact Hlv
    isplitr; · iexact Hwm
    isplitl [HT]; · iexact HT
    isplitl [HY]; · iapply (flight_of_coming (by omega)); iexact HY
    isplitl [HX]; · iexact HX
    isplitl [HB] <;> iassumption
  iintro %_ ⟨HT, HX, HY, HB, HW⟩
  rw [wp_pure, Nat.mul_add_one]
  imodintro
  isplitl [HT]; · iexact HT
  isplitl [HX]; · iexact HX
  isplitl [HY]; · iexact HY
  isplitl [HA]; · iapply going_of_flight; iexact HA
  isplitl [HB]
  · rw [Nat.add_right_comm]; iapply going_of_flight; iexact HB
  iexact HW

end Cert.Proof.Spline

end
-- ==== Proof.Whole.lean ====
/-
  The whole body of a tile: the two tables fetched, the first halvings' knots read, the loop over the pieces run,
  and the two last pieces awaited. The tile's chunk of the result enters write mode before and leaves it after.
-/
module

public import proofs.«01_k».proof.Proof.Body

@[expose] public section

noncomputable section

namespace Cert.Proof.Spline

open Cert.KernelIdeal Cert.KernelIdeal.Gen
open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open PCS

variable {F : FTy → Type}

local notation "𝕄" => MT nD τ sig (HIx 1) (Elt F) ℕ (UU F) ℕ

variable [FloatOps F]
variable {d : Dev nD} {i : grid0.Coords} {kn co X : ℕ → ℕ → F .f32}
variable {fX : Buf (Elt F) (xH.view.loc (thr d i))} {f0 : Buf (Elt F) (oH.view.loc (thr d i))}

/-- The knots' and the coefficients' tables, as a tile names them. -/
abbrev kH : Memref sig .scVector .hbm S32768 .f32 := Memref.whole main_v4_scv
abbrev cH : Memref sig .scVector .hbm S65536 .f32 := Memref.whole main_v23_scv

/-- A whole array fetched and awaited. -/
theorem fetch_whole {O : CellTallies nD τ sig (HIx 1)} {W : Waits sig (HIx 1)} (hO : ∀ g, O g none = 0) {s : Shape} {sm : DmaSems sig S_} {src : Memref sig .scVector .hbm s .f32}
    {dst : Memref sig .scVector .vmem s .f32} (hs : src.view.set = Finset.univ) (hn : 0 < s.numel) {q : PosShare TreeShare} {fs : Buf (Elt F) (src.view.loc (thr d i))}
    {h1 : src.view.WordExact} {h2 : dst.view.WordExact} {h3 : DmaTarget.Typed (nD := nD) (p := Proc.scVector ((i 0).castLE hcore0) ((i 1).castLE hsub0)) .hbm (SemLoc.dma sm.sem) (.here dst)}
    {α : Type} {Q : α → sProp 𝕄}
    {k : PUnit → Prog (TpuEff nD τ sig (Elt F) Λ₀ (.scVector ((i 0).castLE hcore0) ((i 1).castLE hsub0))) α} :
    iprop(levAts (K (F := F)).L (K (F := F)).lev ∗ (src.view.loc (thr d i) ↦{q} fs) ∗ (∃ fd, dst.view.loc (thr d i) ↦{fullShare} fd) ∗ semVal (thr d i, .dma sm.sem) 0 ∗ Owes d i O W)
      ⊢ iprop((iprop((src.view.loc (thr d i) ↦{q} fs) ∗ (∃ fd, dst.view.loc (thr d i) ↦{fullShare} (dst.view.write (Elt F) fd (src.view.read (Elt F) fs) Finset.univ))
          ∗ semVal (thr d i, .dma sm.sem) 0 ∗ Owes d i O W) -∗ wp frame (wpE (defs₀ (F := F)) 𝒱₀ (thr d i) none) Set.univ (k ⟨⟩) Q)
      -∗ wp frame (wpE (defs₀ (F := F)) 𝒱₀ (thr d i) none) Set.univ (.op (.enqueueDma src (.here dst) (.dma sm.sem) h1 h2 h3) fun _ => .op (.waitDma2 sm.sem src dst h1 h2) k) Q) := by
  unfold Owes
  iintro ⟨#Hlv, Hs, ⟨%fd, Hd⟩, Hv, %W', %hW', HO⟩ Hk
  rw [← hs]
  iapply (wp_dmaLocal countersEmb 𝒱₀ (thr d i) none (via := .same) none dst.view.dmaCredit rfl (dst.view.dmaCredit_pos hn) (Finset.subset_univ _)) $$ [Hs Hd Hv]
  · isplitl [Hs]; · iexact Hs
    isplitl [Hd] <;> iassumption
  iintro Hf
  iapply (wp_waitLocalO countersEmb 𝒱₀ (thr d i) none none rfl) $$ [Hf HO]
  · isplitl [Hf]; · iexact Hf
    isplitl [HO]; · iexact HO
    iapply ((K (F := F)).mayWait_none (SemLoc.dma sm.sem) hO); iexact Hlv
  iintro ⟨⟨HX, Hw⟩, Hs, HO⟩
  iapply Hk
  isplitl [Hw]; · iexact Hw
  isplitl [HX]; · iexists _; iexact HX
  isplitl [Hs]; · iexact Hs
  iexists _
  isplitr
  rotate_left
  · iexact HO
  ipureintro
  intro p hp
  rcases Finset.mem_insert.mp hp with rfl | hp
  · exact Or.inr rfl
  · exact hW' p hp

theorem trips_eq : k0_t1_loop.trips = 31 := by decide +kernel

set_option maxHeartbeats 800000 in
/-- The loop over the pieces. -/
theorem loop_runs {O : CellTallies nD τ sig (HIx 1)} {W : Waits sig (HIx 1)} (hO : ∀ g, O g none = 0) {ιwm : ℕ}
    (hX : ∀ y : S2x4000000.Idx, fX y = X (y 0).val (y 1).val)
    {C0 C1 : Cands F} {a0 a1 : IVec S16 32} (H0 : C0.Holds (kn 0) 0) (H1 : C1.Holds (kn 1) 16384)
    (ha0 : ∀ l, a0 l = BitVec.ofNat 32 (8184 * 0 + (l 0).val % 8)) (ha1 : ∀ l, a1 l = BitVec.ofNat 32 (8184 * 1 + (l 0).val % 8))
    {q₁ q₂ h₁ h₂ : PosShare TreeShare} {a3 a4} {b2 b3 b4 b5 b6 b7 b8 b9 b10 b11} {s0 s1 : DmaSems sig S_} :
    Runs d i iprop(levAts (K (F := F)).L (K (F := F)).lev ∗ wmInv emW ιwm ∗ Trips d i kn co X fX f0 O W q₁ q₂ h₁ h₂ 0)
      (Scf.Loop.for k0_t1_loop k0_t1_ok 0#32 fun t _ => trip i xH b2 a3 b3 a4 b4 oH b5 kS b6 cS b7 xA b8 xB b9 oA b10 oB b11 cc0_scratch6 cc0_scratch7 cc0_scratch8 cc0_scratch9 s0 s1 C0 C1 a0 a1 t)
      fun _ => Trips d i kn co X fX f0 O W q₁ q₂ h₁ h₂ 31 := by
  unfold Runs
  have body : ∀ (t : Fin k0_t1_loop.trips) (_ : BitVec 32), iprop(levAts (K (F := F)).L (K (F := F)).lev ∗ wmInv emW ιwm ∗ Trips d i kn co X fX f0 O W q₁ q₂ h₁ h₂ t.val)
      ⊢ wp frame (wpE (defs₀ (F := F)) 𝒱₀ (thr d i) none) Set.univ
        (trip i xH b2 a3 b3 a4 b4 oH b5 kS b6 cS b7 xA b8 xB b9 oA b10 oB b11 cc0_scratch6 cc0_scratch7 cc0_scratch8 cc0_scratch9 s0 s1 C0 C1 a0 a1 t)
        fun _ => iprop(levAts (K (F := F)).L (K (F := F)).lev ∗ wmInv emW ιwm ∗ Trips d i kn co X fX f0 O W q₁ q₂ h₁ h₂ (t.val + 1)) := fun t _ => by
    iintro ⟨#Hlv, #Hwm, HT⟩
    iapply (wp_wand_r frame _ Set.univ)
    isplitl [HT]
    · iapply (trip_runs (ιwm := ιwm) hO hX H0 H1 ha0 ha1 t)
      isplitr; · iexact Hlv
      isplitr; · iexact Hwm
      iexact HT
    · iintro %_ HT
      isplitr; · iexact Hlv
      isplitr; · iexact Hwm
      iexact HT
  iintro H
  iapply (Scf.wp_for frame _ Set.univ k0_t1_loop.lb k0_t1_loop.ub k0_t1_loop.st k0_t1_ok 0#32
    (fun t _ => trip i xH b2 a3 b3 a4 b4 oH b5 kS b6 cS b7 xA b8 xB b9 oA b10 oB b11 cc0_scratch6 cc0_scratch7 cc0_scratch8 cc0_scratch9 s0 s1 C0 C1 a0 a1 t)
    (fun k _ => iprop(levAts (K (F := F)).L (K (F := F)).lev ∗ wmInv emW ιwm ∗ Trips d i kn co X fX f0 O W q₁ q₂ h₁ h₂ k)) body)
  isplitl [H]
  · iexact H
  · iintro %r HW
    rw [show Scf.trips k0_t1_loop.lb k0_t1_loop.ub k0_t1_loop.st = 31 from trips_eq]
    icases HW with ⟨-, -, HW⟩
    iexact HW

/-- The loop's invariant before the first trip and after the last. -/
theorem trips_first {O : CellTallies nD τ sig (HIx 1)} {W : Waits sig (HIx 1)} {q₁ q₂ h₁ h₂ : PosShare TreeShare} :
    iprop(Tabs d i kn co ∗ XFlight d i X fX cc0_scratch6 xA q₁ 0 ∗ XFree d i fX cc0_scratch7 xB q₂ ∗ OFree d i kn co X f0 cc0_scratch8 oA h₁ 0 0
      ∗ OFree d i kn co X f0 cc0_scratch9 oB h₂ 1 1 ∗ Owes d i O W) ⊢ Trips d i kn co X fX f0 O W q₁ q₂ h₁ h₂ 0 := by
  unfold Trips Coming Going
  rw [if_pos (by decide), if_pos (by decide), if_pos (by decide)]

theorem trips_last {O : CellTallies nD τ sig (HIx 1)} {W : Waits sig (HIx 1)} {q₁ q₂ h₁ h₂ : PosShare TreeShare} :
    Trips d i kn co X fX f0 O W q₁ q₂ h₁ h₂ 31
    ⊢ iprop(Tabs d i kn co ∗ XFree d i fX cc0_scratch6 xA q₁ ∗ XFree d i fX cc0_scratch7 xB q₂ ∗ OFlight d i kn co X f0 cc0_scratch8 oA h₁ 0 62
      ∗ OFlight d i kn co X f0 cc0_scratch9 oB h₂ 1 63 ∗ Owes d i O W) := by
  unfold Trips Coming Going
  rw [if_neg (by decide), if_neg (by decide), if_neg (by decide)]

/-- All the pieces together cover the chunk. -/
theorem pieces_cover {W₁ W₂ : Finset S4000000.Idx} (h₁ : Done i 0 62 W₁) (h₂ : Done i 1 63 W₂) {y : S4000000.Idx} (hy : y ∈ chunk i) : y ∈ W₁ ∪ W₂ := by
  obtain ⟨h3, h4⟩ := (Finset.mem_filter.mp hy).2
  have hc : cap i = 960 ∨ cap i = 961 := by unfold cap; split <;> simp
  obtain ⟨p, hp, hb, he⟩ : ∃ p < 62, off i p ≤ (y 0).val ∧ (y 0).val < off i p + 2048 := by
    by_cases h : (y 0).val - base i < 2048 * 61
    · exact ⟨((y 0).val - base i) / 2048, by omega, by unfold off; omega, by unfold off; omega⟩
    · exact ⟨61, by omega, by unfold off; omega, by unfold off; omega⟩
  rcases Nat.mod_two_eq_zero_or_one p with h | h
  · exact Finset.mem_union_left _ (h₁ p hp h y hb he)
  · exact Finset.mem_union_right _ (h₂ p (by omega) h y hb he)

theorem copies_at : ∀ l : S16.Idx, copies l = BitVec.ofNat 32 (8184 * 0 + (l 0).val % 8) := by decide +kernel
theorem copies_at' : ∀ l : S16.Idx, addi copies (broadcast S16 8184#32) l = BitVec.ofNat 32 (8184 * 1 + (l 0).val % 8) := by decide +kernel

/-- A tile's scratch buffers, whatever they hold, and its semaphores, all at zero. -/
def Scratch (d : Dev nD) (i : grid0.Coords) : sProp 𝕄 :=
  iprop((∃ f, kS.view.loc (thr d i) ↦{fullShare} f) ∗ (∃ f, cS.view.loc (thr d i) ↦{fullShare} f) ∗ (∃ f, xA.view.loc (thr d i) ↦{fullShare} f)
    ∗ (∃ f, xB.view.loc (thr d i) ↦{fullShare} f) ∗ (∃ f, oA.view.loc (thr d i) ↦{fullShare} f) ∗ (∃ f, oB.view.loc (thr d i) ↦{fullShare} f)
    ∗ semVal (thr d i, .dma cc0_scratch6.sem) 0 ∗ semVal (thr d i, .dma cc0_scratch7.sem) 0 ∗ semVal (thr d i, .dma cc0_scratch8.sem) 0 ∗ semVal (thr d i, .dma cc0_scratch9.sem) 0
    ∗ semVal (thr d i, .dma cc0_scoped0.sem) 0 ∗ semVal (thr d i, .dma cc0_scoped1.sem) 0)

/-- What a tile is lent of the three arrays it reads. -/
def Lent (d : Dev nD) (i : grid0.Coords) (q : PosShare TreeShare) (fX : Buf (Elt F) (xH.view.loc (thr d i))) (fK : Buf (Elt F) (kH.view.loc (thr d i)))
    (fC : Buf (Elt F) (cH.view.loc (thr d i))) : sProp 𝕄 :=
  iprop((xH.view.loc (thr d i) ↦{q} fX) ∗ (kH.view.loc (thr d i) ↦{q} fK) ∗ (cH.view.loc (thr d i) ↦{q} fC))

theorem off1_off : k0_off1 i = ![0, off i 0] := by
  rw [k0_off1_eq, off, base]; rfl

/-- The tile's chunk enters write mode, for two buffers to write it. -/
theorem chunk_in {ιwm : ℕ} : iprop(wmInv emW ιwm ∗ (oH.view.loc (thr d i) ↦[chunk i]{fullShare} f0) : sProp 𝕄)
    ⊢ iprop(|={Set.univ}=> (Marked d i kn co X f0 fullShare.left 0 0 ∗ Marked d i kn co X f0 fullShare.right 1 1)) := by
  iintro ⟨#Hwm, HO⟩
  imod (pointsTo_castIn (emb := emW) (ℓ := oH.view.loc (thr d i)) (I := chunk i) (f := f0) (fun y => some (result kn co X y)) (Set.mem_univ ιwm)) $$ [HO] with HM
  · isplitr; · iexact Hwm
    iexact HO
  imodintro
  rw [← Finset.empty_union (∅ : Finset S4000000.Idx)]
  ihave HM' := (marked_split (PosShare.mem_left_op_right fullShare)).1 $$ HM
  icases HM' with ⟨HA, HB⟩
  unfold Marked
  isplitl [HA]
  · iexists _
    isplitr
    rotate_left
    · iexact HA
    ipureintro; intro p hp; exact absurd hp (Nat.not_lt_zero p)
  · iexists _
    isplitr
    rotate_left
    · iexact HB
    ipureintro; intro p hp h; omega

/-- The chunk leaves write mode whole. -/
theorem chunk_out {ιwm : ℕ} : iprop(wmInv emW ιwm ∗ Marked d i kn co X f0 fullShare.left 0 62 ∗ Marked d i kn co X f0 fullShare.right 1 63 : sProp 𝕄)
    ⊢ iprop(|={Set.univ}=> (oH.view.loc (thr d i) ↦[chunk i]{fullShare} (result kn co X))) := by
  unfold Marked
  iintro ⟨#Hwm, ⟨%W₁, %hW₁, HA⟩, ⟨%W₂, %hW₂, HB⟩⟩
  ihave HM := (marked_split (PosShare.mem_left_op_right fullShare)).2 $$ [HA HB]
  · isplitl [HA] <;> iassumption
  imod (willBeTo_castOut_some (Set.mem_univ ιwm)) $$ [HM] with HM
  · isplitr; · iexact Hwm
    iexact HM
  imodintro
  iapply (Entails.of_eq (pointsTo_congr (g := result kn co X) fun y hy => by
    rw [Finset.piecewise_eq_of_mem _ _ _ (pieces_cover hW₁ hW₂ hy)])) $$ HM

set_option maxHeartbeats 800000 in
/-- The whole body: the chunk ends with the result. -/
theorem tile_runs {O : CellTallies nD τ sig (HIx 1)} {W : Waits sig (HIx 1)} (hO : ∀ g, O g none = 0) {ιwm : ℕ} {q : PosShare TreeShare}
    {fK : Buf (Elt F) (kH.view.loc (thr d i))} {fC : Buf (Elt F) (cH.view.loc (thr d i))}
    (hX : ∀ y : S2x4000000.Idx, fX y = X (y 0).val (y 1).val) (hK : HoldsK kn fK) (hC : HoldsC co fC) {b2 b3 b4 b5 b6 b7 b8 b9 b10 b11} :
    Runs d i iprop(levAts (K (F := F)).L (K (F := F)).lev ∗ wmInv emW ιwm ∗ Lent d i q fX fK fC ∗ (oH.view.loc (thr d i) ↦[chunk i]{fullShare} f0)
        ∗ Scratch d i ∗ Owes d i O W)
      (tile i xH b2 kH b3 cH b4 oH b5 kS b6 cS b7 xA b8 xB b9 oA b10 oB b11 cc0_scratch6 cc0_scratch7 cc0_scratch8 cc0_scratch9 cc0_scoped0 cc0_scoped1)
      fun _ => iprop(Lent d i q fX fK fC ∗ (oH.view.loc (thr d i) ↦[chunk i]{fullShare} (result kn co X)) ∗ Scratch d i ∗ Owes d i O W) := by
  unfold Runs tile Lent Scratch
  simp only [Prog.lift, Prog.bind_op, Prog.bind_ret]
  iintro ⟨#Hlv, #Hwm, ⟨HX, HK, HC⟩, HO, ⟨HkS, HcS, HxA, HxB, HoA, HoB, H6, H7, H8, H9, H0, H1⟩, HW⟩
  iapply (fetch_whole hO (src := kH) (dst := kS) (View.set_whole _) (by decide)) $$ [HK HkS H0 HW]
  · isplitr; · iexact Hlv
    isplitl [HK]; · iexact HK
    isplitl [HkS]; · iexact HkS
    isplitl [H0] <;> iassumption
  iintro ⟨HK, ⟨%fk, HkS⟩, H0, HW⟩
  iapply (fetch_whole hO (src := cH) (dst := cS) (View.set_whole _) (by decide)) $$ [HC HcS H1 HW]
  · isplitr; · iexact Hlv
    isplitl [HC]; · iexact HC
    isplitl [HcS]; · iexact HcS
    isplitl [H1] <;> iassumption
  iintro ⟨HC, ⟨%fc, HcS⟩, H1, HW⟩
  iapply (Runs.bind (cands_yields (kn := kn) (co := co) (R := iprop(levAts (K (F := F)).L (K (F := F)).lev)) (e := 0) (b := 0) (by decide) (by decide))) $$ [HkS HcS]
  · isplitl [HkS HcS]
    · unfold Tabs
      iexists _, _
      isplitr
      rotate_left
      · isplitr
        rotate_left
        · isplitl [HkS]
          · iexact HkS
          · iexact HcS
        ipureintro
        intro y
        exact (congrFun (View.write_whole_univ cc0_scratch1 fc _) y).trans (hC y)
      ipureintro
      intro y
      exact (congrFun (View.write_whole_univ cc0_scratch0 fk _) y).trans (hK y)
    · iexact Hlv
  iintro %C0 ⟨%H0', HT⟩
  iapply (Runs.bind (cands_yields (kn := kn) (co := co) (R := iprop(levAts (K (F := F)).L (K (F := F)).lev)) (e := 1) (b := 16384) (by decide) (by decide))) $$ HT
  iintro %C1 ⟨%H1', HT, -⟩
  ihave HX' := (pointsTo_share (PosShare.mem_left_op_right q)).1 $$ HX
  icases HX' with ⟨HX1, HX2⟩
  iapply (issue_in (p := 0) hX off1_off) $$ [HxA H6 HX1]
  · unfold XFree
    isplitl [HxA]; · iexact HxA
    isplitl [H6] <;> iassumption
  iintro HF
  imod (chunk_in (kn := kn) (co := co) (X := X) (ιwm := ιwm)) $$ [HO] with ⟨HMA, HMB⟩
  · isplitr; · iexact Hwm
    iexact HO
  iapply (Runs.bind (loop_runs (ιwm := ιwm) hO hX H0' H1' copies_at copies_at')) $$ [HT HF HxB H7 HX2 HoA H8 HMA HoB H9 HMB HW]
  · isplitr; · iexact Hlv
    isplitr; · iexact Hwm
    iapply trips_first
    isplitl [HT]; · iexact HT
    isplitl [HF]; · iexact HF
    isplitl [HxB H7 HX2]
    · unfold XFree
      isplitl [HxB]; · iexact HxB
      isplitl [H7] <;> iassumption
    isplitl [HoA H8 HMA]
    · unfold OFree
      isplitl [HoA]; · iexact HoA
      isplitl [H8] <;> iassumption
    isplitl [HoB H9 HMB]
    · unfold OFree
      isplitl [HoB]; · iexact HoB
      isplitl [H9] <;> iassumption
    iexact HW
  iintro %_ HT
  ihave HT' := trips_last $$ HT
  icases HT' with ⟨HT, HXA, HXB, HOA, HOB, HW⟩
  iapply (wait_out hO) $$ [HOA HW]
  · isplitr; · iexact Hlv
    isplitl [HOA] <;> iassumption
  iintro ⟨HOA, HW⟩
  iapply (wait_out hO) $$ [HOB HW]
  · isplitr; · iexact Hlv
    isplitl [HOB] <;> iassumption
  iintro ⟨HOB, HW⟩
  unfold OFree XFree Tabs
  icases HOA with ⟨HoA, H8, HMA⟩
  icases HOB with ⟨HoB, H9, HMB⟩
  icases HXA with ⟨HxA, H6, HX1⟩
  icases HXB with ⟨HxB, H7, HX2⟩
  icases HT with ⟨%fk', %fc', -, -, HkS, HcS⟩
  imod (chunk_out (ιwm := ιwm)) $$ [HMA HMB] with HO
  · isplitr; · iexact Hwm
    isplitl [HMA] <;> iassumption
  rw [wp_ret]
  imodintro
  isplitl [HX1 HX2 HK HC]
  · isplitl [HX1 HX2]
    · iapply (pointsTo_share (PosShare.mem_left_op_right q)).2
      isplitl [HX1] <;> iassumption
    isplitl [HK] <;> iassumption
  isplitl [HO]; · iexact HO
  isplitr [HW]
  · isplitl [HkS]; · iexists _; iexact HkS
    isplitl [HcS]; · iexists _; iexact HcS
    isplitl [HxA]; · iexact HxA
    isplitl [HxB]; · iexact HxB
    isplitl [HoA]; · iexact HoA
    isplitl [HoB]; · iexact HoB
    isplitl [H6]; · iexact H6
    isplitl [H7]; · iexact H7
    isplitl [H8]; · iexact H8
    isplitl [H9]; · iexact H9
    isplitl [H0] <;> iassumption
  iexact HW

end Cert.Proof.Spline

end
-- ==== Proof.Tasks.lean ====
/-
  A task: what a tile owns of itself gives the scratch its body runs on, and the body's run is then the task's.
-/
module

public import proofs.«01_k».proof.Proof.Whole
public import Idealize.ShloMosaic.Lib.SparseCore.Quiescent

@[expose] public section

noncomputable section

namespace Cert.Proof.Spline

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open PCS

variable {F : FTy → Type}

local notation "𝕄" => MT nD τ sig (HIx 1) (Elt F) ℕ (UU F) ℕ

/-- The body's six buffers and its six semaphores. -/
def bufs : Finset (Ref sig .scVector) := {cc0_scratch0, cc0_scratch1, cc0_scratch2, cc0_scratch3, cc0_scratch4, cc0_scratch5}
def sems : Finset (SemLoc sig) :=
  {.dma cc0_scratch6.sem, .dma cc0_scratch7.sem, .dma cc0_scratch8.sem, .dma cc0_scratch9.sem, .dma cc0_scoped0.sem, .dma cc0_scoped1.sem}

variable [FloatOps F]

theorem bufs_own (d : Dev nD) (i : grid0.Coords) :
    bufs.image ((thr d i).2.devRef) ⊆ ownRefs (τ := τ) (thr d i).2 := by
  intro b hb
  obtain ⟨r, hr, rfl⟩ := Finset.mem_image.mp hb
  refine SparseCore.Cfg.mem_ownRefs_of_owner ?_
  simp only [bufs, Finset.mem_insert, Finset.mem_singleton] at hr
  rcases hr with rfl | rfl | rfl | rfl | rfl | rfl <;> rfl

theorem sems_own (d : Dev nD) (i : grid0.Coords) : sems.image (fun s => (thr d i, s)) ⊆ ownCells (thr d i) := by
  intro g hg
  obtain ⟨s, hs, rfl⟩ := Finset.mem_image.mp hg
  refine mem_ownCells.mpr ⟨rfl, ?_⟩
  exact (show ∀ s ∈ sems, s.isScoped .scVector = true by decide) s hs

theorem bufs_sep (Φ : Ref sig .scVector → sProp 𝕄) :
    bigSep bufs Φ = iprop(Φ cc0_scratch0 ∗ Φ cc0_scratch1 ∗ Φ cc0_scratch2 ∗ Φ cc0_scratch3 ∗ Φ cc0_scratch4 ∗ Φ cc0_scratch5) := by
  unfold bufs
  rw [SparseCore.bigSep_insert' (by decide), SparseCore.bigSep_insert' (by decide), SparseCore.bigSep_insert' (by decide), SparseCore.bigSep_insert' (by decide),
    SparseCore.bigSep_insert' (by decide), bigSep_singleton]

/-- A tile's own buffers are the scratch's and the rest; so are its own semaphores. -/
theorem ownBufs_scratch (d : Dev nD) (i : grid0.Coords) : (ownBufs (thr d i) : sProp 𝕄)
    = iprop(((∃ f, (thr d i).loc cc0_scratch0 ↦{fullShare} f) ∗ (∃ f, (thr d i).loc cc0_scratch1 ↦{fullShare} f) ∗ (∃ f, (thr d i).loc cc0_scratch2 ↦{fullShare} f)
        ∗ (∃ f, (thr d i).loc cc0_scratch3 ↦{fullShare} f) ∗ (∃ f, (thr d i).loc cc0_scratch4 ↦{fullShare} f) ∗ (∃ f, (thr d i).loc cc0_scratch5 ↦{fullShare} f))
      ∗ bigSep (ownRefs (τ := τ) (thr d i).2 \ bufs.image ((thr d i).2.devRef)) fun b => iprop(∃ f, ((d, b) : Loc nD τ sig) ↦{fullShare} f)) := by
  unfold SparseCore.Cfg.ownBufs
  refine (SparseCore.bigSep_sdiff_split' (bufs_own d i)).trans ?_
  refine congrArg (fun R : sProp 𝕄 => iprop(R ∗ _)) ?_
  exact (SparseCore.bigSep_image_of_injOn (fun a _ b _ h => Proc.devRef_injective _ h) _).trans (bufs_sep _)

theorem ownSems_scratch (d : Dev nD) (i : grid0.Coords) : (ownSems0 (thr d i) : sProp 𝕄)
    = iprop((semVal (thr d i, .dma cc0_scratch6.sem) 0 ∗ semVal (thr d i, .dma cc0_scratch7.sem) 0 ∗ semVal (thr d i, .dma cc0_scratch8.sem) 0
        ∗ semVal (thr d i, .dma cc0_scratch9.sem) 0 ∗ semVal (thr d i, .dma cc0_scoped0.sem) 0 ∗ semVal (thr d i, .dma cc0_scoped1.sem) 0)
      ∗ bigSep (ownCells (thr d i) \ sems.image (fun s => (thr d i, s))) fun g => semVal g 0) := by
  unfold SparseCore.Cfg.ownSems0
  refine (SparseCore.bigSep_sdiff_split' (sems_own d i)).trans ?_
  refine congrArg (fun R : sProp 𝕄 => iprop(R ∗ _)) ?_
  rw [SparseCore.bigSep_image_of_injOn (fun a _ b _ h => (Prod.mk.inj h).2)]
  unfold sems
  rw [SparseCore.bigSep_insert' (by decide), SparseCore.bigSep_insert' (by decide), SparseCore.bigSep_insert' (by decide), SparseCore.bigSep_insert' (by decide),
    SparseCore.bigSep_insert' (by decide), bigSep_singleton]

theorem scoped_open (d : Dev nD) (i : grid0.Coords) : iprop(scopedBufs (thr d i) ∗ scopedSems0 (thr d i) : sProp 𝕄)
    ⊢ iprop(Scratch d i ∗ (Scratch d i -∗ iprop(scopedBufs (thr d i) ∗ scopedSems0 (thr d i)))) := by
  rw [(K (F := F)).scopedBufs_V facts d _ _, SparseCore.Cfg.scopedSems0_V (Val := Elt F) d _ _, ownBufs_scratch, ownSems_scratch]
  unfold Scratch
  iintro ⟨⟨⟨H0, H1, H2, H3, H4, H5⟩, Hb⟩, ⟨H6, H7, H8, H9, H10, H11⟩, Hs⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨H0, H1, H2, H3, H4, H5, H6, H7, H8, H9, H10, H11⟩
  isplitl [H0 H1 H2 H3 H4 H5 Hb]
  · isplitr [Hb]
    · isplitl [H0]; · iexact H0
      isplitl [H1]; · iexact H1
      isplitl [H2]; · iexact H2
      isplitl [H3]; · iexact H3
      isplitl [H4]; · iexact H4
      iexact H5
    · iexact Hb
  · isplitr [Hs]
    · isplitl [H6]; · iexact H6
      isplitl [H7]; · iexact H7
      isplitl [H8]; · iexact H8
      isplitl [H9]; · iexact H9
      isplitl [H10]; · iexact H10
      iexact H11
    · iexact Hs

variable {d : Dev nD} {i : grid0.Coords} {kn co X : ℕ → ℕ → F .f32}
variable {fX : Buf (Elt F) (xH.view.loc (thr d i))} {f0 : Buf (Elt F) (oH.view.loc (thr d i))}

/-- A task, from the tile's own buffers and semaphores to the same. -/
theorem task_runs (O : CellTallies nD τ sig (HIx 1)) (W : Waits sig (HIx 1)) (hO : ∀ g, O g none = 0) {q : PosShare TreeShare} {fK : Buf (Elt F) (kH.view.loc (thr d i))} {fC : Buf (Elt F) (cH.view.loc (thr d i))}
    (hX : ∀ y : S2x4000000.Idx, fX y = X (y 0).val (y 1).val) (hK : HoldsK kn fK) (hC : HoldsC co fC) :
    iprop(levAts (K (F := F)).L (K (F := F)).lev ∗ (∃ ιwm, wmInv emW ιwm) ∗ (Lent d i q fX fK fC ∗ (oH.view.loc (thr d i) ↦[chunk i]{fullShare} f0))
        ∗ scopedBufs (thr d i) ∗ scopedSems0 (thr d i) ∗ owes (thr d i) O W)
      ⊢ wp frame (wpE (defs₀ (F := F)) 𝒱₀ (thr d i) none) Set.univ
          (cc0_run i xH (Memref.isWhole_whole _) kH (Memref.isWhole_whole _) cH (Memref.isWhole_whole _) oH (Memref.isWhole_whole _)
            kS (Memref.isWhole_whole _) cS (Memref.isWhole_whole _) xA (Memref.isWhole_whole _) xB (Memref.isWhole_whole _) oA (Memref.isWhole_whole _) oB (Memref.isWhole_whole _)
            cc0_scratch6 cc0_scratch7 cc0_scratch8 cc0_scratch9 cc0_scoped0 cc0_scoped1)
          fun _ => iprop((Lent d i q fX fK fC ∗ (oH.view.loc (thr d i) ↦[chunk i]{fullShare} (result kn co X))) ∗ scopedBufs (thr d i) ∗ scopedSems0 (thr d i)
            ∗ ∃ W', ⌜∀ p ∈ W', p ∈ W ∨ p.2 = none⌝ ∗ owes (thr d i) O W') := by
  rw [run_eq_tile]
  iintro ⟨#Hlv, ⟨%ιwm, #Hwm⟩, ⟨Hl, Hc⟩, Hb, Hs, HO⟩
  ihave H := (scoped_open d i) $$ [Hb Hs]
  · isplitl [Hb] <;> iassumption
  icases H with ⟨Hsc, Hback⟩
  iapply (wp_wand_r frame _ Set.univ)
  isplitl [Hl Hc Hsc HO]
  · iapply (tile_runs (O := O) (W := W) hO hX hK hC)
    isplitr; · iexact Hlv
    isplitr; · iexact Hwm
    isplitl [Hl]; · iexact Hl
    isplitl [Hc]; · iexact Hc
    isplitl [Hsc]; · iexact Hsc
    unfold Owes
    iexists W
    isplitr; · ipureintro; exact fun p hp => .inl hp
    iexact HO
  iintro %_ ⟨Hl, Hc, Hsc, HO⟩
  ihave H := Hback $$ Hsc
  icases H with ⟨Hb, Hs⟩
  isplitl [Hl Hc]; · isplitl [Hl] <;> iassumption
  isplitl [Hb]; · iexact Hb
  isplitl [Hs]; · iexact Hs
  unfold Owes
  iexact HO

end Cert.Proof.Spline
-- ==== Proof.Launch.lean ====
/-
  The kernel's launch, from the three arrays it reads and the result's array: what the SparseCores and their tiles are
  handed and hand back, each tile's obligation, and the split of the arrays among the tiles (the arrays read, by shares;
  the result, by the tiles' chunks).
-/
module

public import proofs.«01_k».proof.Proof.Tasks
public import Idealize.ShloMosaic.Lib.Pipeline.Frame

@[expose] public section

noncomputable section

namespace Cert.Proof.Spline

open Cert.KernelIdeal Cert.KernelIdeal.Gen
open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open PCS

variable {F : FTy → Type}

local notation "𝕄" => MT nD τ sig (HIx 1) (Elt F) ℕ (UU F) ℕ

/-- The grid's point of core `c` and subcore `s`. -/
def tileAt (c : Fin 2) (s : Fin 16) : grid0.Coords := fun | 0 => c | 1 => s | ⟨_ + 2, h⟩ => absurd h (Nat.not_lt.2 (Nat.le_add_left _ _))

/-- The tile's share of an array that all tiles read. -/
def shareAt (c : Fin 2) (s : Fin 16) : PosShare TreeShare := dealOf (dealOf fullShare Finset.univ c) Finset.univ s

theorem dealt {ℓ : Loc nD τ sig} {f : Buf (Elt F) ℓ} : (ℓ ↦{fullShare} f : sProp 𝕄)
    = bigSep Finset.univ fun c : Fin 2 => bigSep Finset.univ fun s : Fin 16 => ℓ ↦{shareAt c s} f := by
  rw [pointsTo_deal (Finset.univ : Finset (Fin 2)) ⟨0, Finset.mem_univ _⟩ fullShare]
  exact bigSep_congr fun c _ => pointsTo_deal (Finset.univ : Finset (Fin 16)) ⟨0, Finset.mem_univ _⟩ _

/-- Where the `w`-th chunk begins. -/
def chunkStart (w : ℕ) : ℕ := if w < 18 then 125056 * w else 124928 * w + 2304

theorem chunkStart_mono {w w' : ℕ} (h : w < w') : chunkStart (w + 1) ≤ chunkStart w' := by
  unfold chunkStart; split <;> split <;> omega

theorem mem_chunk {c : Fin 2} {s : Fin 16} {y : S4000000.Idx} :
    Iff (y ∈ chunk (tileAt c s)) (chunkStart (2 * s.val + c.val) ≤ (y 0).val ∧ (y 0).val < chunkStart (2 * s.val + c.val + 1)) := by
  have hb : base (tileAt c s) = chunkStart (2 * s.val + c.val) := by
    rw [show base (tileAt c s) = 249856 * s.val + 124928 * c.val + 128 * (min (2 * s.val + c.val) 18) from rfl, chunkStart]
    split
    · rw [Nat.min_eq_left (by omega)]; omega
    · rw [Nat.min_eq_right (by omega)]; omega
  have hc : base (tileAt c s) + 128 * cap (tileAt c s) + 2048 = chunkStart (2 * s.val + c.val + 1) := by
    rw [hb, show cap (tileAt c s) = (if 2 * s.val + c.val < 18 then 1 else 0) + 960 from rfl]
    unfold chunkStart
    split <;> split <;> omega
  simp only [chunk, Finset.mem_filter, Finset.mem_univ, true_and, hc]
  rw [hb]

theorem chunks_disjoint : ∀ p ∈ (Finset.univ : Finset (Fin 2 × Fin 16)), ∀ p' ∈ (Finset.univ : Finset (Fin 2 × Fin 16)), p ≠ p' →
    Disjoint (chunk (tileAt p.1 p.2)) (chunk (tileAt p'.1 p'.2)) := by
  rintro ⟨c, s⟩ - ⟨c', s'⟩ - hne
  refine Finset.disjoint_left.mpr fun y h h' => hne ?_
  replace h := mem_chunk.mp h
  replace h' := mem_chunk.mp h'
  dsimp only at h h'
  have := c.isLt; have := c'.isLt
  rcases Nat.lt_trichotomy (2 * s.val + c.val) (2 * s'.val + c'.val) with hlt | heq | hlt
  · have := chunkStart_mono hlt; omega
  · exact Prod.ext (Fin.ext (by dsimp only; omega)) (Fin.ext (by dsimp only; omega))
  · have := chunkStart_mono hlt; omega

theorem chunks_cover : (Finset.univ : Finset (Fin 2 × Fin 16)).biUnion (fun p => chunk (tileAt p.1 p.2)) = Finset.univ := by
  refine Finset.eq_univ_iff_forall.mpr fun y => Finset.mem_biUnion.mpr ?_
  have hy : (y 0).val < 4000000 := (y 0).isLt
  generalize hn : (y 0).val = n at hy
  obtain ⟨w, hw, h1, h2⟩ : ∃ w < 32, chunkStart w ≤ n ∧ n < chunkStart (w + 1) := by
    by_cases h : n < 2251008
    · refine ⟨n / 125056, by omega, ?_, ?_⟩ <;> unfold chunkStart <;> split <;> omega
    · refine ⟨18 + (n - 2251008) / 124928, by omega, ?_, ?_⟩ <;> unfold chunkStart <;> split <;> omega
  refine ⟨(⟨w % 2, by omega⟩, ⟨w / 2, by omega⟩), Finset.mem_univ _, mem_chunk.mpr ?_⟩
  dsimp only
  rw [hn, show 2 * (w / 2) + w % 2 = w by omega]
  exact ⟨h1, h2⟩

theorem chunked {d : Dev nD} {f : Buf (Elt F) ((T d : Thread nD τ).loc main_v24)} : ((T d : Thread nD τ).loc main_v24 ↦{fullShare} f : sProp 𝕄)
    = bigSep Finset.univ fun c : Fin 2 => bigSep Finset.univ fun s : Fin 16 => oH.view.loc (thr d (tileAt c s)) ↦[chunk (tileAt c s)]{fullShare} f := by
  refine Eq.trans ?_ (bigSep_univ_prod (fun p : Fin 2 × Fin 16 => (oH.view.loc (thr d (tileAt p.1 p.2)) ↦[chunk (tileAt p.1 p.2)]{fullShare} f : sProp 𝕄)))
  refine Eq.trans ?_ (pointsTo_biUnion Finset.univ (ℓ := (T d : Thread nD τ).loc main_v24) (fun p : Fin 2 × Fin 16 => chunk (tileAt p.1 p.2)) chunks_disjoint)
  rw [chunks_cover]

variable [FloatOps F]

/-- The contents of a device's arrays when the kernel starts: the points, the two tables, and the result's array at
    anything; the points, the knots and the coefficients by their numbers. -/
structure Data (F : FTy → Type) [FloatOps F] (d : Dev nD) where
  fX : Buf (Elt F) ((T d : Thread nD τ).loc main_v0)
  fK : Buf (Elt F) ((T d : Thread nD τ).loc main_v4)
  fC : Buf (Elt F) ((T d : Thread nD τ).loc main_v23)
  f0 : Buf (Elt F) ((T d : Thread nD τ).loc main_v24)
  X : ℕ → ℕ → F .f32
  kn : ℕ → ℕ → F .f32
  co : ℕ → ℕ → F .f32
  hX : ∀ y : S2x4000000.Idx, fX y = X (y 0).val (y 1).val
  hK : HoldsK kn fK
  hC : HoldsC co fC

variable (G : ∀ d : Dev nD, Data F d)

/-- What a task is handed, and what it hands back. -/
def before (d : Dev nD) (c : Fin 2) (s : Fin 16) : sProp 𝕄 :=
  iprop(Lent d (tileAt c s) (shareAt c s) (G d).fX (G d).fK (G d).fC ∗ (oH.view.loc (thr d (tileAt c s)) ↦[chunk (tileAt c s)]{fullShare} (G d).f0))
def behind (d : Dev nD) (c : Fin 2) (s : Fin 16) : sProp 𝕄 :=
  iprop(Lent d (tileAt c s) (shareAt c s) (G d).fX (G d).fK (G d).fC
    ∗ (oH.view.loc (thr d (tileAt c s)) ↦[chunk (tileAt c s)]{fullShare} (result (G d).kn (G d).co (G d).X)))

/-- The arrays whole are what all the tasks are handed; what they hand back is the arrays read, and the result. -/
theorem before_all (d : Dev nD) : (bigSep Finset.univ fun c : Fin 2 => bigSep Finset.univ fun s : Fin 16 => before G d c s)
    = iprop((((T d : Thread nD τ).loc main_v0 ↦{fullShare} (G d).fX) ∗ ((T d : Thread nD τ).loc main_v4 ↦{fullShare} (G d).fK) ∗ ((T d : Thread nD τ).loc main_v23 ↦{fullShare} (G d).fC))
      ∗ ((T d : Thread nD τ).loc main_v24 ↦{fullShare} (G d).f0)) := by
  rw [dealt, dealt, dealt, chunked]
  unfold before Lent
  simp only [bigSep_sep']
theorem behind_all (d : Dev nD) : (bigSep Finset.univ fun c : Fin 2 => bigSep Finset.univ fun s : Fin 16 => behind G d c s)
    = iprop((((T d : Thread nD τ).loc main_v0 ↦{fullShare} (G d).fX) ∗ ((T d : Thread nD τ).loc main_v4 ↦{fullShare} (G d).fK) ∗ ((T d : Thread nD τ).loc main_v23 ↦{fullShare} (G d).fC))
      ∗ ((T d : Thread nD τ).loc main_v24 ↦{fullShare} result (G d).kn (G d).co (G d).X)) := by
  rw [dealt, dealt, dealt, chunked]
  unfold behind Lent
  simp only [bigSep_sep']

theorem nSub_zero : (K (F := F)).nSub 0 = 16 := rfl
theorem nCore_zero : (K (F := F)).nCore 0 = 2 := rfl

/-- A core is handed what its tasks are, and hands it back; every tile knows the result's write mode. -/
def P : (K (F := F)).Pay (nD := nD) (Val := Elt F) (Name := ℕ) (U := UU F) where
  st := fun q d c => match q with | 0 => bigSep Finset.univ fun i : Fin ((K (F := F)).nSub 0) => before G d (Fin.cast nCore_zero c) (Fin.cast nSub_zero i)
  dn := fun q d c => match q with | 0 => bigSep Finset.univ fun i : Fin ((K (F := F)).nSub 0) => behind G d (Fin.cast nCore_zero c) (Fin.cast nSub_zero i)
  go := fun q d c i => match q with | 0 => before G d (Fin.cast nCore_zero c) (Fin.cast nSub_zero i)
  td := fun q d c i => match q with | 0 => behind G d (Fin.cast nCore_zero c) (Fin.cast nSub_zero i)
  x := fun _ _ => iprop(∃ ιwm, wmInv emW ιwm)

instance before_storable (d : Dev nD) (c : Fin 2) (s : Fin 16) : BI.Storable (upEmb : UEmb _ 𝕄) (before G d c s) := by
  unfold before Lent; infer_instance
instance behind_storable (d : Dev nD) (c : Fin 2) (s : Fin 16) : BI.Storable (upEmb : UEmb _ 𝕄) (behind G d c s) := by
  unfold behind Lent; infer_instance

instance P_storable : (P G).IsStorable where
  st q d c := match q with
    | 0 => (inferInstance : BI.Storable (upEmb : UEmb _ 𝕄) (bigSep Finset.univ fun i : Fin ((K (F := F)).nSub 0) => before G d (Fin.cast nCore_zero c) (Fin.cast nSub_zero i)))
  dn q d c := match q with
    | 0 => (inferInstance : BI.Storable (upEmb : UEmb _ 𝕄) (bigSep Finset.univ fun i : Fin ((K (F := F)).nSub 0) => behind G d (Fin.cast nCore_zero c) (Fin.cast nSub_zero i)))
  go q d c i := match q with | 0 => before_storable G d (Fin.cast nCore_zero c) (Fin.cast nSub_zero i)
  td q d c i := match q with | 0 => behind_storable G d (Fin.cast nCore_zero c) (Fin.cast nSub_zero i)

theorem defs₀_vector (c : Fin τ.nSC) (s : Fin τ.nSub) : defs₀ (F := F) (.scVector c s) 0 () =
    SparseCore.onTile hcore0 hsub0 (fun c s => cc0_run (tileAt c s) xH (Memref.isWhole_whole _) kH (Memref.isWhole_whole _) cH (Memref.isWhole_whole _) oH (Memref.isWhole_whole _)
            kS (Memref.isWhole_whole _) cS (Memref.isWhole_whole _) xA (Memref.isWhole_whole _) xB (Memref.isWhole_whole _) oA (Memref.isWhole_whole _) oB (Memref.isWhole_whole _)
            cc0_scratch6 cc0_scratch7 cc0_scratch8 cc0_scratch9 cc0_scoped0 cc0_scoped1) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right .inl
  iexact HO

theorem tileObl : (K (F := F)).TileObl (D (F := F)) 𝒱 (P G) v₀ 0 := by
  intro d c i O W hO _ _
  simp only [show (P G).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (task_runs (i := tileAt (Fin.cast nCore_zero c) (Fin.cast nSub_zero i)) O W hO (G d).hX (G d).hK (G d).hC).trans (wp_mono frame _ _ fun _ => obl_post)

theorem vecSplit : (K (F := F)).VecSplit' (P G) 0 := by
  intro d c
  show (bigSep Finset.univ fun i : Fin ((K (F := F)).nSub 0) => before G d (Fin.cast nCore_zero c) (Fin.cast nSub_zero i)) ⊢ |={Set.univ}=> iprop(
      (bigSep Finset.univ fun i : Fin ((K (F := F)).nSub 0) => before G d (Fin.cast nCore_zero c) (Fin.cast nSub_zero i))
      ∗ ((bigSep Finset.univ fun i : Fin ((K (F := F)).nSub 0) => behind G d (Fin.cast nCore_zero c) (Fin.cast nSub_zero i))
        -∗ (bigSep Finset.univ fun i : Fin ((K (F := F)).nSub 0) => behind G d (Fin.cast nCore_zero c) (Fin.cast nSub_zero i))))
  iintro H; imodintro
  isplitl [H]; · iexact H
  iintro H; iexact H

end Cert.Proof.Spline
-- ==== Proof.Host.lean ====
/-
  What the host does before the kernel: the points are transposed, each knot is repeated sixteen times and each
  coefficient eight times. What the kernel's three arrays then hold, entry by entry, for any float values.
-/
module

public import proofs.«01_k».proof.Proof.Launch
public import Idealize.ShloMosaic.Lib.StableHlo.Run
public import Idealize.ShloMosaic.Lib.Pointwise
public import Idealize.ShloMosaic.Lib.Routing.OpsOne

@[expose] public section

noncomputable section

namespace Cert.Proof.Spline

open Cert.KernelIdeal Cert.KernelIdeal.Gen
open Idealize.ShloMosaic
open Idealize.ShloMosaic.StableHlo
open Idealize.ShloMosaic.SparseCore (S V T)

variable {F : FTy → Type} [FloatOps F]

/-- The host's operations, in order: up to the four rows of coefficients, -/
def hostA : List (HloOp τ sig (Elt F)) :=
  [ StableHlo.unary main_arg0 main_v0 ((transpose S2x4000000 [1, 0] · transposes_S4000000x2_S2x4000000_1_0) : (⟨S4000000x2, .f32⟩ : BufTy).Contents (Elt F) → (⟨S2x4000000, .f32⟩ : BufTy).Contents (Elt F)),
    StableHlo.unary main_arg1 main_v1 ((transpose S2x1024 [1, 0] · transposes_S1024x2_S2x1024_1_0) : (⟨S1024x2, .f32⟩ : BufTy).Contents (Elt F) → (⟨S2x1024, .f32⟩ : BufTy).Contents (Elt F)),
    StableHlo.unary main_v1 main_v2 (broadcastInDim S2x1024x1 ![0, 1] bcast_S2x1024_S2x1024x1_0_1 : (⟨S2x1024, .f32⟩ : BufTy).Contents (Elt F) → (⟨S2x1024x1, .f32⟩ : BufTy).Contents (Elt F)),
    StableHlo.unary main_v2 main_v3 (broadcastInDim S2x1024x16 ![0, 1, 2] bcast_S2x1024x1_S2x1024x16_0_1_2 : (⟨S2x1024x1, .f32⟩ : BufTy).Contents (Elt F) → (⟨S2x1024x16, .f32⟩ : BufTy).Contents (Elt F)),
    StableHlo.reshape main_v3 main_v4 (rfl : (.f32 : EltTy) = .f32) shapeCasts_S2x1024x16_S32768,
    StableHlo.unary main_arg2 main_v5 ((transpose S2x1023 [1, 0] · transposes_S1023x2_S2x1023_1_0) : (⟨S1023x2, .f32⟩ : BufTy).Contents (Elt F) → (⟨S2x1023, .f32⟩ : BufTy).Contents (Elt F)),
    StableHlo.reshape main_v5 main_v6 (rfl : (.f32 : EltTy) = .f32) shapeCasts_S2x1023_S2046,
    StableHlo.unary main_arg3 main_v7 ((transpose S2x1023 [1, 0] · transposes_S1023x2_S2x1023_1_0) : (⟨S1023x2, .f32⟩ : BufTy).Contents (Elt F) → (⟨S2x1023, .f32⟩ : BufTy).Contents (Elt F)),
    StableHlo.reshape main_v7 main_v8 (rfl : (.f32 : EltTy) = .f32) shapeCasts_S2x1023_S2046,
    StableHlo.unary main_arg4 main_v9 ((transpose S2x1023 [1, 0] · transposes_S1023x2_S2x1023_1_0) : (⟨S1023x2, .f32⟩ : BufTy).Contents (Elt F) → (⟨S2x1023, .f32⟩ : BufTy).Contents (Elt F)),
    StableHlo.reshape main_v9 main_v10 (rfl : (.f32 : EltTy) = .f32) shapeCasts_S2x1023_S2046,
    StableHlo.unary main_arg5 main_v11 ((transpose S2x1023 [1, 0] · transposes_S1023x2_S2x1023_1_0) : (⟨S1023x2, .f32⟩ : BufTy).Contents (Elt F) → (⟨S2x1023, .f32⟩ : BufTy).Contents (Elt F)),
    StableHlo.reshape main_v11 main_v12 (rfl : (.f32 : EltTy) = .f32) shapeCasts_S2x1023_S2046,
    StableHlo.unary main_v6 main_v13 (broadcastInDim S1x2046 ![1] bcast_S2046_S1x2046_1 : (⟨S2046, .f32⟩ : BufTy).Contents (Elt F) → (⟨S1x2046, .f32⟩ : BufTy).Contents (Elt F)),
    StableHlo.unary main_v8 main_v14 (broadcastInDim S1x2046 ![1] bcast_S2046_S1x2046_1 : (⟨S2046, .f32⟩ : BufTy).Contents (Elt F) → (⟨S1x2046, .f32⟩ : BufTy).Contents (Elt F)),
    StableHlo.unary main_v10 main_v15 (broadcastInDim S1x2046 ![1] bcast_S2046_S1x2046_1 : (⟨S2046, .f32⟩ : BufTy).Contents (Elt F) → (⟨S1x2046, .f32⟩ : BufTy).Contents (Elt F)),
    StableHlo.unary main_v12 main_v16 (broadcastInDim S1x2046 ![1] bcast_S2046_S1x2046_1 : (⟨S2046, .f32⟩ : BufTy).Contents (Elt F) → (⟨S1x2046, .f32⟩ : BufTy).Contents (Elt F)) ]

/-- and from the table they are joined in on. -/
def hostB : List (HloOp τ sig (Elt F)) :=
  [ StableHlo.nary ![main_v13, main_v14, main_v15, main_v16] main_v17 (fun u => (concatenate S4x2046 0 [⟨S1x2046, (u 0 : (⟨S1x2046, .f32⟩ : BufTy).Contents (Elt F))⟩, ⟨S1x2046, (u 1 : (⟨S1x2046, .f32⟩ : BufTy).Contents (Elt F))⟩, ⟨S1x2046, (u 2 : (⟨S1x2046, .f32⟩ : BufTy).Contents (Elt F))⟩, ⟨S1x2046, (u 3 : (⟨S1x2046, .f32⟩ : BufTy).Contents (Elt F))⟩] concatenates_S1x2046_S1x2046_S1x2046_S1x2046_S4x2046_d0 : (⟨S4x2046, .f32⟩ : BufTy).Contents (Elt F))),
    StableHlo.nullary main_cst (constant S_ .f32 0x00000000#32),
    StableHlo.unary main_cst main_v18 (broadcastInDim S4x2048 ![] bcast_S_S4x2048 : (⟨S_, .f32⟩ : BufTy).Contents (Elt F) → (⟨S4x2048, .f32⟩ : BufTy).Contents (Elt F)),
    StableHlo.nullary main_c (constantI S_ 32 0#32),
    StableHlo.unary main_c main_v19 (broadcastInDim S1 ![] bcast_S_S1 : (⟨S_, .i32⟩ : BufTy).Contents (Elt F) → (⟨S1, .i32⟩ : BufTy).Contents (Elt F)),
    StableHlo.ternary main_v18 main_v19 main_v17 main_v20 ((fun x i u => Host.scatter scatter_S4x2048_S1_S4x2046_01_n_1_0 (fun _ b => b) x i u) : (⟨S4x2048, .f32⟩ : BufTy).Contents (Elt F) → (⟨S1, .i32⟩ : BufTy).Contents (Elt F) → (⟨S4x2046, .f32⟩ : BufTy).Contents (Elt F) → (⟨S4x2048, .f32⟩ : BufTy).Contents (Elt F)),
    StableHlo.unary main_v20 main_v21 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v21 main_v22 (broadcastInDim S4x2048x8 ![0, 1, 2] bcast_S4x2048x1_S4x2048x8_0_1_2 : (⟨S4x2048x1, .f32⟩ : BufTy).Contents (Elt F) → (⟨S4x2048x8, .f32⟩ : BufTy).Contents (Elt F)),
    StableHlo.reshape main_v22 main_v23 (rfl : (.f32 : EltTy) = .f32) shapeCasts_S4x2048x8_S65536 ]

def hostOps : List (HloOp τ sig (Elt F)) := hostA ++ hostB

/-- @main: the host's operations, then the kernel. -/
theorem main_eq (d : Dev nD) : main (F := F) d = seq hostOps >>= fun _ => sc.run d 0 >>= fun _ => pure ⟨⟩ := rfl

theorem hostOps_sub : ∀ op ∈ (hostOps : List (HloOp τ sig (Elt F))), op.bufs ⊆ tcRefs τ sig := by
  simp only [hostOps, hostA, hostB, List.cons_append, List.nil_append, List.forall_mem_cons, unary_bufs_sub, nullary_bufs_sub, reshape_bufs_sub, nary_bufs_sub, ternary_bufs_sub, true_and]
  simp

theorem hostOps_fresh : ∀ op ∈ (hostOps : List (HloOp τ sig (Elt F))), op.fresh = ∅ := by
  intro op h
  simp only [hostOps, hostA, hostB, List.cons_append, List.nil_append, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl | rfl | rfl <;> rfl

variable (m : (ℓ : Loc nD τ sig) → Buf (Elt F) ℓ) (d : Dev nD)

/-- The contents before the host's operations and after them. -/
abbrev V0 : Valuation τ sig (Elt F) := fun b => m (d, b)
def V1 : Valuation τ sig (Elt F) := after hostB (after hostA (V0 m d))

theorem V1_eq : after hostOps (V0 m d) = V1 m d := rfl

/-- An argument's entry at row `j`, column `e`. -/
def at2 {R : ℕ} (hR : 0 < R) (x : (⟨2, ![R, 2]⟩ : Shape).Idx → F .f32) (j e : ℕ) : F .f32 := x (ix2 ⟨j % R, Nat.mod_lt _ hR⟩ ⟨e % 2, Nat.mod_lt _ (by decide)⟩)

def XX (e n : ℕ) : F .f32 := at2 (R := 4000000) (by decide) (m ((T d : Thread nD τ).loc main_arg0)) n e
def KK (e j : ℕ) : F .f32 := at2 (R := 1024) (by decide) (m ((T d : Thread nD τ).loc main_arg1)) j e

/-- Coefficient `q` of every interval, as the host lays it out, two zeros behind. -/
def CC (q r : ℕ) : F .f32 :=
  if r < 2046 then
    match q with
    | 0 => at2 (R := 1023) (by decide) (m ((T d : Thread nD τ).loc main_arg2)) (r % 1023) (r / 1023)
    | 1 => at2 (R := 1023) (by decide) (m ((T d : Thread nD τ).loc main_arg3)) (r % 1023) (r / 1023)
    | 2 => at2 (R := 1023) (by decide) (m ((T d : Thread nD τ).loc main_arg4)) (r % 1023) (r / 1023)
    | _ => at2 (R := 1023) (by decide) (m ((T d : Thread nD τ).loc main_arg5)) (r % 1023) (r / 1023)
  else FloatOps.ofBits .f32 0x00000000#32

theorem at2_eq {R : ℕ} (hR : 0 < R) (x : (⟨2, ![R, 2]⟩ : Shape).Idx → F .f32) {j e : ℕ} {a : Fin R} {b : Fin 2} (ha : a.val = j) (hb : b.val = e) :
    x (ix2 a b) = at2 hR x j e := by
  subst ha hb
  unfold at2
  congr 2
  · exact Fin.ext (Nat.mod_eq_of_lt a.isLt).symm
  · exact Fin.ext (Nat.mod_eq_of_lt b.isLt).symm

theorem V1_x (y : S2x4000000.Idx) : V1 m d (Proc.devRef .tc main_v0) y = XX m d (y 0).val (y 1).val := by
  unfold V1 hostB hostA
  after_results
  pointwise
  exact at2_eq _ _ rfl rfl

theorem V1_k : HoldsK (KK m d) (V1 m d (Proc.devRef .tc main_v4)) := by
  intro y
  unfold V1 hostB hostA
  after_results
  pointwise
  exact at2_eq _ _ (by dsimp only; omega) rfl

/-- Where an entry of the joined coefficients goes when it is written into the wider table at word 0. -/
theorem pad_lands (idx : IVec S1 32) (hi : ∀ y, idx y = 0#32) (k : S4x2046.Idx) (q : Fin 4) (r : Fin 2048) :
    Iff (scatter_S4x2048_S1_S4x2046_01_n_1_0.resultIdx? k idx = some (ix2 q r)) ((k 0).val = q.val ∧ (k 1).val = r.val) := by
  have hs0 : scatter_S4x2048_S1_S4x2046_01_n_1_0.start k idx 0 = 0 := by
    unfold ScatterDims.start
    rw [dif_neg (by decide)]
  have hs1 : scatter_S4x2048_S1_S4x2046_01_n_1_0.start k idx 1 = 0 := by
    unfold ScatterDims.start
    rw [dif_pos (by decide), hi]
    rfl
  have hw0 : scatter_S4x2048_S1_S4x2046_01_n_1_0.window k 0 = (k 0).val := by
    unfold ScatterDims.window
    rw [dif_pos (by decide)]
    rfl
  have hw1 : scatter_S4x2048_S1_S4x2046_01_n_1_0.window k 1 = (k 1).val := by
    unfold ScatterDims.window
    rw [dif_pos (by decide)]
    rfl
  refine (Routing.resultIdx?_ix2 (R := 4) (C := 2048) _ k idx q r).trans ?_
  rw [hs0, hs1, hw0, hw1]
  omega

/-- The wider table, read at an entry. -/
theorem scatter_pad (x : S4x2048.Idx → F .f32) (idx : IVec S1 32) (hi : ∀ y, idx y = 0#32) (u : S4x2046.Idx → F .f32) (q : Fin 4) (r : Fin 2048) :
    Host.scatter scatter_S4x2048_S1_S4x2046_01_n_1_0 (fun _ b => b) x idx u (ix2 q r) = if h : r.val < 2046 then u (ix2 q ⟨r.val, h⟩) else x (ix2 q r) := by
  by_cases h : r.val < 2046
  · rw [dif_pos h]
    refine Routing.scatter_set_hit _ x idx u _ _ (fun k hk => congrArg u ?_) (ix2 q ⟨r.val, h⟩) ((pad_lands idx hi _ q r).2 ⟨rfl, rfl⟩)
    have := (pad_lands idx hi k q r).1 hk
    funext a
    match a with
    | 0 => exact Fin.ext this.1
    | 1 => exact Fin.ext this.2
  · rw [dif_neg h]
    refine Routing.scatter_set_miss _ x idx u _ fun k hk => h ?_
    have h1 := ((pad_lands idx hi k q r).1 hk).2
    have h2 : (k 1).val < 2046 := (k 1).isLt
    omega

/-- The four rows of coefficients. -/
theorem A_13 (y : S1x2046.Idx) : after hostA (V0 m d) (Proc.devRef .tc main_v13) y = at2 (R := 1023) (by decide) (m ((T d : Thread nD τ).loc main_arg2)) ((y 1).val % 1023) ((y 1).val / 1023) := by
  unfold hostA
  after_results
  pointwise
  exact at2_eq _ _ rfl rfl

theorem A_14 (y : S1x2046.Idx) : after hostA (V0 m d) (Proc.devRef .tc main_v14) y = at2 (R := 1023) (by decide) (m ((T d : Thread nD τ).loc main_arg3)) ((y 1).val % 1023) ((y 1).val / 1023) := by
  unfold hostA
  after_results
  pointwise
  exact at2_eq _ _ rfl rfl

theorem A_15 (y : S1x2046.Idx) : after hostA (V0 m d) (Proc.devRef .tc main_v15) y = at2 (R := 1023) (by decide) (m ((T d : Thread nD τ).loc main_arg4)) ((y 1).val % 1023) ((y 1).val / 1023) := by
  unfold hostA
  after_results
  pointwise
  exact at2_eq _ _ rfl rfl

theorem A_16 (y : S1x2046.Idx) : after hostA (V0 m d) (Proc.devRef .tc main_v16) y = at2 (R := 1023) (by decide) (m ((T d : Thread nD τ).loc main_arg5)) ((y 1).val % 1023) ((y 1).val / 1023) := by
  unfold hostA
  after_results
  pointwise
  exact at2_eq _ _ rfl rfl

/-- The four rows joined and widened are the coefficients. -/
theorem joined (w0 w1 w2 w3 : S1x2046.Idx → F .f32)
    (h0 : ∀ y : S1x2046.Idx, w0 y = at2 (R := 1023) (by decide) (m ((T d : Thread nD τ).loc main_arg2)) ((y 1).val % 1023) ((y 1).val / 1023))
    (h1 : ∀ y : S1x2046.Idx, w1 y = at2 (R := 1023) (by decide) (m ((T d : Thread nD τ).loc main_arg3)) ((y 1).val % 1023) ((y 1).val / 1023))
    (h2 : ∀ y : S1x2046.Idx, w2 y = at2 (R := 1023) (by decide) (m ((T d : Thread nD τ).loc main_arg4)) ((y 1).val % 1023) ((y 1).val / 1023))
    (h3 : ∀ y : S1x2046.Idx, w3 y = at2 (R := 1023) (by decide) (m ((T d : Thread nD τ).loc main_arg5)) ((y 1).val % 1023) ((y 1).val / 1023))
    (q : Fin 4) (r : Fin 2048) :
    Host.scatter scatter_S4x2048_S1_S4x2046_01_n_1_0 (fun _ b => b)
      (broadcastInDim S4x2048 ![] bcast_S_S4x2048 (constant S_ .f32 0x00000000#32))
      (broadcastInDim S1 ![] bcast_S_S1 (constantI S_ 32 0#32))
      (concatenate S4x2046 0 [⟨S1x2046, w0⟩, ⟨S1x2046, w1⟩, ⟨S1x2046, w2⟩, ⟨S1x2046, w3⟩] concatenates_S1x2046_S1x2046_S1x2046_S1x2046_S4x2046_d0)
      (ix2 q r) = CC m d q.val r.val := by
  refine (scatter_pad _ _ (fun _ => rfl) _ q r).trans ?_
  unfold CC
  by_cases h : r.val < 2046
  · rw [dif_pos h, if_pos h]
    pointwise
    fin_vals q with hk
    all_goals simp only [hk, Nat.reduceSub, Nat.reduceLT, ↓reduceDIte, h0, h1, h2, h3]
    all_goals rfl
  · rw [dif_neg h, if_neg h]
    rfl

theorem V1_c : HoldsC (CC m d) (V1 m d (Proc.devRef .tc main_v23)) := by
  intro y
  unfold V1
  have h13 := A_13 m d
  have h14 := A_14 m d
  have h15 := A_15 m d
  have h16 := A_16 m d
  generalize after hostA (V0 m d) = W at h13 h14 h15 h16 ⊢
  unfold hostB
  after_results
  pointwise
  refine (joined m d _ _ _ _ h13 h14 h15 h16 _ _).trans ?_
  exact congrArg (CC m d ((y 0).val / 16384)) (by dsimp only; omega)

/-- The host's operations write no argument. -/
theorem V1_args :
    V1 m d (Proc.devRef .tc main_arg0) = m ((T d : Thread nD τ).loc main_arg0) ∧ V1 m d (Proc.devRef .tc main_arg1) = m ((T d : Thread nD τ).loc main_arg1)
    ∧ V1 m d (Proc.devRef .tc main_arg2) = m ((T d : Thread nD τ).loc main_arg2) ∧ V1 m d (Proc.devRef .tc main_arg3) = m ((T d : Thread nD τ).loc main_arg3)
    ∧ V1 m d (Proc.devRef .tc main_arg4) = m ((T d : Thread nD τ).loc main_arg4) ∧ V1 m d (Proc.devRef .tc main_arg5) = m ((T d : Thread nD τ).loc main_arg5) := by
  unfold V1 hostB hostA
  refine ⟨?_, ?_, ?_, ?_, ?_, ?_⟩ <;> (after_results; try rfl)

/-- What the kernel is launched on. -/
def G : Data F d where
  fX := V1 m d (Proc.devRef .tc main_v0)
  fK := V1 m d (Proc.devRef .tc main_v4)
  fC := V1 m d (Proc.devRef .tc main_v23)
  f0 := V1 m d (Proc.devRef .tc main_v24)
  X := XX m d
  kn := KK m d
  co := CC m d
  hX := V1_x m d
  hK := V1_k m d
  hC := V1_c m d

end Cert.Proof.Spline
-- ==== Proof.Run.lean ====
/-
  The whole program's run over any float values: @main's operations, then the launch, from the launch's ghost state to
  every array's contents. The six arguments are as they were, the result is the spline at every point, and every
  semaphore is at 0.
-/
module

public import proofs.«01_k».proof.Proof.Host

@[expose] public section

noncomputable section

namespace Cert.Proof.Spline

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (m : (ℓ : Loc nD τ sig) → Buf (Elt F) ℓ) (ρ : Dev nD → PrngReg)

/-- The ghost state at launch: the handshakes' cells, the write-mode cells with nothing in write mode, no counter. -/
def u₀ : UU F := (initOf (K (F := F)).hsCells (K (F := F)).hsToks, (wm₀ nD τ sig (Elt F), 1))

theorem wm_own (w : UW F) : (BI.own (((Emb.inl : Emb (UW F) (UW F × Counters)).trans (embR : Emb (UW F × Counters) 𝕄)) w) : sProp 𝕄) ⊢ ownU (emW w) :=
  BI.Entails.refl _

theorem bigSep_emp' {I : Type} (s : Finset I) : (bigSep s fun _ => iprop(emp)) = (iprop(emp) : sProp 𝕄) := bigSep_emp_const s

/-- Every thread knows the write mode's invariant. -/
theorem deal_wm : (iprop(∃ ιwm, wmInv emW ιwm) : sProp 𝕄) ⊢ bigSep Finset.univ fun t : Thread nD τ => bigSep Finset.univ fun q : Fin 1 => (P (G m)).x q t :=
  bigSep_intro_persistent fun _ _ => bigSep_intro_persistent fun _ _ => BI.Entails.refl _

theorem hu₀ (ρ : Dev nD → PrngReg) : (ownU (u₀ (F := F)) : sProp 𝕄)
    ⊢ |={Set.univ}=> iprop(BI.own (EH (initOf (K (F := F)).hsCells (K (F := F)).hsToks)) ∗ (bigSep Finset.univ fun _ : Dev nD => iprop(emp))
      ∗ bigSep Finset.univ fun t : Thread nD τ => bigSep Finset.univ fun q : Fin 1 => (P (G m)).x q t) := by
  unfold u₀
  iintro H
  ihave H' := (ownU_pair _ _) $$ H
  icases H' with ⟨HH, HR⟩
  ihave HR' := (own_pair_emb embR _ _) $$ HR
  icases HR' with ⟨HW, -⟩
  ihave HW' := (wm_own _) $$ HW
  imod (wmInv_alloc (emb := emW) (nD := nD) (τ := τ) (sig := sig) (Val := Elt F) (Ix := HIx 1) (Name := ℕ) (Lvl := ℕ) ⟨m, fun _ => 0, ρ⟩ (E := Set.univ)) $$ [HW'] with Hinv
  · iexact HW'
  icases Hinv with ⟨%ιwm, -, #Hinv⟩
  imodintro
  isplitl [HH]; · iexact HH
  isplitr
  · rw [bigSep_emp']; iempintro
  · iapply (deal_wm m)
    iexists ιwm; iexact Hinv

/-- The launch's operands, and what it hands back, as whole arrays. -/
theorem st_all (A : ∀ d : Dev nD, Data F d) (d : Dev nD) : (bigSep Finset.univ fun c : Fin ((K (F := F)).nCore 0) => (P A).st 0 d c)
    = iprop((((T d : Thread nD τ).loc main_v0 ↦{fullShare} (A d).fX) ∗ ((T d : Thread nD τ).loc main_v4 ↦{fullShare} (A d).fK) ∗ ((T d : Thread nD τ).loc main_v23 ↦{fullShare} (A d).fC))
      ∗ ((T d : Thread nD τ).loc main_v24 ↦{fullShare} (A d).f0)) := by
  rw [← before_all A d]; rfl
theorem dn_all (A : ∀ d : Dev nD, Data F d) (d : Dev nD) : (bigSep Finset.univ fun c : Fin ((K (F := F)).nCore 0) => (P A).dn 0 d c)
    = iprop((((T d : Thread nD τ).loc main_v0 ↦{fullShare} (A d).fX) ∗ ((T d : Thread nD τ).loc main_v4 ↦{fullShare} (A d).fK) ∗ ((T d : Thread nD τ).loc main_v23 ↦{fullShare} (A d).fC))
      ∗ ((T d : Thread nD τ).loc main_v24 ↦{fullShare} result (A d).kn (A d).co (A d).X)) := by
  rw [← behind_all A d]; rfl

/-- The arrays of interest: the arguments, and what the kernel is launched on. -/
abbrev mine : Finset (DevRef τ sig) :=
  {Proc.devRef .tc main_arg0, Proc.devRef .tc main_arg1, Proc.devRef .tc main_arg2, Proc.devRef .tc main_arg3, Proc.devRef .tc main_arg4, Proc.devRef .tc main_arg5,
    Proc.devRef .tc main_v0, Proc.devRef .tc main_v4, Proc.devRef .tc main_v23, Proc.devRef .tc main_v24}

theorem mine_sub : mine ⊆ Pipeline.ucRefs τ sig := by decide

/-- What @main leaves: the arguments as they were, the result's array at the spline. -/
def FIN (d : Dev nD) : sProp 𝕄 :=
  iprop(((T d : Thread nD τ).loc main_arg0 ↦{fullShare} m ((T d : Thread nD τ).loc main_arg0)) ∗ ((T d : Thread nD τ).loc main_arg1 ↦{fullShare} m ((T d : Thread nD τ).loc main_arg1))
    ∗ ((T d : Thread nD τ).loc main_arg2 ↦{fullShare} m ((T d : Thread nD τ).loc main_arg2)) ∗ ((T d : Thread nD τ).loc main_arg3 ↦{fullShare} m ((T d : Thread nD τ).loc main_arg3))
    ∗ ((T d : Thread nD τ).loc main_arg4 ↦{fullShare} m ((T d : Thread nD τ).loc main_arg4)) ∗ ((T d : Thread nD τ).loc main_arg5 ↦{fullShare} m ((T d : Thread nD τ).loc main_arg5))
    ∗ ((T d : Thread nD τ).loc main_v24 ↦{fullShare} result (KK m d) (CC m d) (XX m d)))

/-- What the host's operations leave: the arguments, what the launch takes, and the rest. -/
theorem held_split (d : Dev nD) : (StableHlo.held (d.tc : Thread nD τ) (Pipeline.ucRefs τ sig) (StableHlo.after hostOps (V0 m d)) : sProp 𝕄)
    ⊢ iprop((((T d : Thread nD τ).loc main_arg0 ↦{fullShare} m ((T d : Thread nD τ).loc main_arg0)) ∗ ((T d : Thread nD τ).loc main_arg1 ↦{fullShare} m ((T d : Thread nD τ).loc main_arg1))
    ∗ ((T d : Thread nD τ).loc main_arg2 ↦{fullShare} m ((T d : Thread nD τ).loc main_arg2)) ∗ ((T d : Thread nD τ).loc main_arg3 ↦{fullShare} m ((T d : Thread nD τ).loc main_arg3))
    ∗ ((T d : Thread nD τ).loc main_arg4 ↦{fullShare} m ((T d : Thread nD τ).loc main_arg4)) ∗ ((T d : Thread nD τ).loc main_arg5 ↦{fullShare} m ((T d : Thread nD τ).loc main_arg5)))
    ∗ (bigSep Finset.univ fun c : Fin ((K (F := F)).nCore 0) => (P (G m)).st 0 d c)) := by
  obtain ⟨h0, h1, h2, h3, h4, h5⟩ := V1_args m d
  rw [V1_eq, st_all (G m) d]
  dsimp only [G]
  rw [StableHlo.held_sub_split d.tc mine_sub]
  unfold StableHlo.held mine
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton, h0, h1, h2, h3, h4, h5]
  iintro ⟨⟨H0, H1, H2, H3, H4, H5, Hx, Hk, Hc, Ho⟩, -⟩
  isplitl [H0 H1 H2 H3 H4 H5]
  · isplitl [H0]; · iexact H0
    isplitl [H1]; · iexact H1
    isplitl [H2]; · iexact H2
    isplitl [H3]; · iexact H3
    isplitl [H4]; · iexact H4
    iexact H5
  · isplitl [Hx Hk Hc]
    · isplitl [Hx]; · iexact Hx
      isplitl [Hk]; · iexact Hk
      iexact Hc
    · iexact Ho

theorem done (d : Dev nD) : (bigSep Finset.univ fun c : Fin ((K (F := F)).nCore 0) => (P (G m)).dn 0 d c)
    ⊢ ((T d : Thread nD τ).loc main_v24 ↦{fullShare} result (KK m d) (CC m d) (XX m d) : sProp 𝕄) := by
  rw [dn_all (G m) d]
  iintro ⟨-, H⟩
  iexact H

theorem hmain (κ : GSem nD τ sig → ℕ) (d : Dev nD) :
    iprop((K (F := F)).ctx EH (P (G m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have hh : (unscopedBufs d (fun b => m ((SparseCore.T d).loc b)) : sProp 𝕄) = StableHlo.held (T d : Thread nD τ) (Pipeline.ucRefs τ sig) (V0 m d) :=
    Pipeline.unscopedBufs_held d (V0 m d)
  rw [hh, main_eq]
  iintro ⟨#Hctx, Hst, ⟨Hb, Hheld, Hts, -⟩, -⟩
  iapply (StableHlo.wp_seq 𝒱 none Set.univ d (Pipeline.ucRefs τ sig) _ hostOps (fun op h => Pipeline.sub_ucRefs op (hostOps_sub op h)) hostOps_fresh (V0 m d)) $$ [Hb Hheld]
  · isplitl [Hb] <;> iassumption
  iintro ⟨Hb, Hheld⟩
  ihave Hh := (held_split m d) $$ Hheld
  icases Hh with ⟨Hargs, Hops⟩
  rw [wp_bind]
  iapply ((K (F := F)).wp_run (D (F := F)) 𝒱 (EH := EH) (P := P (G m)) κ d 0) $$ [Hst Hops Hargs Hb Hts]
  isplitr; · iexact Hctx
  isplitl [Hst]; · iexact Hst
  isplitl [Hops]; · iexact Hops
  iintro ⟨Hst, Hdn⟩
  ihave Ho := (done m d) $$ Hdn
  icases Hargs with ⟨H0, H1, H2, H3, H4, H5⟩
  rw [wp_pure]; imodintro
  isplitl [Hst]; · iexact Hst
  isplitr [Hb Hts]
  · unfold FIN
    isplitl [H0]; · iexact H0
    isplitl [H1]; · iexact H1
    isplitl [H2]; · iexact H2
    isplitl [H3]; · iexact H3
    isplitl [H4]; · iexact H4
    isplitl [H5]; · iexact H5
    iexact Ho
  isplitl [Hb] <;> iassumption

/-- What a device's memory is at the end. -/
def fin (d : Dev nD) (M : (ℓ : Loc nD τ sig) → Buf (Elt F) ℓ) : Prop :=
  (M ((T d : Thread nD τ).loc main_arg0) = m ((T d : Thread nD τ).loc main_arg0) ∧ M ((T d : Thread nD τ).loc main_arg1) = m ((T d : Thread nD τ).loc main_arg1)
    ∧ M ((T d : Thread nD τ).loc main_arg2) = m ((T d : Thread nD τ).loc main_arg2) ∧ M ((T d : Thread nD τ).loc main_arg3) = m ((T d : Thread nD τ).loc main_arg3)
    ∧ M ((T d : Thread nD τ).loc main_arg4) = m ((T d : Thread nD τ).loc main_arg4) ∧ M ((T d : Thread nD τ).loc main_arg5) = m ((T d : Thread nD τ).loc main_arg5))
  ∧ M ((T d : Thread nD τ).loc main_v24) = result (KK m d) (CC m d) (XX m d)

/-- A whole buffer held is what memory has. -/
theorem agrees {ℓ : Loc nD τ sig} {f : Buf (Elt F) ℓ} (s' : Phys nD τ sig (Elt F)) :
    iprop(SI s' ∗ ℓ ↦{fullShare} f) ⊢ (iprop(⌜s'.mem.mem ℓ = f⌝ ∗ SI s') : sProp 𝕄) := by
  iintro ⟨HSI, Hi⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fin m d s'.mem.mem⌝ : sProp 𝕄) := by
  unfold FIN
  iintro ⟨⟨H0, H1, H2, H3, H4, H5, Ho⟩, HSI⟩
  ihave A0 := (agrees s') $$ [HSI H0]
  · isplitl [HSI] <;> iassumption
  icases A0 with ⟨%h0, HSI⟩
  ihave A1 := (agrees s') $$ [HSI H1]
  · isplitl [HSI] <;> iassumption
  icases A1 with ⟨%h1, HSI⟩
  ihave A2 := (agrees s') $$ [HSI H2]
  · isplitl [HSI] <;> iassumption
  icases A2 with ⟨%h2, HSI⟩
  ihave A3 := (agrees s') $$ [HSI H3]
  · isplitl [HSI] <;> iassumption
  icases A3 with ⟨%h3, HSI⟩
  ihave A4 := (agrees s') $$ [HSI H4]
  · isplitl [HSI] <;> iassumption
  icases A4 with ⟨%h4, HSI⟩
  ihave A5 := (agrees s') $$ [HSI H5]
  · isplitl [HSI] <;> iassumption
  icases A5 with ⟨%h5, HSI⟩
  ihave A6 := (agrees s') $$ [HSI Ho]
  · isplitl [HSI] <;> iassumption
  icases A6 with ⟨%h6, -⟩
  ipureintro; exact ⟨⟨h0, h1, h2, h3, h4, h5⟩, h6⟩

def QC : PUnit × MemSt nD τ sig (Elt F) → Prop := fun r => (∀ d : Dev nD, fin m d r.2.mem) ∧ r.2.sem = fun _ => 0

/-- The program's run. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (G m)) (A := ∅) facts v₀
    (fun q hq => match q with | 0 => nomatch hq)
    (fun q _ => match q with | 0 => tileObl (G m))
    (fun q _ => match q with | 0 => SparseCore.Cfg.VecSplit.of_plain (vecSplit (G m)))
    m ρ main (fun _ => iprop(emp)) (FIN m) (u₀ (F := F)) (sep_elim_left.trans (hu₀ m ρ)) (hmain m ρ) (fun d s' => fin m d s'.mem.mem) (hfin m) (QC m) (fun _ h hz => ⟨h, hz⟩)

end Cert.Proof.Spline

end
-- ==== Proof.Frames.lean ====
/-
  The frames: each program ends with its arguments as they were and every semaphore at 0.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof.Spline

open Idealize.ShloMosaic Idealize.SL.Sem

attribute [local instance] Cert.Kernel.Gen.facts Cert.KernelIdeal.Gen.facts Cert.ReferenceIdeal.Gen.facts

theorem frame_kernel : Cert.quiescent_Kernel := fun m ρ _ =>
  (θ_run Cert.KernelIdeal.defs _ _).mono (fun _ h => ⟨fun c => (h.1 c).1, h.2⟩) (run_main (F := Bits) m ρ)

theorem frame_ideal : Cert.quiescent_KernelIdeal := fun m ρ _ =>
  (θ_run Cert.KernelIdeal.defs _ _).mono (fun _ h => ⟨fun c => (h.1 c).1, h.2⟩) (run_main (F := Ideal) m ρ)

/-- The reference is a straight-line host program that declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Spline

end
-- ==== Proof.Search.lean ====
/-
  On sorted knots the search by halving finds how many knots lie below `x`, at most 1023.
-/
module

public import proofs.«01_k».proof.Proof.Spec
public import Idealize.ShloMosaic.Lib.WordArith

@[expose] public section

noncomputable section

namespace Cert.Proof.Spline

open Idealize.ShloMosaic

variable {F : FTy → Type} [FloatOps F]

/-- A predicate that passes to every smaller number holds exactly below its count. -/
theorem below_count {P : ℕ → Prop} [DecidablePred P] {N : ℕ} (hP : ∀ i j, i ≤ j → j < N → P j → P i) {j : ℕ} (hj : j < N) :
    Iff (P j) (j < Nat.count P N) := by
  constructor
  · intro h
    have h1 : Nat.count P (j + 1) = j + 1 := Nat.count_iff_forall.2 fun i hi => hP i j (by omega) hj h
    have h2 := Nat.count_monotone P (show j + 1 ≤ N by omega)
    omega
  · intro h
    by_contra hn
    have h3 : Nat.count P N ≤ j := by
      obtain ⟨r, rfl⟩ := Nat.exists_eq_add_of_le hj.le
      have h4 : Nat.count (fun k => P (j + k)) r = 0 :=
        Nat.count_iff_forall_not.2 fun k hk hp => hn (hP j (j + k) (by omega) (by omega) hp)
      rw [Nat.count_add, h4]
      exact Nat.count_le _
    omega

/-- One halving keeps the count `M` between the knots passed and the knots still possible. -/
theorem halve_between {kn : ℕ → F .f32} {x : F .f32} {M : ℕ}
    (hM : ∀ j < 1023, Iff (FloatOps.cmpf .olt (kn j) x = 1#1) (j < M)) {h g s : ℕ} (hg : g = 2 * h) (hh : 0 < h)
    (hs : s ≤ M ∧ M < s + g ∧ s + g ≤ 1024) :
    halve kn x h s ≤ M ∧ M < halve kn x h s + h ∧ halve kn x h s + h ≤ 1024 := by
  obtain ⟨h1, h2, h3⟩ := hs
  unfold halve
  have hk := hM (s + h - 1) (by omega)
  split
  · next hc => have := hk.1 hc; omega
  · next hc =>
    have : ¬(s + h - 1 < M) := fun q => hc (hk.2 q)
    omega

/-- The search finds `M` when the knots below `x` are the first `M`. -/
theorem count_eq {kn : ℕ → F .f32} {x : F .f32} {M : ℕ} (h0 : M ≤ 1023)
    (hM : ∀ j < 1023, Iff (FloatOps.cmpf .olt (kn j) x = 1#1) (j < M)) : count kn x = M := by
  have a := halve_between hM (h := 512) (g := 1024) (s := 0) rfl (by decide) (by omega)
  have a := halve_between hM (h := 256) rfl (by decide) a
  have a := halve_between hM (h := 128) rfl (by decide) a
  have a := halve_between hM (h := 64) rfl (by decide) a
  have a := halve_between hM (h := 32) rfl (by decide) a
  have a := halve_between hM (h := 16) rfl (by decide) a
  have a := halve_between hM (h := 8) rfl (by decide) a
  have a := halve_between hM (h := 4) rfl (by decide) a
  have a := halve_between hM (h := 2) rfl (by decide) a
  have a := halve_between hM (h := 1) rfl (by decide) a
  unfold count top
  omega

/-- How many of the 1024 knots lie below `x`, less one, and between 0 and 1022: the interval whose cubic is taken. -/
def place (kn : ℕ → F .f32) (x : F .f32) : ℕ := min (Nat.count (fun j => FloatOps.cmpf .olt (kn j) x = 1#1) 1024 - 1) 1022

theorem place_lt (kn : ℕ → F .f32) (x : F .f32) : place kn x < 1023 := by unfold place; omega

theorem below_iff (a x : Ideal .f32) : Iff (FloatOps.cmpf .olt a x = 1#1) (a < x) :=
  (WordArith.ofBool_eq_one_iff _).trans decide_eq_true_iff

/-- On sorted knots, over the extended reals, the search finds that interval. -/
theorem count_sorted {kn : ℕ → Ideal .f32} (hk : ∀ j < 1023, kn j ≤ kn (j + 1)) (x : Ideal .f32) : count kn x - 1 = place kn x := by
  have hmono : ∀ i j, i ≤ j → j < 1024 → kn i ≤ kn j := by
    intro i j hij hj
    induction j, hij using Nat.le_induction with
    | base => exact le_refl _
    | succ j _ ih => exact (ih (by omega)).trans (hk j (by omega))
  have hb : ∀ j < 1024, Iff (FloatOps.cmpf .olt (kn j) x = 1#1) (j < Nat.count (fun j => FloatOps.cmpf .olt (kn j) x = 1#1) 1024) := fun j hj =>
    below_count (fun i j hij hj h => (below_iff _ _).2 ((hmono i j hij hj).trans_lt ((below_iff _ _).1 h))) hj
  unfold place
  generalize Nat.count (fun j => FloatOps.cmpf .olt (kn j) x = 1#1) 1024 = c at hb ⊢
  rw [count_eq (M := min c 1023) (by omega) (fun j hj => (hb j (by omega)).trans (by omega))]
  omega

end Cert.Proof.Spline
-- ==== Proof.Ref.lean ====
/-
  The reference's value at one point: for each coordinate it counts the knots below the point, takes that interval's
  four coefficients, and sums the powers. For any float values.
-/
module

public import proofs.«01_k».proof.Proof.Search
public import proofs.«01_k».proof.Proof.Host
public import proofs.«01_k».proof.Proof.Gen.ReferenceIdeal.Run
public import Idealize.ShloMosaic.Lib.Tactic.CleanTypes
public import Idealize.ShloMosaic.Lib.Routing.OpsSearch
public import Idealize.ShloMosaic.Lib.Routing.OpsPair
public import Idealize.ShloMosaic.Lib.ReduceAll

@[expose] public section

noncomputable section

namespace Cert.Proof.Spline

open Cert.ReferenceIdeal Cert.ReferenceIdeal.Gen Cert.ReferenceIdeal.Value
open Idealize.ShloMosaic Idealize.ShloMosaic.Routing

variable {F : FTy → Type} [FloatOps F]

/-! ## The reference's operations, once for both coordinates -/

/-- The interval of each point, as words, from the knots' and the points' columns. -/
def refIdx (kc : FVec F S1024 .f32) (xc : FVec F S4000000 .f32) : IVec S4000000 32 :=
  minsi (broadcastInDim S4000000 ![] bcast_S_S4000000 (id (constantI S_ 32 1022#32))) (maxsi (broadcastInDim S4000000 ![] bcast_S_S4000000 (id (constantI S_ 32 0#32))) (subi (Host.reduce IntOp.addi (extui 32 (cmpf .olt (broadcastInDim S4000000x1024 ![0, 1] bcast_S1x1024_S4000000x1024_0_1 (broadcastInDim S1x1024 ![1] bcast_S1024_S1x1024_1 kc)) (broadcastInDim S4000000x1024 ![0, 1] bcast_S4000000x1_S4000000x1024_0_1 (broadcastInDim S4000000x1 ![0] bcast_S4000000_S4000000x1_0 xc))) natLt_1_32) (constantI S_ 32 0#32) reducesTo_S4000000x1024_S4000000_d1 h_S_) (broadcastInDim S4000000 ![] bcast_S_S4000000 (constantI S_ 32 1#32))))

/-- Negative intervals wrapped around, as a column. -/
def refWrap (v : IVec S4000000 32) : IVec S4000000x1 32 :=
  broadcastInDim S4000000x1 ![0] bcast_S4000000_S4000000x1_0 (select (cmpi .slt v (broadcastInDim S4000000 ![] bcast_S_S4000000 (constantI S_ 32 0#32))) (addi v (broadcastInDim S4000000 ![] bcast_S_S4000000 (constantI S_ 32 1023#32))) v)

/-- A column of coefficients taken at the intervals, a NaN where the interval is out of range. -/
def refTake (tbl : FVec F S1023 .f32) (w : IVec S4000000x1 32) : FVec F S4000000 .f32 :=
  select (Host.reduce IntOp.andi (andi (cmpi .sge w (broadcastInDim S4000000x1 ![] bcast_S_S4000000x1 (constantI S_ 32 0#32))) (cmpi .sle w (broadcastInDim S4000000x1 ![0, 1] bcast_S1x1_S4000000x1_0_1 (broadcastInDim S1x1 ![1] bcast_S1_S1x1_1 (constantI S1 32 1022#32))))) (constantI S_ 1 1#1) reducesTo_S4000000x1_S4000000_d1 h_S_) (Host.gather gather_S1023_S4000000x1_S4000000_n_0_n_n_0_1_1 tbl w) (broadcastInDim S4000000 ![] bcast_S_S4000000 (constant S_ .f32 0x7FC00000#32))

/-- One coordinate's spline at every point. -/
def refSpl (kc : FVec F S1024 .f32) (ac bc cc dc : FVec F S1023 .f32) (xc : FVec F S4000000 .f32) : FVec F S4000000 .f32 :=
  addf (addf (addf (refTake ac (refWrap (refIdx kc xc))) (mulf (refTake bc (refWrap (refIdx kc xc))) xc))
    (mulf (refTake cc (refWrap (refIdx kc xc))) (mulf xc xc))) (mulf (refTake dc (refWrap (refIdx kc xc))) (mulf (mulf xc xc) xc))

/-! ## One entry -/

/-- A count less one, held between 0 and 1022, as words. -/
theorem clipped {c : ℕ} (hc : c ≤ 1024) :
    IntOp.minsi 1022#32 (IntOp.maxsi 0#32 (IntOp.subi (BitVec.ofNat 32 c) 1#32)) = BitVec.ofNat 32 (min (c - 1) 1022) := by
  rcases c with _ | c
  · rfl
  · rw [show IntOp.subi (BitVec.ofNat 32 (c + 1)) 1#32 = BitVec.ofNat 32 c from
      BitVec.eq_of_toNat_eq (by simp only [IntOp.subi, BitVec.toNat_sub, BitVec.toNat_ofNat]; omega)]
    have h := clip_word (x := c) (lo := 0) (hi := 1022) (by omega) (by decide) (by decide)
    rw [Nat.max_eq_left (Nat.zero_le c)] at h
    exact h

set_option maxRecDepth 8192 in
theorem refIdx_at (kc : FVec F S1024 .f32) (xc : FVec F S4000000 .f32) (kn : ℕ → F .f32) (hk : ∀ j : Fin 1024, kc (ix1 j) = kn j.val) (n : Fin 4000000) :
    refIdx kc xc (ix1 n) = BitVec.ofNat 32 (place kn (xc (ix1 n))) := by
  have h : Host.reduce IntOp.addi (extui 32 (cmpf .olt (broadcastInDim S4000000x1024 ![0, 1] bcast_S1x1024_S4000000x1024_0_1 (broadcastInDim S1x1024 ![1] bcast_S1024_S1x1024_1 kc)) (broadcastInDim S4000000x1024 ![0, 1] bcast_S4000000x1_S4000000x1024_0_1 (broadcastInDim S4000000x1 ![0] bcast_S4000000_S4000000x1_0 xc))) natLt_1_32) (constantI S_ 32 0#32) reducesTo_S4000000x1024_S4000000_d1 h_S_ (ix1 n)
      = BitVec.ofNat 32 (Nat.count (fun j => FloatOps.cmpf .olt (kn j) (xc (ix1 n)) = 1#1) 1024) := reduce_count (n := 4000000) (m := 1024) (by decide) _
    natLt_1_32 reducesTo_S4000000x1024_S4000000_d1 h_S_ n (fun j => FloatOps.cmpf .olt (kn j) (xc (ix1 n)) = 1#1) (fun q => by
      rw [← hk q]
      pointwise)
  unfold refIdx
  change IntOp.minsi 1022#32 (IntOp.maxsi 0#32 (IntOp.subi _ 1#32)) = _
  rw [h]
  exact clipped (Nat.count_le _)

theorem refWrap_at (v : IVec S4000000 32) (n : Fin 4000000) (b : Fin 1) {k : ℕ} (hk : k < 1023) (hv : v (ix1 n) = BitVec.ofNat 32 k) :
    refWrap v (ix2 n b) = BitVec.ofNat 32 k := by
  have h := wrap_of_lt (v (ix1 n)) (IntOp.addi (v (ix1 n)) 1023#32) (by rw [hv, BitVec.toNat_ofNat]; omega)
  refine Eq.trans ?_ (h.trans hv)
  unfold refWrap
  pointwise

set_option maxRecDepth 8192 in
theorem refTake_at (tbl : FVec F S1023 .f32) (w : IVec S4000000x1 32) (p : Fin 4000000 → ℕ) (hp : ∀ n, p n < 1023)
    (hw : ∀ n b, w (ix2 n b) = BitVec.ofNat 32 (p n)) (n : Fin 4000000) : refTake tbl w (ix1 n) = tbl (ix1 ⟨p n, hp n⟩) := by
  have hg := take_ap gather_S1023_S4000000x1_S4000000_n_0_n_n_0_1_1 rfl rfl rfl rfl tbl w n (hp n) ((hp n).trans (by decide)) (hw n 0)
  have hm := Host.reduce_andi_one (andi (cmpi .sge w (broadcastInDim S4000000x1 ![] bcast_S_S4000000x1 (constantI S_ 32 0#32))) (cmpi .sle w (broadcastInDim S4000000x1 ![0, 1] bcast_S1x1_S4000000x1_0_1 (broadcastInDim S1x1 ![1] bcast_S1_S1x1_1 (constantI S1 32 1022#32))))) (constantI S_ 1 1#1) reducesTo_S4000000x1_S4000000_d1 h_S_ (ix1 n) rfl (fun y => by
      have hy : w y = BitVec.ofNat 32 (p (y 0)) := (congrArg w (ix2_eta y)).symm.trans (hw _ _)
      have hq := hp (y 0)
      have hi : (BitVec.ofNat 32 (p (y 0))).toInt = p (y 0) := WordCmp.toInt_ofNat_of_lt (w := 32) (by omega)
      refine IntOp.andi_eq_one.2 ⟨IntOp.cmpi_sge.2 ?_, IntOp.cmpi_sle.2 ?_⟩
      · rw [hy, hi]; exact Int.natCast_nonneg _
      · rw [hy, hi]; exact (show (p (y 0) : ℤ) ≤ 1022 by omega))
  unfold refTake
  change Scalar.select _ _ _ = _
  rw [hm]
  exact hg

/-- The reference's sum of powers. -/
def powers (a b c d x : F .f32) : F .f32 :=
  FloatOps.addf (FloatOps.addf (FloatOps.addf a (FloatOps.mulf b x)) (FloatOps.mulf c (FloatOps.mulf x x))) (FloatOps.mulf d (FloatOps.mulf (FloatOps.mulf x x) x))

theorem refSpl_at (kc : FVec F S1024 .f32) (ac bc cc dc : FVec F S1023 .f32) (xc : FVec F S4000000 .f32) (kn : ℕ → F .f32)
    (hk : ∀ j : Fin 1024, kc (ix1 j) = kn j.val) (n : Fin 4000000) :
    refSpl kc ac bc cc dc xc (ix1 n) = powers (ac (ix1 ⟨place kn (xc (ix1 n)), place_lt _ _⟩)) (bc (ix1 ⟨place kn (xc (ix1 n)), place_lt _ _⟩))
      (cc (ix1 ⟨place kn (xc (ix1 n)), place_lt _ _⟩)) (dc (ix1 ⟨place kn (xc (ix1 n)), place_lt _ _⟩)) (xc (ix1 n)) := by
  have h : ∀ tbl : FVec F S1023 .f32, refTake tbl (refWrap (refIdx kc xc)) (ix1 n) = tbl (ix1 ⟨place kn (xc (ix1 n)), place_lt _ _⟩) := fun tbl =>
    refTake_at tbl _ (fun n => place kn (xc (ix1 n))) (fun n => place_lt _ _)
      (fun n b => refWrap_at _ n b (place_lt _ _) (refIdx_at kc xc kn hk n)) n
  unfold powers
  rw [← h ac, ← h bc, ← h cc, ← h dc]
  rfl

/-- A column of a two-column array, entry by entry. -/
theorem col_at {R e : ℕ} (hR : 0 < R) (he : e < 2) (x : FVec F ⟨2, ![R, 2]⟩ .f32) (hs : (⟨2, ![R, 2]⟩ : Shape).Slices ![0, e] ⟨2, ![R, 1]⟩)
    (hc : (⟨2, ![R, 1]⟩ : Shape).ShapeCasts ⟨1, ![R]⟩) (j : Fin R) :
    shapeCast _ (extractStridedSlice ⟨2, ![R, 1]⟩ ![0, e] x hs) hc (ix1 j) = at2 hR x j.val e := by
  refine (shapeCast_apply _ hc (ix1 j) (ix2 j (0 : Fin 1)) ?_).trans ?_
  · rw [Shape.rowMajor_val_two, Shape.rowMajor_val_one]
    show j.val * 1 + 0 = j.val
    omega
  · unfold extractStridedSlice at2
    refine congrArg x (funext fun a => Fin.ext ?_)
    match a with
    | ⟨0, _⟩ => show 0 + j.val = j.val % R; rw [Nat.mod_eq_of_lt j.isLt, Nat.zero_add]
    | ⟨1, _⟩ => show e + 0 = e % 2; omega

/-! ## The whole reference -/

variable (V0 : Valuation τ sig (Elt F))

/-- The reference's result is the product of the two coordinates' splines. -/
theorem res_eq : res_main_v70 V0 = mulf
    (refSpl (shapeCast _ (extractStridedSlice S1024x1 ![0, 0] (V0 (Proc.devRef .tc main_arg1)) slices_S1024x2_S1024x1_0_0) shapeCasts_S1024x1_S1024)
      (shapeCast _ (extractStridedSlice S1023x1 ![0, 0] (V0 (Proc.devRef .tc main_arg2)) slices_S1023x2_S1023x1_0_0) shapeCasts_S1023x1_S1023)
      (shapeCast _ (extractStridedSlice S1023x1 ![0, 0] (V0 (Proc.devRef .tc main_arg3)) slices_S1023x2_S1023x1_0_0) shapeCasts_S1023x1_S1023)
      (shapeCast _ (extractStridedSlice S1023x1 ![0, 0] (V0 (Proc.devRef .tc main_arg4)) slices_S1023x2_S1023x1_0_0) shapeCasts_S1023x1_S1023)
      (shapeCast _ (extractStridedSlice S1023x1 ![0, 0] (V0 (Proc.devRef .tc main_arg5)) slices_S1023x2_S1023x1_0_0) shapeCasts_S1023x1_S1023)
      (res_main_v1 V0))
    (refSpl (shapeCast _ (extractStridedSlice S1024x1 ![0, 1] (V0 (Proc.devRef .tc main_arg1)) slices_S1024x2_S1024x1_0_1) shapeCasts_S1024x1_S1024)
      (shapeCast _ (extractStridedSlice S1023x1 ![0, 1] (V0 (Proc.devRef .tc main_arg2)) slices_S1023x2_S1023x1_0_1) shapeCasts_S1023x1_S1023)
      (shapeCast _ (extractStridedSlice S1023x1 ![0, 1] (V0 (Proc.devRef .tc main_arg3)) slices_S1023x2_S1023x1_0_1) shapeCasts_S1023x1_S1023)
      (shapeCast _ (extractStridedSlice S1023x1 ![0, 1] (V0 (Proc.devRef .tc main_arg4)) slices_S1023x2_S1023x1_0_1) shapeCasts_S1023x1_S1023)
      (shapeCast _ (extractStridedSlice S1023x1 ![0, 1] (V0 (Proc.devRef .tc main_arg5)) slices_S1023x2_S1023x1_0_1) shapeCasts_S1023x1_S1023)
      (res_main_v36 V0)) := rfl

/-- … so it is at each point. -/
theorem res_at (n : Fin 4000000) : res_main_v70 V0 (ix1 n) = FloatOps.mulf
    (refSpl (shapeCast _ (extractStridedSlice S1024x1 ![0, 0] (V0 (Proc.devRef .tc main_arg1)) slices_S1024x2_S1024x1_0_0) shapeCasts_S1024x1_S1024)
      (shapeCast _ (extractStridedSlice S1023x1 ![0, 0] (V0 (Proc.devRef .tc main_arg2)) slices_S1023x2_S1023x1_0_0) shapeCasts_S1023x1_S1023)
      (shapeCast _ (extractStridedSlice S1023x1 ![0, 0] (V0 (Proc.devRef .tc main_arg3)) slices_S1023x2_S1023x1_0_0) shapeCasts_S1023x1_S1023)
      (shapeCast _ (extractStridedSlice S1023x1 ![0, 0] (V0 (Proc.devRef .tc main_arg4)) slices_S1023x2_S1023x1_0_0) shapeCasts_S1023x1_S1023)
      (shapeCast _ (extractStridedSlice S1023x1 ![0, 0] (V0 (Proc.devRef .tc main_arg5)) slices_S1023x2_S1023x1_0_0) shapeCasts_S1023x1_S1023)
      (res_main_v1 V0) (ix1 n))
    (refSpl (shapeCast _ (extractStridedSlice S1024x1 ![0, 1] (V0 (Proc.devRef .tc main_arg1)) slices_S1024x2_S1024x1_0_1) shapeCasts_S1024x1_S1024)
      (shapeCast _ (extractStridedSlice S1023x1 ![0, 1] (V0 (Proc.devRef .tc main_arg2)) slices_S1023x2_S1023x1_0_1) shapeCasts_S1023x1_S1023)
      (shapeCast _ (extractStridedSlice S1023x1 ![0, 1] (V0 (Proc.devRef .tc main_arg3)) slices_S1023x2_S1023x1_0_1) shapeCasts_S1023x1_S1023)
      (shapeCast _ (extractStridedSlice S1023x1 ![0, 1] (V0 (Proc.devRef .tc main_arg4)) slices_S1023x2_S1023x1_0_1) shapeCasts_S1023x1_S1023)
      (shapeCast _ (extractStridedSlice S1023x1 ![0, 1] (V0 (Proc.devRef .tc main_arg5)) slices_S1023x2_S1023x1_0_1) shapeCasts_S1023x1_S1023)
      (res_main_v36 V0) (ix1 n)) :=
  congrFun (res_eq V0) (ix1 n)

theorem result_at (kn co X : ℕ → ℕ → F .f32) (n : Fin 4000000) :
    result kn co X (ix1 n) = FloatOps.mulf (spl kn co 0 (X 0 n.val)) (spl kn co 1 (X 1 n.val)) := rfl

end Cert.Proof.Spline
-- ==== Proof.Horner.lean ====
/-
  Over the extended reals, Horner's rule is the sum of powers when `x` and the two leading coefficients are finite.
-/
module

public import proofs.«01_k».proof.Proof.Spec

@[expose] public section

noncomputable section

namespace Cert.Proof.Spline

open Idealize.ShloMosaic

/-- A real factor distributes over a sum with a real summand. -/
theorem real_add_mul (r x : ℝ) (b : EReal) : ((r : EReal) + b) * (x : EReal) = r * x + b * x := by
  induction b with
  | coe b => exact_mod_cast add_mul r b x
  | top =>
    rw [EReal.coe_add_top]
    rcases lt_trichotomy x 0 with h | h | h
    · rw [EReal.top_mul_coe_of_neg h, ← EReal.coe_mul, EReal.add_bot]
    · subst h; simp
    · rw [EReal.top_mul_coe_of_pos h, ← EReal.coe_mul, EReal.coe_add_top]
  | bot =>
    rw [EReal.add_bot]
    rcases lt_trichotomy x 0 with h | h | h
    · rw [EReal.bot_mul_coe_of_neg h, ← EReal.coe_mul, EReal.coe_add_top]
    · subst h; simp
    · rw [EReal.bot_mul_coe_of_pos h, ← EReal.coe_mul, EReal.add_bot]

/-- Finite: neither infinity. -/
def Finite (x : EReal) : Prop := x ≠ ⊤ ∧ x ≠ ⊥

theorem Finite.real {x : EReal} (h : Finite x) : ∃ r : ℝ, x = (r : EReal) := ⟨x.toReal, (EReal.coe_toReal h.1 h.2).symm⟩

theorem horner {c d x : EReal} (hx : Finite x) (hc : Finite c) (hd : Finite d) (a b : EReal) :
    ((d * x + c) * x + b) * x + a = a + b * x + c * (x * x) + d * (x * x * x) := by
  obtain ⟨x, rfl⟩ := hx.real
  obtain ⟨c, rfl⟩ := hc.real
  obtain ⟨d, rfl⟩ := hd.real
  have h : ((d : EReal) * x + c) * x = ((d * x + c) * x : ℝ) := by push_cast; rfl
  have h' : (((d * x + c) * x : ℝ) : EReal) * x = c * ((x : EReal) * x) + d * ((x : EReal) * x * x) := by
    rw [← EReal.coe_mul, show (d * x + c) * x * x = c * (x * x) + d * (x * x * x) by ring]
    push_cast; rfl
  rw [h, real_add_mul, h']
  abel

end Cert.Proof.Spline
-- ==== Proof.Pre.lean ====
/-
  What the precondition says, entry by entry: the knots are sorted along each column, and the points and the two
  leading coefficients are finite.
-/
module

public import proofs.«01_k».proof.Defs
public import proofs.«01_k».proof.Proof.Horner
public import Idealize.ShloMosaic.Lib.ReduceAll
public import Idealize.ShloMosaic.Lib.Affine
public import Idealize.ShloMosaic.Lib.KernelVsHost
public import Idealize.ShloMosaic.Lib.Pointwise
public import Idealize.ShloMosaic.Lib.WordArith

@[expose] public section

noncomputable section

namespace Cert.Proof.Spline

open Cert.Pre_sorted_finite
open Idealize.ShloMosaic

/-- The host's test `|x| < +∞` is that `x` is finite. -/
theorem finite_of_test {x : Ideal .f32} (h : FloatOps.cmpf .olt (FloatOps.hostAbsf x) (FloatOps.ofBits (F := Ideal) .f32 0x7F800000#32) = 1#1) : Finite x := by
  rw [← Ideal.xori_weird_eq_hostAbsf_olt_inf] at h
  have h' : IntOp.xori (BitVec.ofBool (decide ((x : EReal) = ⊤ ∨ (x : EReal) = ⊥))) 1#1 = 1#1 := h
  by_cases hx : (x : EReal) = ⊤ ∨ (x : EReal) = ⊥
  · rw [decide_eq_true hx] at h'
    exact absurd h' (by decide)
  · exact ⟨fun q => hx (.inl q), fun q => hx (.inr q)⟩

theorem pre_facts [Facts] (A0 : FVec Ideal S4000000x2 .f32) (A1 : FVec Ideal S1024x2 .f32) (A2 A3 A4 A5 : FVec Ideal S1023x2 .f32)
    (h : fn A0 A1 A2 A3 A4 A5 = fun _ => 1#1) :
    (∀ (j : Fin 1023) (e : Fin 2), (A1 (ix2 ⟨j.val, by omega⟩ e) : EReal) ≤ A1 (ix2 ⟨j.val + 1, by omega⟩ e))
      ∧ (∀ y, Finite (A0 y)) ∧ (∀ y, Finite (A4 y)) ∧ (∀ y, Finite (A5 y)) := by
  have h0 := congrFun h (fun a => a.elim0)
  dsimp only [fn, fn_part1] at h0
  obtain ⟨h0, hd⟩ := IntOp.andi_eq_one.1 h0
  obtain ⟨h0, hc⟩ := IntOp.andi_eq_one.1 h0
  obtain ⟨hk, hx⟩ := IntOp.andi_eq_one.1 h0
  refine ⟨fun j e => ?_, fun y => finite_of_test (Host.reduce_andi_all _ _ _ _ _ hx y),
    fun y => finite_of_test (Host.reduce_andi_all _ _ _ _ _ hc y), fun y => finite_of_test (Host.reduce_andi_all _ _ _ _ _ hd y)⟩
  have hj := Host.reduce_andi_all _ _ _ _ _ hk (ix2 (n0 := 1023) (n1 := 2) j e)
  have hj' := decide_eq_true_iff.1 ((WordArith.ofBool_eq_one_iff _).1 hj)
  refine (le_of_eq ?_).trans (hj'.trans (le_of_eq ?_))
  · pointwise
  · pointwise
    exact congrArg A1 (congrArg (ix2 · e) (Fin.ext (Nat.add_comm _ _)))

end Cert.Proof.Spline
-- ==== Proof.Value.lean ====
/-
  The value claim: under the precondition the kernel's result is the reference's, point by point, over the extended reals.
-/
module

public import proofs.«01_k».proof.Defs
public import proofs.«01_k».proof.Proof.Ref
public import proofs.«01_k».proof.Proof.Pre
public import proofs.«01_k».proof.Proof.Run
public import proofs.«01_k».proof.Proof.Gen.Pre_sorted_finite

@[expose] public section

noncomputable section

namespace Cert.Proof.Spline

open Cert.ReferenceIdeal Cert.ReferenceIdeal.Gen Cert.ReferenceIdeal.Value
open Idealize.ShloMosaic Idealize.ShloMosaic.StableHlo Idealize.SL.Sem

attribute [local instance] Cert.KernelIdeal.Gen.facts Cert.ReferenceIdeal.Gen.facts Cert.Pre_sorted_finite.Gen.facts

/-- One coordinate: the kernel's search and Horner's rule against the reference's count and sum of powers. -/
theorem spl_eq {kn co : ℕ → ℕ → Ideal .f32} {d : ℕ} {x : Ideal .f32} (hk : ∀ j < 1023, kn d j ≤ kn d (j + 1)) (hx : Finite x)
    (hc : ∀ k < 1023, Finite (co 2 (d * 1023 + k))) (hd : ∀ k < 1023, Finite (co 3 (d * 1023 + k))) :
    spl kn co d x = powers (co 0 (d * 1023 + place (kn d) x)) (co 1 (d * 1023 + place (kn d) x))
      (co 2 (d * 1023 + place (kn d) x)) (co 3 (d * 1023 + place (kn d) x)) x := by
  unfold spl
  rw [count_sorted hk x]
  exact horner hx (hc _ (place_lt _ _)) (hd _ (place_lt _ _)) _ _

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- A coefficient as the host lays it out, in the argument it comes from. -/
theorem CC_eq {k e : ℕ} (hk : k < 1023) (he : e < 2) :
    CC m c 0 (e * 1023 + k) = at2 (R := 1023) (by decide) (m ((c.tc : Thread Cert.KernelIdeal.nD Cert.KernelIdeal.τ).loc Cert.KernelIdeal.main_arg2)) k e
    ∧ CC m c 1 (e * 1023 + k) = at2 (R := 1023) (by decide) (m ((c.tc : Thread Cert.KernelIdeal.nD Cert.KernelIdeal.τ).loc Cert.KernelIdeal.main_arg3)) k e
    ∧ CC m c 2 (e * 1023 + k) = at2 (R := 1023) (by decide) (m ((c.tc : Thread Cert.KernelIdeal.nD Cert.KernelIdeal.τ).loc Cert.KernelIdeal.main_arg4)) k e
    ∧ CC m c 3 (e * 1023 + k) = at2 (R := 1023) (by decide) (m ((c.tc : Thread Cert.KernelIdeal.nD Cert.KernelIdeal.τ).loc Cert.KernelIdeal.main_arg5)) k e := by
  have h1 : e * 1023 + k < 2046 := by omega
  have h2 : (e * 1023 + k) % 1023 = k := by omega
  have h3 : (e * 1023 + k) / 1023 = e := by omega
  unfold CC
  rw [if_pos h1, if_pos h1, if_pos h1, if_pos h1, h2, h3]
  exact ⟨rfl, rfl, rfl, rfl⟩

/-- One coordinate of the kernel's result at one point is the reference's. -/
theorem coord (hpre : Cert.Pre_KernelIdeal_sorted_finite m) {e : ℕ} (he : e < 2) (n : Fin 4000000)
    {kc : FVec Ideal S1024 .f32} {ac bc cc dc : FVec Ideal S1023 .f32} {xc : FVec Ideal S4000000 .f32}
    (hkc : ∀ j : Fin 1024, kc (ix1 j) = KK m c e j.val) (hxc : xc (ix1 n) = XX m c e n.val)
    (ha : ∀ k : Fin 1023, ac (ix1 k) = at2 (R := 1023) (by decide) (m ((c.tc : Thread Cert.KernelIdeal.nD Cert.KernelIdeal.τ).loc Cert.KernelIdeal.main_arg2)) k.val e)
    (hb : ∀ k : Fin 1023, bc (ix1 k) = at2 (R := 1023) (by decide) (m ((c.tc : Thread Cert.KernelIdeal.nD Cert.KernelIdeal.τ).loc Cert.KernelIdeal.main_arg3)) k.val e)
    (hc : ∀ k : Fin 1023, cc (ix1 k) = at2 (R := 1023) (by decide) (m ((c.tc : Thread Cert.KernelIdeal.nD Cert.KernelIdeal.τ).loc Cert.KernelIdeal.main_arg4)) k.val e)
    (hd : ∀ k : Fin 1023, dc (ix1 k) = at2 (R := 1023) (by decide) (m ((c.tc : Thread Cert.KernelIdeal.nD Cert.KernelIdeal.τ).loc Cert.KernelIdeal.main_arg5)) k.val e) :
    refSpl kc ac bc cc dc xc (ix1 n) = spl (KK m c) (CC m c) e (XX m c e n.val) := by
  obtain ⟨hs, hx, hfc, hfd⟩ := pre_facts _ _ _ _ _ _ (hpre c)
  have hkn : ∀ j < 1023, KK m c e j ≤ KK m c e (j + 1) := fun j hj =>
    (le_of_eq (at2_eq (F := Ideal) (R := 1024) (by decide) _ rfl rfl).symm).trans ((hs ⟨j, hj⟩ ⟨e, he⟩).trans (le_of_eq (at2_eq (F := Ideal) (R := 1024) (by decide) _ rfl rfl)))
  refine (refSpl_at kc ac bc cc dc xc (KK m c e) hkc n).trans ?_
  rw [ha, hb, hc, hd, hxc, spl_eq (x := XX m c e n.val) hkn (hx _) (fun k hk => by rw [(CC_eq m c hk he).2.2.1]; exact hfc _)
    (fun k hk => by rw [(CC_eq m c hk he).2.2.2]; exact hfd _)]
  obtain ⟨q0, q1, q2, q3⟩ := CC_eq m c (place_lt (KK m c e) (XX m c e n.val)) he
  rw [q0, q1, q2, q3]

theorem value (hpre : Cert.Pre_KernelIdeal_sorted_finite m)
    (h0 : m' ((c.tc : Thread nD τ).loc main_arg0) = m ((c.tc : Thread Cert.KernelIdeal.nD Cert.KernelIdeal.τ).loc Cert.KernelIdeal.main_arg0))
    (h1 : m' ((c.tc : Thread nD τ).loc main_arg1) = m ((c.tc : Thread Cert.KernelIdeal.nD Cert.KernelIdeal.τ).loc Cert.KernelIdeal.main_arg1))
    (h2 : m' ((c.tc : Thread nD τ).loc main_arg2) = m ((c.tc : Thread Cert.KernelIdeal.nD Cert.KernelIdeal.τ).loc Cert.KernelIdeal.main_arg2))
    (h3 : m' ((c.tc : Thread nD τ).loc main_arg3) = m ((c.tc : Thread Cert.KernelIdeal.nD Cert.KernelIdeal.τ).loc Cert.KernelIdeal.main_arg3))
    (h4 : m' ((c.tc : Thread nD τ).loc main_arg4) = m ((c.tc : Thread Cert.KernelIdeal.nD Cert.KernelIdeal.τ).loc Cert.KernelIdeal.main_arg4))
    (h5 : m' ((c.tc : Thread nD τ).loc main_arg5) = m ((c.tc : Thread Cert.KernelIdeal.nD Cert.KernelIdeal.τ).loc Cert.KernelIdeal.main_arg5)) :
    res_main_v70 (launchContents m' c) = result (KK m c) (CC m c) (XX m c) := by
  have hcol : ∀ {R e : ℕ} (hR : 0 < R) (he : e < 2) {x x' : FVec Ideal ⟨2, ![R, 2]⟩ .f32} (_ : x' = x) (hs : (⟨2, ![R, 2]⟩ : Shape).Slices ![0, e] ⟨2, ![R, 1]⟩)
      (hc : (⟨2, ![R, 1]⟩ : Shape).ShapeCasts ⟨1, ![R]⟩) (j : Fin R),
      shapeCast _ (extractStridedSlice ⟨2, ![R, 1]⟩ ![0, e] x' hs) hc (ix1 j) = at2 hR x j.val e := by
    intro R e hR he x x' h hs hc j
    subst h
    exact col_at hR he x' hs hc j
  funext y
  obtain ⟨n, rfl⟩ : ∃ n : Fin 4000000, y = ix1 n := ⟨y 0, ValueIdx.eq_ix1 y⟩
  refine (res_at (launchContents m' c) n).trans (Eq.trans ?_ (result_at (KK m c) (CC m c) (XX m c) n).symm)
  exact congrArg₂ FloatOps.mulf
    (coord m c hpre (by decide) n (hcol (by decide) (by decide) h1 _ _) (hcol (by decide) (by decide) h0 _ _ n) (hcol (by decide) (by decide) h2 _ _) (hcol (by decide) (by decide) h3 _ _) (hcol (by decide) (by decide) h4 _ _) (hcol (by decide) (by decide) h5 _ _))
    (coord m c hpre (by decide) n (hcol (by decide) (by decide) h1 _ _) (hcol (by decide) (by decide) h0 _ _ n) (hcol (by decide) (by decide) h2 _ _) (hcol (by decide) (by decide) h3 _ _) (hcol (by decide) (by decide) h4 _ _) (hcol (by decide) (by decide) h5 _ _))

/-- The kernel's result is the reference's, under the precondition. -/
theorem algebraic : Cert.algebraic_KernelIdeal_ReferenceIdeal_pre_sorted_finite := fun m ρ m' ρ' hpre hargs =>
  ⟨fun c => result (KK m c) (CC m c) (XX m c),
    (θ_run Cert.KernelIdeal.defs _ _).mono (fun _ h c => ⟨(h.1 c).2, (h.1 c).1⟩) (run_main (F := Ideal) m ρ),
    (θ_run Cert.ReferenceIdeal.defs _ _).mono (fun _ h c => ⟨(h c).1.trans (value m m' c hpre (hargs c).1 (hargs c).2.1 (hargs c).2.2.1
      (hargs c).2.2.2.1 (hargs c).2.2.2.2.1 (hargs c).2.2.2.2.2), (h c).2⟩) (Cert.ReferenceIdeal.Value.run (F := Ideal) m' ρ')⟩

end Cert.Proof.Spline
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_sorted_finite
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sorted_finite.Gen.facts,
  Spline.frame_kernel, Spline.frame_ideal, fun m ρ _ => Spline.frame_ideal m ρ trivial,
  Spline.frame_reference, fun m ρ _ => Spline.frame_reference m ρ trivial, trivial, Spline.algebraic⟩

end Cert.Proof

end
